-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_attn [hPre_finite_attn : Cert.Pre_finite_attn.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_attn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_attn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_attn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite_attn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_attn [hPre_finite_attn : Cert.Pre_finite_attn.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_attn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_attn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_attn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite_attn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_attn [hKernel4Ideal : Cert.Kernel4Ideal.Facts] [hPre_finite_attn : Cert.Pre_finite_attn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_attn m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_attn [hReference4Ideal : Cert.Reference4Ideal.Facts] [hPre_finite_attn : Cert.Pre_finite_attn.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_attn m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  IdealRules.named_const.Statement Cert.Kernel4Ideal.κ "scale" .f32 0x3DD53B95#32 (((Real.sqrt 192)⁻¹ * (Real.log 2)⁻¹ : ℝ) : EReal)

def algebraic_Kernel4Ideal_Reference4Ideal_pre_finite_attn [hKernel4Ideal : Cert.Kernel4Ideal.Facts] [hReference4Ideal : Cert.Reference4Ideal.Facts] [hPre_finite_attn : Cert.Pre_finite_attn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_attn m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_attn : Cert.Pre_finite_attn.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_attn (hKernel4Ideal := hKernel4Ideal) (hPre_finite_attn := hPre_finite_attn)
    ∧ quiescent_Reference4Ideal (hReference4Ideal := hReference4Ideal)
    ∧ quiescent_Reference4Ideal_pre_finite_attn (hReference4Ideal := hReference4Ideal) (hPre_finite_attn := hPre_finite_attn)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_attn (hKernel4Ideal := hKernel4Ideal) (hReference4Ideal := hReference4Ideal) (hPre_finite_attn := hPre_finite_attn)
-- ==== Pre_finite_attn.lean ====
abbrev S4x2048x8x512 : Shape := ⟨4, ![4, 2048, 8, 512]⟩
abbrev S4x2048x8x64 : Shape := ⟨4, ![4, 2048, 8, 64]⟩
abbrev S4x2048x512 : Shape := ⟨3, ![4, 2048, 512]⟩
abbrev S4x2048x64 : Shape := ⟨3, ![4, 2048, 64]⟩
abbrev S1x512x2048 : Shape := ⟨3, ![1, 512, 2048]⟩
abbrev S_ : Shape := ⟨0, ![]⟩

class Facts : Prop where
  bcast_S_S4x2048x8x512 : S_.BroadcastsInDim S4x2048x8x512 (![] : Fin 0 → Fin S4x2048x8x512.rank)
  bcast_S_S4x2048x8x64 : S_.BroadcastsInDim S4x2048x8x64 (![] : Fin 0 → Fin S4x2048x8x64.rank)
  bcast_S_S4x2048x512 : S_.BroadcastsInDim S4x2048x512 (![] : Fin 0 → Fin S4x2048x512.rank)
  bcast_S_S4x2048x64 : S_.BroadcastsInDim S4x2048x64 (![] : Fin 0 → Fin S4x2048x64.rank)

variable [Facts]

def fn {F : FTy → Type} [FloatOps F] (main_arg0 : FVec F S4x2048x8x512 .bf16) (main_arg1 : FVec F S4x2048x8x64 .bf16) (main_arg2 : FVec F S4x2048x512 .bf16) (main_arg3 : FVec F S4x2048x64 .bf16) (main_arg4 : FVec F S1x512x2048 .f32) : IVec S4x2048x8x512 1 × IVec S4x2048x8x64 1 × IVec S4x2048x512 1 × IVec S4x2048x64 1 :=
  let main_v0 : FVec F S4x2048x8x512 .bf16 := Host.absf main_arg0
  let main_cst : FVec F S_ .bf16 := constant S_ .bf16 0x7F80#16
  let main_v1 : FVec F S4x2048x8x512 .bf16 := broadcastInDim S4x2048x8x512 ![] bcast_S_S4x2048x8x512 main_cst
  let main_v2 : IVec S4x2048x8x512 1 := cmpf .olt main_v0 main_v1
  let main_v3 : FVec F S4x2048x8x64 .bf16 := Host.absf main_arg1
  let main_cst_0 : FVec F S_ .bf16 := constant S_ .bf16 0x7F80#16
  let main_v4 : FVec F S4x2048x8x64 .bf16 := broadcastInDim S4x2048x8x64 ![] bcast_S_S4x2048x8x64 main_cst_0
  let main_v5 : IVec S4x2048x8x64 1 := cmpf .olt main_v3 main_v4
  let main_v6 : FVec F S4x2048x512 .bf16 := Host.absf main_arg2
  let main_cst_1 : FVec F S_ .bf16 := constant S_ .bf16 0x7F80#16
  let main_v7 : FVec F S4x2048x512 .bf16 := broadcastInDim S4x2048x512 ![] bcast_S_S4x2048x512 main_cst_1
  let main_v8 : IVec S4x2048x512 1 := cmpf .olt main_v6 main_v7
  let main_v9 : FVec F S4x2048x64 .bf16 := Host.absf main_arg3
  let main_cst_2 : FVec F S_ .bf16 := constant S_ .bf16 0x7F80#16
  let main_v10 : FVec F S4x2048x64 .bf16 := broadcastInDim S4x2048x64 ![] bcast_S_S4x2048x64 main_cst_2
  let main_v11 : IVec S4x2048x64 1 := cmpf .olt main_v9 main_v10
  (main_v2, main_v5, main_v8, main_v11)
-- ==== Kernel.lean ====
abbrev S4x2048x2048 : Shape := ⟨3, ![4, 2048, 2048]⟩
abbrev S4x12288 : Shape := ⟨2, ![4, 12288]⟩
abbrev S1x2048 : Shape := ⟨2, ![1, 2048]⟩
abbrev S1x2048x8192 : Shape := ⟨3, ![1, 2048, 8192]⟩
abbrev S1x8192x2048 : Shape := ⟨3, ![1, 8192, 2048]⟩
abbrev S4x1x12288 : Shape := ⟨3, ![4, 1, 12288]⟩
abbrev S2048x8192 : Shape := ⟨2, ![2048, 8192]⟩
abbrev S8192x2048 : Shape := ⟨2, ![8192, 2048]⟩
abbrev S1x512x2048 : Shape := ⟨3, ![1, 512, 2048]⟩
abbrev S1x1x2048 : Shape := ⟨3, ![1, 1, 2048]⟩
abbrev S2048x1024 : Shape := ⟨2, ![2048, 1024]⟩
abbrev S1024x2048 : Shape := ⟨2, ![1024, 2048]⟩
abbrev S512x2048 : Shape := ⟨2, ![512, 2048]⟩
abbrev S1x512 : Shape := ⟨2, ![1, 512]⟩
abbrev S1x512x1 : Shape := ⟨3, ![1, 512, 1]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S1x2048, .f32⟩
  | .hbm, ⟨3, _⟩ => ⟨S1x2048, .f32⟩
  | .hbm, ⟨4, _⟩ => ⟨S1x2048x8192, .f32⟩
  | .hbm, ⟨5, _⟩ => ⟨S1x8192x2048, .f32⟩
  | .hbm, ⟨6, _⟩ => ⟨S4x1x12288, .f32⟩
  | .hbm, ⟨7, _⟩ => ⟨S2048x8192, .f32⟩
  | .hbm, ⟨8, _⟩ => ⟨S2048x8192, .bf16⟩
  | .hbm, ⟨9, _⟩ => ⟨S8192x2048, .f32⟩
  | .hbm, ⟨10, _⟩ => ⟨S8192x2048, .bf16⟩
  | .hbm, ⟨11, _⟩ => ⟨S4x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048, .f32⟩
  | .local _ .vmem, ⟨10, _⟩ => ⟨S2048x1024, .bf16⟩
  | .local _ .vmem, ⟨11, _⟩ => ⟨S2048x1024, .bf16⟩
  | .local _ .vmem, ⟨12, _⟩ => ⟨S1024x2048, .bf16⟩
  | .local _ .vmem, ⟨13, _⟩ => ⟨S1024x2048, .bf16⟩
  | .local _ .vmem, ⟨14, _⟩ => ⟨S1x512x2048, .f32⟩
  | .local _ .vmem, ⟨15, _⟩ => ⟨S1x512x2048, .f32⟩
  | .local _ .vmem, ⟨16, _⟩ => ⟨S512x2048, .bf16⟩
  | .local _ .vmem, ⟨17, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S4x2048x2048 : Shape := ⟨3, ![4, 2048, 2048]⟩
abbrev S4x12288 : Shape := ⟨2, ![4, 12288]⟩
abbrev S1x2048 : Shape := ⟨2, ![1, 2048]⟩
abbrev S1x2048x8192 : Shape := ⟨3, ![1, 2048, 8192]⟩
abbrev S1x8192x2048 : Shape := ⟨3, ![1, 8192, 2048]⟩
abbrev S4x2048 : Shape := ⟨2, ![4, 2048]⟩
abbrev S4x1x2048 : Shape := ⟨3, ![4, 1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S2048x8192 : Shape := ⟨2, ![2048, 8192]⟩
abbrev S4x2048x8192 : Shape := ⟨3, ![4, 2048, 8192]⟩
abbrev S8192x2048 : Shape := ⟨2, ![8192, 2048]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S1x2048, .f32⟩
  | .hbm, ⟨3, _⟩ => ⟨S1x2048, .f32⟩
  | .hbm, ⟨4, _⟩ => ⟨S1x2048x8192, .f32⟩
  | .hbm, ⟨5, _⟩ => ⟨S1x8192x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x1x2048, .f32⟩
  | .hbm, ⟨37, _⟩ => ⟨S4x1x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S2048x8192, .f32⟩
  | .hbm, ⟨43, _⟩ => ⟨S4x2048x8192, .f32⟩
  | .hbm, ⟨44, _⟩ => ⟨S_, .f32⟩
  | .hbm, ⟨45, _⟩ => ⟨S4x2048x8192, .f32⟩
  | .hbm, ⟨46, _⟩ => ⟨S4x2048x8192, .f32⟩
  | .hbm, ⟨47, _⟩ => ⟨S4x2048x8192, .f32⟩
  | .hbm, ⟨48, _⟩ => ⟨S8192x2048, .f32⟩
  | .hbm, ⟨49, _⟩ => ⟨S4x2048x2048, .f32⟩
  | .hbm, ⟨50, _⟩ => ⟨S2048, .f32⟩
  | .hbm, ⟨51, _⟩ => ⟨S4x2048x2048, .f32⟩
  | .hbm, ⟨52, _⟩ => ⟨S_, .f32⟩
  | .hbm, ⟨53, _⟩ => ⟨S4x2048, .f32⟩
  | .hbm, ⟨54, _⟩ => ⟨S4x2048x1, .f32⟩
  | .hbm, ⟨55, _⟩ => ⟨S_, .f32⟩
  | .hbm, ⟨56, _⟩ => ⟨S4x2048x1, .f32⟩
  | .hbm, ⟨57, _⟩ => ⟨S4x2048x1, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S4x2048x1, .f32⟩
  | .hbm, ⟨62, _⟩ => ⟨S4x2048x2048, .f32⟩
  | .hbm, ⟨63, _⟩ => ⟨S4x2048x2048, .f32⟩
  | .hbm, ⟨64, _⟩ => ⟨S1x1x2048, .f32⟩
  | .hbm, ⟨65, _⟩ => ⟨S4x2048x2048, .f32⟩
  | .hbm, ⟨66, _⟩ => ⟨S4x2048x2048, .f32⟩
  | .hbm, ⟨67, _⟩ => ⟨S4x2048x2048, .f32⟩
  | .hbm, ⟨68, _⟩ => ⟨S4x2048x2048, .f32⟩
  | .hbm, ⟨69, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_cst : Ref sig .tc := ⟨.hbm, 44, rfl⟩
abbrev main_call0_v0 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Kernel2.lean ====
abbrev S4x2048x2048 : Shape := ⟨3, ![4, 2048, 2048]⟩
abbrev S4x12288 : Shape := ⟨2, ![4, 12288]⟩
abbrev S1x2048 : Shape := ⟨2, ![1, 2048]⟩
abbrev S1x2048x9280 : Shape := ⟨3, ![1, 2048, 9280]⟩
abbrev S4x1x12288 : Shape := ⟨3, ![4, 1, 12288]⟩
abbrev S2048x9280 : Shape := ⟨2, ![2048, 9280]⟩
abbrev S9280x2048 : Shape := ⟨2, ![9280, 2048]⟩
abbrev S8192x8192 : Shape := ⟨2, ![8192, 8192]⟩
abbrev S1x512x2048 : Shape := ⟨3, ![1, 512, 2048]⟩
abbrev S1x1x2048 : Shape := ⟨3, ![1, 1, 2048]⟩
abbrev S2048x2048 : Shape := ⟨2, ![2048, 2048]⟩
abbrev S512x2048 : Shape := ⟨2, ![512, 2048]⟩
abbrev S1x512 : Shape := ⟨2, ![1, 512]⟩
abbrev S1x512x1 : Shape := ⟨3, ![1, 512, 1]⟩

abbrev nBuf : Space → Nat
  | .hbm => 9
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S1x2048, .f32⟩
  | .hbm, ⟨3, _⟩ => ⟨S1x2048x9280, .f32⟩
  | .hbm, ⟨4, _⟩ => ⟨S4x1x12288, .f32⟩
  | .hbm, ⟨5, _⟩ => ⟨S2048x9280, .f32⟩
  | .hbm, ⟨6, _⟩ => ⟨S9280x2048, .f32⟩
  | .hbm, ⟨7, _⟩ => ⟨S9280x2048, .bf16⟩
  | .hbm, ⟨8, _⟩ => ⟨S8192x8192, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x2048, .bf16⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  let c2_i32 : BitVec 32 := 2#32
  let v1 : BitVec 1 := Scalar.cmpi .sge arg2 c2_i32
  let c1088_i32 : BitVec 32 := 1088#32
  let c0_i32 : BitVec 32 := 0#32
  let v2 : BitVec 32 := Scalar.select v1 c1088_i32 c0_i32
  let v3 : BitVec 32 := Scalar.addi v0 v2
  v3
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg2 c2048_i32
  let c2_i32 : BitVec 32 := 2#32
  let v1 : BitVec 1 := Scalar.cmpi .sge arg2 c2_i32
  let c1088_i32 : BitVec 32 := 1088#32
  let c0_i32 : BitVec 32 := 0#32
  let v2 : BitVec 32 := Scalar.select v1 c1088_i32 c0_i32
  let v3 : BitVec 32 := Scalar.addi v0 v2
  let v4 : BitVec 32 := v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S4x2048x2048 : Shape := ⟨3, ![4, 2048, 2048]⟩
abbrev S4x12288 : Shape := ⟨2, ![4, 12288]⟩
abbrev S1x2048 : Shape := ⟨2, ![1, 2048]⟩
abbrev S1x2048x9280 : Shape := ⟨3, ![1, 2048, 9280]⟩
abbrev S4x2048 : Shape := ⟨2, ![4, 2048]⟩
abbrev S4x1x2048 : Shape := ⟨3, ![4, 1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S2048x9280 : Shape := ⟨2, ![2048, 9280]⟩
abbrev S4x2048x9280 : Shape := ⟨3, ![4, 2048, 9280]⟩
abbrev S4x2048x1024 : Shape := ⟨3, ![4, 2048, 1024]⟩
abbrev S4x2048x512 : Shape := ⟨3, ![4, 2048, 512]⟩
abbrev S4x2048x64 : Shape := ⟨3, ![4, 2048, 64]⟩
abbrev S4x2048x8192 : Shape := ⟨3, ![4, 2048, 8192]⟩
abbrev S8192x8192 : Shape := ⟨2, ![8192, 8192]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S1x2048, .f32⟩
  | .hbm, ⟨3, _⟩ => ⟨S1x2048x9280, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S2048x9280, .f32⟩
  | .hbm, ⟨41, _⟩ => ⟨S4x2048x9280, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x512, .f32⟩
  | .hbm, ⟨47, _⟩ => ⟨S4x2048x512, .f32⟩
  | .hbm, ⟨48, _⟩ => ⟨S4x2048x64, .f32⟩
  | .hbm, ⟨49, _⟩ => ⟨S4x2048x2048, .f32⟩
  | .hbm, ⟨50, _⟩ => ⟨S4x2048x2048, .f32⟩
  | .hbm, ⟨51, _⟩ => ⟨S4x2048x8192, .f32⟩
  | .hbm, ⟨52, _⟩ => ⟨S8192x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== Kernel3.lean ====
abbrev S8192x1024 : Shape := ⟨2, ![8192, 1024]⟩
abbrev S8192x8192 : Shape := ⟨2, ![8192, 8192]⟩
abbrev S4x2048x2048 : Shape := ⟨3, ![4, 2048, 2048]⟩
abbrev S4x12288 : Shape := ⟨2, ![4, 12288]⟩
abbrev S1x2048 : Shape := ⟨2, ![1, 2048]⟩
abbrev S1x1024x2048 : Shape := ⟨3, ![1, 1024, 2048]⟩
abbrev S1x2048x2048 : Shape := ⟨3, ![1, 2048, 2048]⟩
abbrev S4x1x12288 : Shape := ⟨3, ![4, 1, 12288]⟩
abbrev S1024x2048 : Shape := ⟨2, ![1024, 2048]⟩
abbrev S2048x2048 : Shape := ⟨2, ![2048, 2048]⟩
abbrev S256x1024 : Shape := ⟨2, ![256, 1024]⟩
abbrev S256x2048 : Shape := ⟨2, ![256, 2048]⟩
abbrev S1x256x2048 : Shape := ⟨3, ![1, 256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 17
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x8192, .f32⟩
  | .hbm, ⟨3, _⟩ => ⟨S4x2048x2048, .f32⟩
  | .hbm, ⟨4, _⟩ => ⟨S4x12288, .f32⟩
  | .hbm, ⟨5, _⟩ => ⟨S1x2048, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S4x1x12288, .f32⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S2048x2048, .f32⟩
  | .hbm, ⟨15, _⟩ => ⟨S2048x2048, .bf16⟩
  | .hbm, ⟨16, _⟩ => ⟨S4x2048x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S1024x2048, .bf16⟩
  | .local _ .vmem, ⟨14, _⟩ => ⟨S1024x2048, .bf16⟩
  | .local _ .vmem, ⟨15, _⟩ => ⟨S2048x2048, .bf16⟩
  | .local _ .vmem, ⟨16, _⟩ => ⟨S1x256x2048, .f32⟩
  | .local _ .vmem, ⟨17, _⟩ => ⟨S1x256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S8192x1024 : Shape := ⟨2, ![8192, 1024]⟩
abbrev S8192x8192 : Shape := ⟨2, ![8192, 8192]⟩
abbrev S4x2048x2048 : Shape := ⟨3, ![4, 2048, 2048]⟩
abbrev S4x12288 : Shape := ⟨2, ![4, 12288]⟩
abbrev S1x2048 : Shape := ⟨2, ![1, 2048]⟩
abbrev S1x1024x2048 : Shape := ⟨3, ![1, 1024, 2048]⟩
abbrev S1x2048x2048 : Shape := ⟨3, ![1, 2048, 2048]⟩
abbrev S4x2048 : Shape := ⟨2, ![4, 2048]⟩
abbrev S4x1x2048 : Shape := ⟨3, ![4, 1, 2048]⟩
abbrev S8192x2048 : Shape := ⟨2, ![8192, 2048]⟩
abbrev S4x2048x1024 : Shape := ⟨3, ![4, 2048, 1024]⟩
abbrev S1024x2048 : Shape := ⟨2, ![1024, 2048]⟩
abbrev S_ : Shape := ⟨0, ![]⟩
abbrev S2048x2048 : Shape := ⟨2, ![2048, 2048]⟩
abbrev S2048 : Shape := ⟨1, ![2048]⟩
abbrev S4x2048x1 : Shape := ⟨3, ![4, 2048, 1]⟩
abbrev S1x1x2048 : Shape := ⟨3, ![1, 1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x8192, .f32⟩
  | .hbm, ⟨3, _⟩ => ⟨S4x2048x2048, .f32⟩
  | .hbm, ⟨4, _⟩ => ⟨S4x12288, .f32⟩
  | .hbm, ⟨5, _⟩ => ⟨S1x2048, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S4x1x2048, .f32⟩
  | .hbm, ⟨19, _⟩ => ⟨S4x1x2048, .f32⟩
  | .hbm, ⟨20, _⟩ => ⟨S4x1x2048, .f32⟩
  | .hbm, ⟨21, _⟩ => ⟨S8192x2048, .f32⟩
  | .hbm, ⟨22, _⟩ => ⟨S4x2048x2048, .f32⟩
  | .hbm, ⟨23, _⟩ => ⟨S8192x2048, .f32⟩
  | .hbm, ⟨24, _⟩ => ⟨S4x2048x2048, .f32⟩
  | .hbm, ⟨25, _⟩ => ⟨S8192x1024, .f32⟩
  | .hbm, ⟨26, _⟩ => ⟨S4x2048x1024, .f32⟩
  | .hbm, ⟨27, _⟩ => ⟨S1024x2048, .f32⟩
  | .hbm, ⟨28, _⟩ => ⟨S4x2048x2048, .f32⟩
  | .hbm, ⟨29, _⟩ => ⟨S8192x1024, .f32⟩
  | .hbm, ⟨30, _⟩ => ⟨S4x2048x1024, .f32⟩
  | .hbm, ⟨31, _⟩ => ⟨S1024x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x2048x2048, .f32⟩
  | .hbm, ⟨46, _⟩ => ⟨S4x2048x2048, .f32⟩
  | .hbm, ⟨47, _⟩ => ⟨S_, .f32⟩
  | .hbm, ⟨48, _⟩ => ⟨S4x2048x2048, .f32⟩
  | .hbm, ⟨49, _⟩ => ⟨S4x2048x2048, .f32⟩
  | .hbm, ⟨50, _⟩ => ⟨S4x2048x2048, .f32⟩
  | .hbm, ⟨51, _⟩ => ⟨S4x2048x2048, .f32⟩
  | .hbm, ⟨52, _⟩ => ⟨S2048x2048, .f32⟩
  | .hbm, ⟨53, _⟩ => ⟨S4x2048x2048, .f32⟩
  | .hbm, ⟨54, _⟩ => ⟨S2048, .f32⟩
  | .hbm, ⟨55, _⟩ => ⟨S4x2048x2048, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S_, .f32⟩
  | .hbm, ⟨63, _⟩ => ⟨S4x2048x1, .f32⟩
  | .hbm, ⟨64, _⟩ => ⟨S4x2048x1, .f32⟩
  | .hbm, ⟨65, _⟩ => ⟨S4x2048x1, .f32⟩
  | .hbm, ⟨66, _⟩ => ⟨S4x2048x2048, .f32⟩
  | .hbm, ⟨67, _⟩ => ⟨S4x2048x2048, .f32⟩
  | .hbm, ⟨68, _⟩ => ⟨S1x1x2048, .f32⟩
  | .hbm, ⟨69, _⟩ => ⟨S4x2048x2048, .f32⟩
  | .hbm, ⟨70, _⟩ => ⟨S4x2048x2048, .f32⟩
  | .hbm, ⟨71, _⟩ => ⟨S4x2048x2048, .f32⟩
  | .hbm, ⟨72, _⟩ => ⟨S4x2048x2048, .f32⟩
  | .hbm, ⟨73, _⟩ => ⟨S4x2048x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Kernel4.lean ====
abbrev S4x2048x8x512 : Shape := ⟨4, ![4, 2048, 8, 512]⟩
abbrev S4x2048x8x64 : Shape := ⟨4, ![4, 2048, 8, 64]⟩
abbrev S4x2048x512 : Shape := ⟨3, ![4, 2048, 512]⟩
abbrev S4x2048x64 : Shape := ⟨3, ![4, 2048, 64]⟩
abbrev S1x512x2048 : Shape := ⟨3, ![1, 512, 2048]⟩
abbrev S512x2048 : Shape := ⟨2, ![512, 2048]⟩
abbrev S512x8x256 : Shape := ⟨3, ![512, 8, 256]⟩
abbrev S512x8x128 : Shape := ⟨3, ![512, 8, 128]⟩
abbrev S8x512x128 : Shape := ⟨3, ![8, 512, 128]⟩
abbrev S_ : Shape := ⟨0, ![]⟩
abbrev S4x2048x8x640 : Shape := ⟨4, ![4, 2048, 8, 640]⟩
abbrev S4x2048x640 : Shape := ⟨3, ![4, 2048, 640]⟩
abbrev S8192x5120 : Shape := ⟨2, ![8192, 5120]⟩
abbrev S8192x640 : Shape := ⟨2, ![8192, 640]⟩
abbrev S4x2048x5120 : Shape := ⟨3, ![4, 2048, 5120]⟩
abbrev S4x2048x1024 : Shape := ⟨3, ![4, 2048, 1024]⟩
abbrev S1x512x5120 : Shape := ⟨3, ![1, 512, 5120]⟩
abbrev S1x2048x640 : Shape := ⟨3, ![1, 2048, 640]⟩
abbrev S1x512x1024 : Shape := ⟨3, ![1, 512, 1024]⟩
abbrev S512x512 : Shape := ⟨2, ![512, 512]⟩
abbrev S512x128 : Shape := ⟨2, ![512, 128]⟩
abbrev S1x512x640 : Shape := ⟨3, ![1, 512, 640]⟩
abbrev S512x640 : Shape := ⟨2, ![512, 640]⟩
abbrev S512 : Shape := ⟨1, ![512]⟩
abbrev S512x1 : Shape := ⟨2, ![512, 1]⟩
abbrev S256x640 : Shape := ⟨2, ![256, 640]⟩
abbrev S256x256 : Shape := ⟨2, ![256, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x512x128 : Shape := ⟨3, ![1, 512, 128]⟩

abbrev nBuf : Space → Nat
  | .hbm => 21
  | .vmem => 31
  | .smem => 0
  | _ => 0

abbrev bufTy : (tb : Table) → Fin (tcTables nBuf tb) → BufTy
  | .hbm, ⟨0, _⟩ => ⟨S4x2048x8x512, .bf16⟩
  | .hbm, ⟨1, _⟩ => ⟨S4x2048x8x64, .bf16⟩
  | .hbm, ⟨2, _⟩ => ⟨S4x2048x512, .bf16⟩
  | .hbm, ⟨3, _⟩ => ⟨S4x2048x64, .bf16⟩
  | .hbm, ⟨4, _⟩ => ⟨S1x512x2048, .f32⟩
  | .hbm, ⟨5, _⟩ => ⟨S512x2048, .f32⟩
  | .hbm, ⟨6, _⟩ => ⟨S512x8x256, .f32⟩
  | .hbm, ⟨7, _⟩ => ⟨S512x8x128, .f32⟩
  | .hbm, ⟨8, _⟩ => ⟨S8x512x128, .f32⟩
  | .hbm, ⟨9, _⟩ => ⟨S8x512x128, .bf16⟩
  | .hbm, ⟨10, _⟩ => ⟨S_, .bf16⟩
  | .hbm, ⟨11, _⟩ => ⟨S4x2048x8x64, .bf16⟩
  | .hbm, ⟨12, _⟩ => ⟨S4x2048x8x640, .bf16⟩
  | .hbm, ⟨13, _⟩ => ⟨S_, .bf16⟩
  | .hbm, ⟨14, _⟩ => ⟨S4x2048x64, .bf16⟩
  | .hbm, ⟨15, _⟩ => ⟨S4x2048x640, .bf16⟩
  | .hbm, ⟨16, _⟩ => ⟨S8192x5120, .bf16⟩
  | .hbm, ⟨17, _⟩ => ⟨S8192x640, .bf16⟩
  | .hbm, ⟨18, _⟩ => ⟨S4x2048x5120, .bf16⟩
  | .hbm, ⟨19, _⟩ => ⟨S4x2048x640, .bf16⟩
  | .hbm, ⟨20, _⟩ => ⟨S4x2048x1024, .bf16⟩
  | .local _ .vmem, ⟨0, _⟩ => ⟨S1x512x5120, .bf16⟩
  | .local _ .vmem, ⟨1, _⟩ => ⟨S1x512x5120, .bf16⟩
  | .local _ .vmem, ⟨2, _⟩ => ⟨S1x2048x640, .bf16⟩
  | .local _ .vmem, ⟨3, _⟩ => ⟨S1x2048x640, .bf16⟩
  | .local _ .vmem, ⟨4, _⟩ => ⟨S8x512x128, .bf16⟩
  | .local _ .vmem, ⟨5, _⟩ => ⟨S1x512x1024, .bf16⟩
  | .local _ .vmem, ⟨6, _⟩ => ⟨S1x512x1024, .bf16⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x128, .f32⟩
  | .local _ .vmem, ⟨12, _⟩ => ⟨S512x128, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | .local _ .vmem, ⟨16, _⟩ => ⟨S512x512, .f32⟩
  | .local _ .vmem, ⟨17, _⟩ => ⟨S512x128, .f32⟩
  | .local _ .vmem, ⟨18, _⟩ => ⟨S512x128, .f32⟩
  | .local _ .vmem, ⟨19, _⟩ => ⟨S512x512, .f32⟩
  | .local _ .vmem, ⟨20, _⟩ => ⟨S512x128, .f32⟩
  | .local _ .vmem, ⟨21, _⟩ => ⟨S512x128, .f32⟩
  | .local _ .vmem, ⟨22, _⟩ => ⟨S512x512, .f32⟩
  | .local _ .vmem, ⟨23, _⟩ => ⟨S512x128, .f32⟩
  | .local _ .vmem, ⟨24, _⟩ => ⟨S512x128, .f32⟩
  | .local _ .vmem, ⟨25, _⟩ => ⟨S512x512, .f32⟩
  | .local _ .vmem, ⟨26, _⟩ => ⟨S512x128, .f32⟩
  | .local _ .vmem, ⟨27, _⟩ => ⟨S512x128, .f32⟩
  | .local _ .vmem, ⟨28, _⟩ => ⟨S512x512, .f32⟩
  | .local _ .vmem, ⟨29, _⟩ => ⟨S512x128, .f32⟩
  | .local _ .vmem, ⟨30, _⟩ => ⟨S512x128, .f32⟩
  | _, _ => ⟨S4x2048x8x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_scratch11 : Ref sig .tc := ⟨.vmem, 18, rfl⟩
abbrev cc0_scratch12 : Ref sig .tc := ⟨.vmem, 19, rfl⟩
abbrev cc0_scratch13 : Ref sig .tc := ⟨.vmem, 20, rfl⟩
abbrev cc0_scratch14 : Ref sig .tc := ⟨.vmem, 21, rfl⟩
abbrev cc0_scratch15 : Ref sig .tc := ⟨.vmem, 22, rfl⟩
abbrev cc0_scratch16 : Ref sig .tc := ⟨.vmem, 23, rfl⟩
abbrev cc0_scratch17 : Ref sig .tc := ⟨.vmem, 24, rfl⟩
abbrev cc0_scratch18 : Ref sig .tc := ⟨.vmem, 25, rfl⟩
abbrev cc0_scratch19 : Ref sig .tc := ⟨.vmem, 26, rfl⟩
abbrev cc0_scratch20 : Ref sig .tc := ⟨.vmem, 27, rfl⟩
abbrev cc0_scratch21 : Ref sig .tc := ⟨.vmem, 28, rfl⟩
abbrev cc0_scratch22 : Ref sig .tc := ⟨.vmem, 29, rfl⟩
abbrev cc0_scratch23 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_87 : BitVec 32 := 0#32
  let arg1 : BitVec 32 := BitVec.ofNat 32 (i 1).val
  let v112 : BitVec 32 := Scalar.subi arg1 c0_i32_87
  let c1_i32 : BitVec 32 := 1#32
  let v114 : BitVec 32 := Scalar.divsi v112 c1_i32
  let v115 : BitVec 32 := Scalar.muli v114 c1_i32
  let v116 : BitVec 32 := Scalar.addi c0_i32_87 v115
  let c1_i32_88 : BitVec 32 := 1#32
  ⟨c0_i32_87, v116, c1_i32_88⟩
def k0_mult1 (i : grid0.Coords) (k0_t1 : Fin (k0_t1_loop i).trips) : BitVec 32 :=
  let c0_i32_87 : BitVec 32 := 0#32
  let c1_i32_88 : BitVec 32 := 1#32
  let arg30 : BitVec 32 := Scf.iv c0_i32_87 c1_i32_88 k0_t1
  let c512_i32_702 : BitVec 32 := 512#32
  let v1490 : BitVec 32 := Scalar.muli arg30 c512_i32_702
  v1490
def k0_off1 (i : grid0.Coords) (k0_t1 : Fin (k0_t1_loop i).trips) : Fin 3 → Nat :=
  let c0_703 : Index := 0#32
  let c0_i32_87 : BitVec 32 := 0#32
  let c1_i32_88 : BitVec 32 := 1#32
  let arg30 : BitVec 32 := Scf.iv c0_i32_87 c1_i32_88 k0_t1
  let c512_i32_702 : BitVec 32 := 512#32
  let v1490 : BitVec 32 := Scalar.muli arg30 c512_i32_702
  let v1491 : BitVec 32 := v1490
  let v1492 : Index := Scalar.indexCast v1491
  let c0_704 : Index := 0#32
  ![0, v1492.toNat, 0]
@[reducible] def k0_t2_loop (i : grid0.Coords) : Scf.Loop 32 :=
  let c0_i32_87 : BitVec 32 := 0#32
  let arg1 : BitVec 32 := BitVec.ofNat 32 (i 1).val
  let v112 : BitVec 32 := Scalar.subi arg1 c0_i32_87
  let c1_i32 : BitVec 32 := 1#32
  let v114 : BitVec 32 := Scalar.divsi v112 c1_i32
  let v115 : BitVec 32 := Scalar.muli v114 c1_i32
  let v116 : BitVec 32 := Scalar.addi c0_i32_87 v115
  let v113 : BitVec 32 := Scalar.addi c0_i32_87 v112
  let c1_i32_89 : BitVec 32 := 1#32
  ⟨v116, v113, c1_i32_89⟩
def k0_mult2 (i : grid0.Coords) (k0_t2 : Fin (k0_t2_loop i).trips) : BitVec 32 :=
  let c0_i32_87 : BitVec 32 := 0#32
  let arg1 : BitVec 32 := BitVec.ofNat 32 (i 1).val
  let v112 : BitVec 32 := Scalar.subi arg1 c0_i32_87
  let c1_i32 : BitVec 32 := 1#32
  let v114 : BitVec 32 := Scalar.divsi v112 c1_i32
  let v115 : BitVec 32 := Scalar.muli v114 c1_i32
  let v116 : BitVec 32 := Scalar.addi c0_i32_87 v115
  let c1_i32_89 : BitVec 32 := 1#32
  let arg30 : BitVec 32 := Scf.iv v116 c1_i32_89 k0_t2
  let c512_i32_702 : BitVec 32 := 512#32
  let v1490 : BitVec 32 := Scalar.muli arg30 c512_i32_702
  v1490
def k0_off2 (i : grid0.Coords) (k0_t2 : Fin (k0_t2_loop i).trips) : Fin 3 → Nat :=
  let c0_703 : Index := 0#32
  let c0_i32_87 : BitVec 32 := 0#32
  let arg1 : BitVec 32 := BitVec.ofNat 32 (i 1).val
  let v112 : BitVec 32 := Scalar.subi arg1 c0_i32_87
  let c1_i32 : BitVec 32 := 1#32
  let v114 : BitVec 32 := Scalar.divsi v112 c1_i32
  let v115 : BitVec 32 := Scalar.muli v114 c1_i32
  let v116 : BitVec 32 := Scalar.addi c0_i32_87 v115
  let c1_i32_89 : BitVec 32 := 1#32
  let arg30 : BitVec 32 := Scf.iv v116 c1_i32_89 k0_t2
  let c512_i32_702 : BitVec 32 := 512#32
  let v1490 : BitVec 32 := Scalar.muli arg30 c512_i32_702
  let v1491 : BitVec 32 := v1490
  let v1492 : Index := Scalar.indexCast v1491
  let c0_704 : Index := 0#32
  ![0, v1492.toNat, 0]
def k0_mult3 (i : grid0.Coords) : BitVec 32 :=
  let arg1 : BitVec 32 := BitVec.ofNat 32 (i 1).val
  let c512_i32 : BitVec 32 := 512#32
  let v117 : BitVec 32 := Scalar.muli arg1 c512_i32
  v117
def k0_off3 (i : grid0.Coords) : Fin 3 → Nat :=
  let c0_90 : Index := 0#32
  let arg1 : BitVec 32 := BitVec.ofNat 32 (i 1).val
  let c512_i32 : BitVec 32 := 512#32
  let v117 : BitVec 32 := Scalar.muli arg1 c512_i32
  let v118 : BitVec 32 := v117
  let v119 : Index := Scalar.indexCast v118
  let c0_91 : Index := 0#32
  ![0, v119.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel4Ideal.lean ====
variable {F : FTy → Type} [FloatOps F] [Named F]
def κ : String → Option EReal := fun
  | "scale" => some (((Real.sqrt 192)⁻¹ * (Real.log 2)⁻¹ : ℝ) : EReal)
  | _ => none
-- ==== Reference4Ideal.lean ====
abbrev S4x2048x8x512 : Shape := ⟨4, ![4, 2048, 8, 512]⟩
abbrev S4x2048x8x64 : Shape := ⟨4, ![4, 2048, 8, 64]⟩
abbrev S4x2048x512 : Shape := ⟨3, ![4, 2048, 512]⟩
abbrev S4x2048x64 : Shape := ⟨3, ![4, 2048, 64]⟩
abbrev S1x512x2048 : Shape := ⟨3, ![1, 512, 2048]⟩
abbrev S512x2048 : Shape := ⟨2, ![512, 2048]⟩
abbrev S512x8x256 : Shape := ⟨3, ![512, 8, 256]⟩
abbrev S512x8x128 : Shape := ⟨3, ![512, 8, 128]⟩
abbrev S4x2048x2048x8 : Shape := ⟨4, ![4, 2048, 2048, 8]⟩
abbrev S4x8x2048x2048 : Shape := ⟨4, ![4, 8, 2048, 2048]⟩
abbrev S_ : Shape := ⟨0, ![]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x512x8x2048 : Shape := ⟨4, ![4, 512, 8, 2048]⟩
abbrev S8x128x4x2048 : Shape := ⟨4, ![8, 128, 4, 2048]⟩
abbrev S4x2048x8x128 : Shape := ⟨4, ![4, 2048, 8, 128]⟩
abbrev S4x2048x1024 : Shape := ⟨3, ![4, 2048, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x8x512, .bf16⟩
  | .hbm, ⟨1, _⟩ => ⟨S4x2048x8x64, .bf16⟩
  | .hbm, ⟨2, _⟩ => ⟨S4x2048x512, .bf16⟩
  | .hbm, ⟨3, _⟩ => ⟨S4x2048x64, .bf16⟩
  | .hbm, ⟨4, _⟩ => ⟨S1x512x2048, .f32⟩
  | .hbm, ⟨5, _⟩ => ⟨S4x2048x8x512, .f32⟩
  | .hbm, ⟨6, _⟩ => ⟨S4x2048x8x64, .f32⟩
  | .hbm, ⟨7, _⟩ => ⟨S4x2048x512, .f32⟩
  | .hbm, ⟨8, _⟩ => ⟨S4x2048x64, .f32⟩
  | .hbm, ⟨9, _⟩ => ⟨S512x2048, .f32⟩
  | .hbm, ⟨10, _⟩ => ⟨S512x8x256, .f32⟩
  | .hbm, ⟨11, _⟩ => ⟨S512x8x128, .f32⟩
  | .hbm, ⟨12, _⟩ => ⟨S4x2048x2048x8, .f32⟩
  | .hbm, ⟨13, _⟩ => ⟨S4x8x2048x2048, .f32⟩
  | .hbm, ⟨14, _⟩ => ⟨S4x2048x2048x8, .f32⟩
  | .hbm, ⟨15, _⟩ => ⟨S4x8x2048x2048, .f32⟩
  | .hbm, ⟨16, _⟩ => ⟨S4x8x2048x2048, .f32⟩
  | .hbm, ⟨17, _⟩ => ⟨S_, .f32⟩
  | .hbm, ⟨18, _⟩ => ⟨S_, .f32⟩
  | .hbm, ⟨19, _⟩ => ⟨S4x8x2048x2048, .f32⟩
  | .hbm, ⟨20, _⟩ => ⟨S4x8x2048x2048, .f32⟩
  | .hbm, ⟨21, _⟩ => ⟨S_, .i1⟩
  | .hbm, ⟨22, _⟩ => ⟨S2048x2048, .i1⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .i1⟩
  | .hbm, ⟨30, _⟩ => ⟨S2048x2048, .i1⟩
  | .hbm, ⟨31, _⟩ => ⟨S2048x2048, .i1⟩
  | .hbm, ⟨32, _⟩ => ⟨S_, .f32⟩
  | .hbm, ⟨33, _⟩ => ⟨S_, .f32⟩
  | .hbm, ⟨34, _⟩ => ⟨S4x8x2048x2048, .i1⟩
  | .hbm, ⟨35, _⟩ => ⟨S4x8x2048x2048, .f32⟩
  | .hbm, ⟨36, _⟩ => ⟨S4x8x2048x2048, .f32⟩
  | .hbm, ⟨37, _⟩ => ⟨S_, .f32⟩
  | .hbm, ⟨38, _⟩ => ⟨S4x8x2048, .f32⟩
  | .hbm, ⟨39, _⟩ => ⟨S_, .f32⟩
  | .hbm, ⟨40, _⟩ => ⟨S4x8x2048, .f32⟩
  | .hbm, ⟨41, _⟩ => ⟨S4x8x2048, .f32⟩
  | .hbm, ⟨42, _⟩ => ⟨S4x8x2048x1, .f32⟩
  | .hbm, ⟨43, _⟩ => ⟨S4x8x2048x2048, .f32⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S4x8x2048, .f32⟩
  | .hbm, ⟨48, _⟩ => ⟨S4x8x2048x1, .f32⟩
  | .hbm, ⟨49, _⟩ => ⟨S4x8x2048x2048, .f32⟩
  | .hbm, ⟨50, _⟩ => ⟨S4x8x2048x2048, .f32⟩
  | .hbm, ⟨51, _⟩ => ⟨S4x512x8x2048, .f32⟩
  | .hbm, ⟨52, _⟩ => ⟨S4x2048x8x512, .f32⟩
  | .hbm, ⟨53, _⟩ => ⟨S8x128x4x2048, .f32⟩
  | .hbm, ⟨54, _⟩ => ⟨S4x2048x8x128, .f32⟩
  | .hbm, ⟨55, _⟩ => ⟨S4x2048x1024, .f32⟩
  | .hbm, ⟨56, _⟩ => ⟨S4x2048x1024, .bf16⟩
  | _, _ => ⟨S4x2048x8x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_0 : Ref sig .tc := ⟨.hbm, 29, rfl⟩
abbrev main_call0_v5 : Ref sig .tc := ⟨.hbm, 30, rfl⟩
abbrev main_v16 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.AttnITrip.lean ====
module

public import proofs.«01_k».proof.Proof.Gen.Kernel4Ideal.Loops
public import proofs.«01_k».proof.Proof.Gen.Kernel4Ideal.Frame
public import Idealize.ShloMosaic.Lib.Tactic

@[expose] public section

set_option maxRecDepth 16384

noncomputable section

namespace Cert.Kernel4Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F] [Named F]

local notation "𝕄G" => MT nD τ sig Unit (Elt F) ℕ (UR sig nD τ) ℕ

/-- What one trip stores into one head's scratch, as functions of what that scratch holds before the trip: the pieces of the
    running output, of the running maximum and of the running sum. -/
structure HeadL (F : FTy → Type) (a : Memref sig .tc .vmem S512x512 .f32) (m l : Memref sig .tc .vmem S512x128 .f32) where
  A : BufTy.Contents (Elt F) a.view.ty → BufTy.Contents (Elt F) m.view.ty → BufTy.Contents (Elt F) l.view.ty → List (View.Piece (Elt F) S512x512 .f32)
  M : BufTy.Contents (Elt F) a.view.ty → BufTy.Contents (Elt F) m.view.ty → BufTy.Contents (Elt F) l.view.ty → List (View.Piece (Elt F) S512x128 .f32)
  L : BufTy.Contents (Elt F) a.view.ty → BufTy.Contents (Elt F) m.view.ty → BufTy.Contents (Elt F) l.view.ty → List (View.Piece (Elt F) S512x128 .f32)

/-- One head's scratch (running output, running maximum, running sum). -/
abbrev HeadC (F : FTy → Type) (a : Memref sig .tc .vmem S512x512 .f32) (m l : Memref sig .tc .vmem S512x128 .f32) : Type :=
  BufTy.Contents (Elt F) a.view.ty × BufTy.Contents (Elt F) m.view.ty × BufTy.Contents (Elt F) l.view.ty

/-- What one trip leaves in one head's scratch. -/
def HeadL.stp {a : Memref sig .tc .vmem S512x512 .f32} {m l : Memref sig .tc .vmem S512x128 .f32} (H : HeadL F a m l) (p : HeadC F a m l) : HeadC F a m l :=
  (a.view.writes (Elt F) p.1 (H.A p.1 p.2.1 p.2.2), m.view.writes (Elt F) p.2.1 (H.M p.1 p.2.1 p.2.2), l.view.writes (Elt F) p.2.2 (H.L p.1 p.2.1 p.2.2))

/-- One head's scratch before trip `k`. -/
def stH {a : Memref sig .tc .vmem S512x512 .f32} {m l : Memref sig .tc .vmem S512x128 .f32} {n : ℕ} (H : Fin n → HeadL F a m l) (p : HeadC F a m l) : ℕ → HeadC F a m l
  | 0 => p
  | k + 1 => if h : k < n then (H ⟨k, h⟩).stp (stH H p k) else stH H p k

theorem stH_succ {a : Memref sig .tc .vmem S512x512 .f32} {m l : Memref sig .tc .vmem S512x128 .f32} {n : ℕ} (H : Fin n → HeadL F a m l) (p : HeadC F a m l)
    (k : Fin n) : stH H p (k.val + 1) = (H k).stp (stH H p k.val) := by
  rw [stH.eq_2]; exact dif_pos k.isLt

/-- The running output's scratch before trip `k`. -/
def stA {a : Memref sig .tc .vmem S512x512 .f32} {m l : Memref sig .tc .vmem S512x128 .f32} {n : ℕ} (H : Fin n → HeadL F a m l) (Ga : BufTy.Contents (Elt F) a.view.ty) (Gm : BufTy.Contents (Elt F) m.view.ty) (Gl : BufTy.Contents (Elt F) l.view.ty) : ℕ → BufTy.Contents (Elt F) a.view.ty
  | 0 => Ga
  | k + 1 => (stH H (Ga, Gm, Gl) (k + 1)).1

theorem stA_eq {a : Memref sig .tc .vmem S512x512 .f32} {m l : Memref sig .tc .vmem S512x128 .f32} {n : ℕ} (H : Fin n → HeadL F a m l) (Ga : BufTy.Contents (Elt F) a.view.ty) (Gm : BufTy.Contents (Elt F) m.view.ty) (Gl : BufTy.Contents (Elt F) l.view.ty) (k : ℕ) : stA H Ga Gm Gl k = (stH H (Ga, Gm, Gl) k).1 := by
  cases k <;> rfl

/-- The running maximum's scratch before trip `k`. -/
def stM {a : Memref sig .tc .vmem S512x512 .f32} {m l : Memref sig .tc .vmem S512x128 .f32} {n : ℕ} (H : Fin n → HeadL F a m l) (Ga : BufTy.Contents (Elt F) a.view.ty) (Gm : BufTy.Contents (Elt F) m.view.ty) (Gl : BufTy.Contents (Elt F) l.view.ty) : ℕ → BufTy.Contents (Elt F) m.view.ty
  | 0 => Gm
  | k + 1 => (stH H (Ga, Gm, Gl) (k + 1)).2.1

theorem stM_eq {a : Memref sig .tc .vmem S512x512 .f32} {m l : Memref sig .tc .vmem S512x128 .f32} {n : ℕ} (H : Fin n → HeadL F a m l) (Ga : BufTy.Contents (Elt F) a.view.ty) (Gm : BufTy.Contents (Elt F) m.view.ty) (Gl : BufTy.Contents (Elt F) l.view.ty) (k : ℕ) : stM H Ga Gm Gl k = (stH H (Ga, Gm, Gl) k).2.1 := by
  cases k <;> rfl

/-- The running sum's scratch before trip `k`. -/
def stL {a : Memref sig .tc .vmem S512x512 .f32} {m l : Memref sig .tc .vmem S512x128 .f32} {n : ℕ} (H : Fin n → HeadL F a m l) (Ga : BufTy.Contents (Elt F) a.view.ty) (Gm : BufTy.Contents (Elt F) m.view.ty) (Gl : BufTy.Contents (Elt F) l.view.ty) : ℕ → BufTy.Contents (Elt F) l.view.ty
  | 0 => Gl
  | k + 1 => (stH H (Ga, Gm, Gl) (k + 1)).2.2

theorem stL_eq {a : Memref sig .tc .vmem S512x512 .f32} {m l : Memref sig .tc .vmem S512x128 .f32} {n : ℕ} (H : Fin n → HeadL F a m l) (Ga : BufTy.Contents (Elt F) a.view.ty) (Gm : BufTy.Contents (Elt F) m.view.ty) (Gl : BufTy.Contents (Elt F) l.view.ty) (k : ℕ) : stL H Ga Gm Gl k = (stH H (Ga, Gm, Gl) k).2.2 := by
  cases k <;> rfl

/-- What one trip stores, head by head. -/
structure Pieces (F : FTy → Type) (arg6 : Memref sig .tc .vmem S512x512 .f32) (arg7 : Memref sig .tc .vmem S512x128 .f32) (arg8 : Memref sig .tc .vmem S512x128 .f32) (arg9 : Memref sig .tc .vmem S512x512 .f32) (arg10 : Memref sig .tc .vmem S512x128 .f32) (arg11 : Memref sig .tc .vmem S512x128 .f32) (arg12 : Memref sig .tc .vmem S512x512 .f32) (arg13 : Memref sig .tc .vmem S512x128 .f32) (arg14 : Memref sig .tc .vmem S512x128 .f32) (arg15 : Memref sig .tc .vmem S512x512 .f32) (arg16 : Memref sig .tc .vmem S512x128 .f32) (arg17 : Memref sig .tc .vmem S512x128 .f32) (arg18 : Memref sig .tc .vmem S512x512 .f32) (arg19 : Memref sig .tc .vmem S512x128 .f32) (arg20 : Memref sig .tc .vmem S512x128 .f32) (arg21 : Memref sig .tc .vmem S512x512 .f32) (arg22 : Memref sig .tc .vmem S512x128 .f32) (arg23 : Memref sig .tc .vmem S512x128 .f32) (arg24 : Memref sig .tc .vmem S512x512 .f32) (arg25 : Memref sig .tc .vmem S512x128 .f32) (arg26 : Memref sig .tc .vmem S512x128 .f32) (arg27 : Memref sig .tc .vmem S512x512 .f32) (arg28 : Memref sig .tc .vmem S512x128 .f32) (arg29 : Memref sig .tc .vmem S512x128 .f32) where
  h0 : HeadL F arg6 arg7 arg8
  h1 : HeadL F arg9 arg10 arg11
  h2 : HeadL F arg12 arg13 arg14
  h3 : HeadL F arg15 arg16 arg17
  h4 : HeadL F arg18 arg19 arg20
  h5 : HeadL F arg21 arg22 arg23
  h6 : HeadL F arg24 arg25 arg26
  h7 : HeadL F arg27 arg28 arg29

/-- What one trip of the loop over the earlier key blocks touches: the keys at their contents and the scratch of the
    eight heads (the running output, the running maximum and the running sum of each). -/
abbrev Held (c : Dev nD) (arg3 : Memref sig .tc .vmem S1x2048x640 .bf16) (arg6 : Memref sig .tc .vmem S512x512 .f32) (arg7 : Memref sig .tc .vmem S512x128 .f32) (arg8 : Memref sig .tc .vmem S512x128 .f32) (arg9 : Memref sig .tc .vmem S512x512 .f32) (arg10 : Memref sig .tc .vmem S512x128 .f32) (arg11 : Memref sig .tc .vmem S512x128 .f32) (arg12 : Memref sig .tc .vmem S512x512 .f32) (arg13 : Memref sig .tc .vmem S512x128 .f32) (arg14 : Memref sig .tc .vmem S512x128 .f32) (arg15 : Memref sig .tc .vmem S512x512 .f32) (arg16 : Memref sig .tc .vmem S512x128 .f32) (arg17 : Memref sig .tc .vmem S512x128 .f32) (arg18 : Memref sig .tc .vmem S512x512 .f32) (arg19 : Memref sig .tc .vmem S512x128 .f32) (arg20 : Memref sig .tc .vmem S512x128 .f32) (arg21 : Memref sig .tc .vmem S512x512 .f32) (arg22 : Memref sig .tc .vmem S512x128 .f32) (arg23 : Memref sig .tc .vmem S512x128 .f32) (arg24 : Memref sig .tc .vmem S512x512 .f32) (arg25 : Memref sig .tc .vmem S512x128 .f32) (arg26 : Memref sig .tc .vmem S512x128 .f32) (arg27 : Memref sig .tc .vmem S512x512 .f32) (arg28 : Memref sig .tc .vmem S512x128 .f32) (arg29 : Memref sig .tc .vmem S512x128 .f32) (X3 : BufTy.Contents (Elt F) arg3.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (f27 : BufTy.Contents (Elt F) arg27.view.ty) (f28 : BufTy.Contents (Elt F) arg28.view.ty) (f29 : BufTy.Contents (Elt F) arg29.view.ty) : sProp 𝕄G :=
  iprop((arg3.view.loc (c : Thread nD τ) ↦[arg3.view.set]{fullShare} X3) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27) ∗ (arg28.view.loc (c : Thread nD τ) ↦[arg28.view.set]{fullShare} f28) ∗ (arg29.view.loc (c : Thread nD τ) ↦[arg29.view.set]{fullShare} f29))

set_option maxHeartbeats 20000000 in
/-- One trip of the loop, run once: the pieces it stores into each head's scratch are functions of what that head's
    scratch holds before the trip. -/
@[irreducible] def trip1 (𝒱 : Variants) (c : Dev nD) (bd : Option 𝒱.V) (i : grid0.Coords) (arg2 : Memref sig .tc .vmem S1x512x5120 .bf16) (harg2 : arg2.IsWhole) (arg3 : Memref sig .tc .vmem S1x2048x640 .bf16) (harg3 : arg3.IsWhole) (arg4 : Memref sig .tc .vmem S8x512x128 .bf16) (harg4 : arg4.IsWhole) (arg5 : Memref sig .tc .vmem S1x512x1024 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x512 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x512 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x512 .f32) (harg27 : arg27.IsWhole) (arg28 : Memref sig .tc .vmem S512x128 .f32) (harg28 : arg28.IsWhole) (arg29 : Memref sig .tc .vmem S512x128 .f32) (harg29 : arg29.IsWhole) (arg1 : BitVec 32) (v1 : FVec F S512x640 .bf16) (v3 : FVec F S512x640 .bf16) (v5 : FVec F S512x640 .bf16) (v7 : FVec F S512x640 .bf16) (v9 : FVec F S512x640 .bf16) (v11 : FVec F S512x640 .bf16) (v13 : FVec F S512x640 .bf16) (v15 : FVec F S512x640 .bf16) (c0_i32_87 : BitVec 32) (c1_i32 : BitVec 32) (v114 : BitVec 32) (X3 : BufTy.Contents (Elt F) arg3.view.ty) (k : Fin (k0_t1_loop i).trips) :
    { PL : Pieces F arg6 arg7 arg8 arg9 arg10 arg11 arg12 arg13 arg14 arg15 arg16 arg17 arg18 arg19 arg20 arg21 arg22 arg23 arg24 arg25 arg26 arg27 arg28 arg29 //
      ∀ (E : Set ℕ) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (f27 : BufTy.Contents (Elt F) arg27.view.ty) (f28 : BufTy.Contents (Elt F) arg28.view.ty) (f29 : BufTy.Contents (Elt F) arg29.view.ty),
      Held (F := F) c arg3 arg6 arg7 arg8 arg9 arg10 arg11 arg12 arg13 arg14 arg15 arg16 arg17 arg18 arg19 arg20 arg21 arg22 arg23 arg24 arg25 arg26 arg27 arg28 arg29 X3 f6 f7 f8 f9 f10 f11 f12 f13 f14 f15 f16 f17 f18 f19 f20 f21 f22 f23 f24 f25 f26 f27 f28 f29
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 k ())
          (fun _ => Held (F := F) c arg3 arg6 arg7 arg8 arg9 arg10 arg11 arg12 arg13 arg14 arg15 arg16 arg17 arg18 arg19 arg20 arg21 arg22 arg23 arg24 arg25 arg26 arg27 arg28 arg29 X3 (arg6.view.writes (Elt F) f6 (PL.h0.A f6 f7 f8)) (arg7.view.writes (Elt F) f7 (PL.h0.M f6 f7 f8)) (arg8.view.writes (Elt F) f8 (PL.h0.L f6 f7 f8)) (arg9.view.writes (Elt F) f9 (PL.h1.A f9 f10 f11)) (arg10.view.writes (Elt F) f10 (PL.h1.M f9 f10 f11)) (arg11.view.writes (Elt F) f11 (PL.h1.L f9 f10 f11)) (arg12.view.writes (Elt F) f12 (PL.h2.A f12 f13 f14)) (arg13.view.writes (Elt F) f13 (PL.h2.M f12 f13 f14)) (arg14.view.writes (Elt F) f14 (PL.h2.L f12 f13 f14)) (arg15.view.writes (Elt F) f15 (PL.h3.A f15 f16 f17)) (arg16.view.writes (Elt F) f16 (PL.h3.M f15 f16 f17)) (arg17.view.writes (Elt F) f17 (PL.h3.L f15 f16 f17)) (arg18.view.writes (Elt F) f18 (PL.h4.A f18 f19 f20)) (arg19.view.writes (Elt F) f19 (PL.h4.M f18 f19 f20)) (arg20.view.writes (Elt F) f20 (PL.h4.L f18 f19 f20)) (arg21.view.writes (Elt F) f21 (PL.h5.A f21 f22 f23)) (arg22.view.writes (Elt F) f22 (PL.h5.M f21 f22 f23)) (arg23.view.writes (Elt F) f23 (PL.h5.L f21 f22 f23)) (arg24.view.writes (Elt F) f24 (PL.h6.A f24 f25 f26)) (arg25.view.writes (Elt F) f25 (PL.h6.M f24 f25 f26)) (arg26.view.writes (Elt F) f26 (PL.h6.L f24 f25 f26)) (arg27.view.writes (Elt F) f27 (PL.h7.A f27 f28 f29)) (arg28.view.writes (Elt F) f28 (PL.h7.M f27 f28 f29)) (arg29.view.writes (Elt F) f29 (PL.h7.L f27 f28 f29))) } := by
  refine ⟨⟨⟨?_, ?_, ?_⟩, ⟨?_, ?_, ?_⟩, ⟨?_, ?_, ?_⟩, ⟨?_, ?_, ?_⟩, ⟨?_, ?_, ?_⟩, ⟨?_, ?_, ?_⟩, ⟨?_, ?_, ?_⟩, ⟨?_, ?_, ?_⟩⟩, fun E f6 f7 f8 f9 f10 f11 f12 f13 f14 f15 f16 f17 f18 f19 f20 f21 f22 f23 f24 f25 f26 f27 f28 f29 => ?run⟩
  case run =>
    dsimp only
    unfold k0_t1_body
    iintro ⟨HR3, HW6, HW7, HW8, HW9, HW10, HW11, HW12, HW13, HW14, HW15, HW16, HW17, HW18, HW19, HW20, HW21, HW22, HW23, HW24, HW25, HW26, HW27, HW28, HW29⟩
    sl_exec_parts
    sl_step
    sl_close

end Cert.Kernel4Ideal.Attn

end
-- ==== Proof.AttnILoop.lean ====
module

public import proofs.«01_k».proof.Proof.AttnITrip
public import proofs.«01_k».proof.Proof.Gen.Kernel4Ideal.Frame
public import Idealize.ShloMosaic.Lib.Tactic

@[expose] public section

set_option maxRecDepth 16384

noncomputable section

namespace Cert.Kernel4Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F] [Named F]

local notation "𝕄G" => MT nD τ sig Unit (Elt F) ℕ (UR sig nD τ) ℕ

set_option warn.classDefReducibility false in
set_option maxHeartbeats 4000000 in
/-- The invariant of the loop over the earlier key blocks: the keys as they were, each head's scratch as the trips so far left it. -/
@[sl_loop] def loopInv1 (𝒱 : Variants) (c : Dev nD) (bd : Option 𝒱.V) (i : grid0.Coords) (arg2 : Memref sig .tc .vmem S1x512x5120 .bf16) (harg2 : arg2.IsWhole) (arg3 : Memref sig .tc .vmem S1x2048x640 .bf16) (harg3 : arg3.IsWhole) (arg4 : Memref sig .tc .vmem S8x512x128 .bf16) (harg4 : arg4.IsWhole) (arg5 : Memref sig .tc .vmem S1x512x1024 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x512 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x512 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x512 .f32) (harg27 : arg27.IsWhole) (arg28 : Memref sig .tc .vmem S512x128 .f32) (harg28 : arg28.IsWhole) (arg29 : Memref sig .tc .vmem S512x128 .f32) (harg29 : arg29.IsWhole) (arg1 : BitVec 32) (v1 : FVec F S512x640 .bf16) (v3 : FVec F S512x640 .bf16) (v5 : FVec F S512x640 .bf16) (v7 : FVec F S512x640 .bf16) (v9 : FVec F S512x640 .bf16) (v11 : FVec F S512x640 .bf16) (v13 : FVec F S512x640 .bf16) (v15 : FVec F S512x640 .bf16) (c0_i32_87 : BitVec 32) (c1_i32 : BitVec 32) (v114 : BitVec 32) (X3 : BufTy.Contents (Elt F) arg3.view.ty) (E : Set ℕ) (G6 : BufTy.Contents (Elt F) arg6.view.ty) (G7 : BufTy.Contents (Elt F) arg7.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (G21 : BufTy.Contents (Elt F) arg21.view.ty) (G22 : BufTy.Contents (Elt F) arg22.view.ty) (G23 : BufTy.Contents (Elt F) arg23.view.ty) (G24 : BufTy.Contents (Elt F) arg24.view.ty) (G25 : BufTy.Contents (Elt F) arg25.view.ty) (G26 : BufTy.Contents (Elt F) arg26.view.ty) (G27 : BufTy.Contents (Elt F) arg27.view.ty) (G28 : BufTy.Contents (Elt F) arg28.view.ty) (G29 : BufTy.Contents (Elt F) arg29.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 where
  inv k _ := Held (F := F) c arg3 arg6 arg7 arg8 arg9 arg10 arg11 arg12 arg13 arg14 arg15 arg16 arg17 arg18 arg19 arg20 arg21 arg22 arg23 arg24 arg25 arg26 arg27 arg28 arg29 X3 (stA (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h0) G6 G7 G8 k) (stM (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h0) G6 G7 G8 k) (stL (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h0) G6 G7 G8 k) (stA (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h1) G9 G10 G11 k) (stM (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h1) G9 G10 G11 k) (stL (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h1) G9 G10 G11 k) (stA (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h2) G12 G13 G14 k) (stM (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h2) G12 G13 G14 k) (stL (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h2) G12 G13 G14 k) (stA (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h3) G15 G16 G17 k) (stM (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h3) G15 G16 G17 k) (stL (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h3) G15 G16 G17 k) (stA (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h4) G18 G19 G20 k) (stM (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h4) G18 G19 G20 k) (stL (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h4) G18 G19 G20 k) (stA (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h5) G21 G22 G23 k) (stM (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h5) G21 G22 G23 k) (stL (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h5) G21 G22 G23 k) (stA (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h6) G24 G25 G26 k) (stM (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h6) G24 G25 G26 k) (stL (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h6) G24 G25 G26 k) (stA (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h7) G27 G28 G29 k) (stM (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h7) G27 G28 G29 k) (stL (fun k => (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h7) G27 G28 G29 k)
  step k _ := by
    simp only [stA_eq, stM_eq, stL_eq, stH_succ]
    unfold HeadL.stp
    iintro H
    iapply (wp_wand_r Idealize.ShloMosaic.frame (wpE (defs₀ (F := F)) 𝒱 (c : Thread nD τ) bd) E)
    isplitl [H]
    · iapply (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).2
      iexact H
    · iintro %_ H'
      iexact H'

theorem trips2_eq (i : grid0.Coords) : (k0_t2_loop i).trips = 0 := Nat.le_zero.mp (k0_t2_abs i).2.1

end Cert.Kernel4Ideal.Attn

end
-- ==== Proof.AttnIRun.lean ====
module

public import proofs.«01_k».proof.Proof.AttnILoop
public import proofs.«01_k».proof.Proof.Gen.Kernel4Ideal.Frame
public import Idealize.ShloMosaic.Lib.Tactic

@[expose] public section

set_option maxRecDepth 16384

noncomputable section

namespace Cert.Kernel4Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F] [Named F]

local notation "𝕄G" => MT nD τ sig Unit (Elt F) ℕ (UR sig nD τ) ℕ

/-- A scratch memref at known contents is one at some contents. -/
theorem some_of {s : Shape} {e : EltTy} (c : Dev nD) (a : Memref sig .tc .vmem s e) (f : BufTy.Contents (Elt F) a.view.ty) :
    (a.view.loc (c : Thread nD τ) ↦[a.view.set]{fullShare} f : sProp 𝕄G) ⊢ iprop(∃ d, owns (c : Thread nD τ) a fullShare d) := by
  unfold owns
  iintro H
  iexists (a.view.read (Elt F) f), f
  isplitr
  · ipureintro; rfl
  iexact H

set_option maxHeartbeats 40000000 in
/-- What the body's stores leave in the output's staging memref, as pieces (last first), with the proof that on whole staging
    memrefs, the inputs' at their contents, the output's and the scratch at anything, the body runs to the continuation
    holding the inputs' as they were, the scratch at some contents and the output's with its pieces written. -/
@[irreducible] def kernelRun0 (c : Dev nD) (i : grid0.Coords) (arg2 : Memref sig .tc .vmem S1x512x5120 .bf16) (harg2 : arg2.IsWhole) (arg3 : Memref sig .tc .vmem S1x2048x640 .bf16) (harg3 : arg3.IsWhole) (arg4 : Memref sig .tc .vmem S8x512x128 .bf16) (harg4 : arg4.IsWhole) (arg5 : Memref sig .tc .vmem S1x512x1024 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x512 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x512 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x512 .f32) (harg27 : arg27.IsWhole) (arg28 : Memref sig .tc .vmem S512x128 .f32) (harg28 : arg28.IsWhole) (arg29 : Memref sig .tc .vmem S512x128 .f32) (harg29 : arg29.IsWhole) (x2 : Vec F S1x512x5120 .bf16) (x3 : Vec F S1x2048x640 .bf16) (x4 : Vec F S8x512x128 .bf16) :
    { L5 : List (View.Piece (Elt F) S1x512x1024 .bf16) //
      ∀ (E : Set ℕ) (K : PUnit → sProp 𝕄G),
        iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, fun E K => ?run⟩
  case run =>
    simp only [cc0_attn_prompt_eq_skeleton]; unfold cc0_attn_prompt_skel
    unfold owns
    iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
    obtain rfl := harg2.eq_unread hf2; obtain rfl := harg3.eq_unread hf3; obtain rfl := harg4.eq_unread hf4
    have ht2 : Scf.trips (k0_t2_loop i).lb (k0_t2_loop i).ub (k0_t2_loop i).st = 0 := trips2_eq i
    sl_exec_parts
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iapply (some_of c arg6 _); iexact H6
    isplitl [H7]; · iapply (some_of c arg7 _); iexact H7
    isplitl [H8]; · iapply (some_of c arg8 _); iexact H8
    isplitl [H9]; · iapply (some_of c arg9 _); iexact H9
    isplitl [H10]; · iapply (some_of c arg10 _); iexact H10
    isplitl [H11]; · iapply (some_of c arg11 _); iexact H11
    isplitl [H12]; · iapply (some_of c arg12 _); iexact H12
    isplitl [H13]; · iapply (some_of c arg13 _); iexact H13
    isplitl [H14]; · iapply (some_of c arg14 _); iexact H14
    isplitl [H15]; · iapply (some_of c arg15 _); iexact H15
    isplitl [H16]; · iapply (some_of c arg16 _); iexact H16
    isplitl [H17]; · iapply (some_of c arg17 _); iexact H17
    isplitl [H18]; · iapply (some_of c arg18 _); iexact H18
    isplitl [H19]; · iapply (some_of c arg19 _); iexact H19
    isplitl [H20]; · iapply (some_of c arg20 _); iexact H20
    isplitl [H21]; · iapply (some_of c arg21 _); iexact H21
    isplitl [H22]; · iapply (some_of c arg22 _); iexact H22
    isplitl [H23]; · iapply (some_of c arg23 _); iexact H23
    isplitl [H24]; · iapply (some_of c arg24 _); iexact H24
    isplitl [H25]; · iapply (some_of c arg25 _); iexact H25
    isplitl [H26]; · iapply (some_of c arg26 _); iexact H26
    isplitl [H27]; · iapply (some_of c arg27 _); iexact H27
    isplitl [H28]; · iapply (some_of c arg28 _); iexact H28
    iapply (some_of c arg29 _); iexact H29

end Cert.Kernel4Ideal.Attn

end
-- ==== Proof.AttnIFrame.lean ====
module

public import proofs.«01_k».proof.Proof.AttnIRun
public import Idealize.ShloMosaic.Lib.Claim
public import proofs.«01_k».proof.Proof.Gen.Kernel4Ideal.Frame
public import Idealize.ShloMosaic.Lib.Tactic

@[expose] public section

set_option maxRecDepth 16384

noncomputable section

namespace Cert.Kernel4Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen
open Idealize.ShloMosaic.Rounds
open Idealize.ShloMosaic.Pipeline (Dat Cfg Window BodyObligation cellOf)

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- Window 0's current staging memref at point `t`, and its wholeness. -/
abbrev ms0_0 (t : Fin cfg0.N) : Memref sig .tc .vmem S1x512x5120 .bf16 := win0_0.stage (cfg0.slots t 0)
abbrev hs0_0 (t : Fin cfg0.N) : (ms0_0 t).IsWhole := hstage0_0 ((cfg0.slots t 0).cast nbuf0_0)
/-- Window 1's current staging memref at point `t`, and its wholeness. -/
abbrev ms0_1 (t : Fin cfg0.N) : Memref sig .tc .vmem S1x2048x640 .bf16 := win0_1.stage (cfg0.slots t 1)
abbrev hs0_1 (t : Fin cfg0.N) : (ms0_1 t).IsWhole := hstage0_1 ((cfg0.slots t 1).cast nbuf0_1)
/-- Window 2's current staging memref at point `t`, and its wholeness. -/
abbrev ms0_2 (t : Fin cfg0.N) : Memref sig .tc .vmem S8x512x128 .bf16 := win0_2.stage (cfg0.slots t 2)
abbrev hs0_2 (t : Fin cfg0.N) : (ms0_2 t).IsWhole := hstage0_2 ((cfg0.slots t 2).cast nbuf0_2)
/-- Window 3's current staging memref at point `t`, and its wholeness. -/
abbrev ms0_3 (t : Fin cfg0.N) : Memref sig .tc .vmem S1x512x1024 .bf16 := win0_3.stage (cfg0.slots t 3)
abbrev hs0_3 (t : Fin cfg0.N) : (ms0_3 t).IsWhole := hstage0_3 ((cfg0.slots t 3).cast nbuf0_3)
abbrev scM0 : Memref sig .tc .vmem S512x512 .f32 := Memref.whole cc0_scratch0
abbrev scM1 : Memref sig .tc .vmem S512x128 .f32 := Memref.whole cc0_scratch1
abbrev scM2 : Memref sig .tc .vmem S512x128 .f32 := Memref.whole cc0_scratch2
abbrev scM3 : Memref sig .tc .vmem S512x512 .f32 := Memref.whole cc0_scratch3
abbrev scM4 : Memref sig .tc .vmem S512x128 .f32 := Memref.whole cc0_scratch4
abbrev scM5 : Memref sig .tc .vmem S512x128 .f32 := Memref.whole cc0_scratch5
abbrev scM6 : Memref sig .tc .vmem S512x512 .f32 := Memref.whole cc0_scratch6
abbrev scM7 : Memref sig .tc .vmem S512x128 .f32 := Memref.whole cc0_scratch7
abbrev scM8 : Memref sig .tc .vmem S512x128 .f32 := Memref.whole cc0_scratch8
abbrev scM9 : Memref sig .tc .vmem S512x512 .f32 := Memref.whole cc0_scratch9
abbrev scM10 : Memref sig .tc .vmem S512x128 .f32 := Memref.whole cc0_scratch10
abbrev scM11 : Memref sig .tc .vmem S512x128 .f32 := Memref.whole cc0_scratch11
abbrev scM12 : Memref sig .tc .vmem S512x512 .f32 := Memref.whole cc0_scratch12
abbrev scM13 : Memref sig .tc .vmem S512x128 .f32 := Memref.whole cc0_scratch13
abbrev scM14 : Memref sig .tc .vmem S512x128 .f32 := Memref.whole cc0_scratch14
abbrev scM15 : Memref sig .tc .vmem S512x512 .f32 := Memref.whole cc0_scratch15
abbrev scM16 : Memref sig .tc .vmem S512x128 .f32 := Memref.whole cc0_scratch16
abbrev scM17 : Memref sig .tc .vmem S512x128 .f32 := Memref.whole cc0_scratch17
abbrev scM18 : Memref sig .tc .vmem S512x512 .f32 := Memref.whole cc0_scratch18
abbrev scM19 : Memref sig .tc .vmem S512x128 .f32 := Memref.whole cc0_scratch19
abbrev scM20 : Memref sig .tc .vmem S512x128 .f32 := Memref.whole cc0_scratch20
abbrev scM21 : Memref sig .tc .vmem S512x512 .f32 := Memref.whole cc0_scratch21
abbrev scM22 : Memref sig .tc .vmem S512x128 .f32 := Memref.whole cc0_scratch22
abbrev scM23 : Memref sig .tc .vmem S512x128 .f32 := Memref.whole cc0_scratch23

/-- The pieces the body stores into the output's staging buffer at point `t`, from the three input blocks. -/
def pcs (c : Dev nD) (t : Fin cfg0.N) (x0 : Vec F S1x512x5120 .bf16) (x1 : Vec F S1x2048x640 .bf16) (x2 : Vec F S8x512x128 .bf16) : List (View.Piece (Elt F) S1x512x1024 .bf16) :=
  (kernelRun0 c (grid0.coords t) (ms0_0 t) (hs0_0 t) (ms0_1 t) (hs0_1 t) (ms0_2 t) (hs0_2 t) (ms0_3 t) (hs0_3 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) scM18 (Memref.isWhole_whole _) scM19 (Memref.isWhole_whole _) scM20 (Memref.isWhole_whole _) scM21 (Memref.isWhole_whole _) scM22 (Memref.isWhole_whole _) scM23 (Memref.isWhole_whole _) x0 x1 x2).1

set_option maxHeartbeats 4000000 in
/-- They cover it: eight column blocks of one head's width. -/
theorem pcs_cover (c : Dev nD) (t : Fin cfg0.N) (x0 : Vec F S1x512x5120 .bf16) (x1 : Vec F S1x2048x640 .bf16) (x2 : Vec F S8x512x128 .bf16) (y : S1x512x1024.Idx) : ∃ pc ∈ pcs c t x0 x1 x2, y ∈ pc.1.set :=
  View.cover_of_tiledL (pcs c t x0 x1 x2) S1x512x128.size (by sl_kernel_rfl) y

/-- The output's staging buffer as a view, to read pieces back through. -/
abbrev VO : View sig .tc .vmem S1x512x1024 .bf16 := (Memref.whole cc0_stg3_0 : Memref sig .tc .vmem S1x512x1024 .bf16).view

/-- What the body leaves in the output's staging buffer at point `t`. -/
def out (c : Dev nD) (t : Fin cfg0.N) (x0 : Vec F S1x512x5120 .bf16) (x1 : Vec F S1x2048x640 .bf16) (x2 : Vec F S8x512x128 .bf16) : Vec F S1x512x1024 .bf16 :=
  VO.read (Elt F) (VO.writes (Elt F) VO.junk (pcs c t x0 x1 x2))

/-- The proof data: the arrays as the region finds them; after the body each input's buffer at its block, the output's at `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out c t (iblk m c 0 t) (iblk m c 1 t) (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out c t (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- What a body may use and need not describe: the scratch at some contents, and the generator register. -/
theorem PhiA0_eq (c : Dev nD) :
    (Pipeline.ΦA spec0 c : sProp 𝕄G)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d) ∗ (∃ d, owns (c : Thread nD τ) scM8 fullShare d) ∗ (∃ d, owns (c : Thread nD τ) scM9 fullShare d) ∗ (∃ d, owns (c : Thread nD τ) scM10 fullShare d) ∗ (∃ d, owns (c : Thread nD τ) scM11 fullShare d) ∗ (∃ d, owns (c : Thread nD τ) scM12 fullShare d) ∗ (∃ d, owns (c : Thread nD τ) scM13 fullShare d) ∗ (∃ d, owns (c : Thread nD τ) scM14 fullShare d) ∗ (∃ d, owns (c : Thread nD τ) scM15 fullShare d) ∗ (∃ d, owns (c : Thread nD τ) scM16 fullShare d) ∗ (∃ d, owns (c : Thread nD τ) scM17 fullShare d) ∗ (∃ d, owns (c : Thread nD τ) scM18 fullShare d) ∗ (∃ d, owns (c : Thread nD τ) scM19 fullShare d) ∗ (∃ d, owns (c : Thread nD τ) scM20 fullShare d) ∗ (∃ d, owns (c : Thread nD τ) scM21 fullShare d) ∗ (∃ d, owns (c : Thread nD τ) scM22 fullShare d) ∗ (∃ d, owns (c : Thread nD τ) scM23 fullShare d)) ∗ (∃ r, prngReg c r)) := by
  unfold Pipeline.ΦA; rw [scopedRest0_eq]; simp only [scM0, scM1, scM2, scM3, scM4, scM5, scM6, scM7, scM8, scM9, scM10, scM11, scM12, scM13, scM14, scM15, scM16, scM17, scM18, scM19, scM20, scM21, scM22, scM23, owns_whole]; try rfl

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, PhiA0_eq]
  unfold out pcs
  iintro ⟨⟨⟨HS0, HS1, HS2, HS3, HS4, HS5, HS6, HS7, HS8, HS9, HS10, HS11, HS12, HS13, HS14, HS15, HS16, HS17, HS18, HS19, HS20, HS21, HS22, HS23⟩, Hg⟩, Ho, ⟨%d0, H0⟩, ⟨%d1, H1⟩, ⟨%d2, H2⟩, ⟨%d3, H3⟩⟩
  iapply ((kernelRun0 c (grid0.coords t) (ms0_0 t) (hs0_0 t) (ms0_1 t) (hs0_1 t) (ms0_2 t) (hs0_2 t) (ms0_3 t) (hs0_3 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) scM8 (Memref.isWhole_whole _) scM9 (Memref.isWhole_whole _) scM10 (Memref.isWhole_whole _) scM11 (Memref.isWhole_whole _) scM12 (Memref.isWhole_whole _) scM13 (Memref.isWhole_whole _) scM14 (Memref.isWhole_whole _) scM15 (Memref.isWhole_whole _) scM16 (Memref.isWhole_whole _) scM17 (Memref.isWhole_whole _) scM18 (Memref.isWhole_whole _) scM19 (Memref.isWhole_whole _) scM20 (Memref.isWhole_whole _) scM21 (Memref.isWhole_whole _) scM22 (Memref.isWhole_whole _) scM23 (Memref.isWhole_whole _) (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [HS21]; · iexact HS21
  isplitl [HS22]; · iexact HS22
  isplitl [HS23]; · iexact HS23
  iintro ⟨H0, H1, H2, ⟨%e3, H3⟩, HS0, HS1, HS2, HS3, HS4, HS5, HS6, HS7, HS8, HS9, HS10, HS11, HS12, HS13, HS14, HS15, HS16, HS17, HS18, HS19, HS20, HS21, HS22, HS23⟩
  isplitl [HS0 HS1 HS2 HS3 HS4 HS5 HS6 HS7 HS8 HS9 HS10 HS11 HS12 HS13 HS14 HS15 HS16 HS17 HS18 HS19 HS20 HS21 HS22 HS23 Hg]
  · isplitl [HS0 HS1 HS2 HS3 HS4 HS5 HS6 HS7 HS8 HS9 HS10 HS11 HS12 HS13 HS14 HS15 HS16 HS17 HS18 HS19 HS20 HS21 HS22 HS23]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      iexact HS23
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (pcs_cover c t (iblk m c 0 t) (iblk m c 1 t) (iblk m c 2 t))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every weakly fair execution terminates with every array of the pipeline at what the proof data says, and
    every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and the machine is quiescent at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel4Ideal.Attn

end
-- ==== Proof.AttnReal.lean ====
/-
  One row of an online softmax over extended reals: the state after the first `n` keys, one step, and the end.
-/
module

public import Idealize.ShloMosaic.PureOps.Ideal
public import Mathlib.Analysis.SpecialFunctions.Pow.Real
public import Idealize.ShloMosaic.Lib.Pointwise
public import Idealize.ShloMosaic.Lib.Tactic

@[expose] public section

noncomputable section

namespace Cert.AttnReal

open Idealize.ShloMosaic

/-- The scale of the scores. -/
def rho : ℝ := (Real.sqrt 192)⁻¹

theorem rho_pos : 0 < rho := inv_pos.mpr (Real.sqrt_pos.mpr (by norm_num))

/-- The weight of a key with score `s` (before scaling) relative to `μ`: none for a masked key. -/
def E (s : EReal) (μ : ℝ) : ℝ := if s = ⊥ then 0 else Real.exp ((s.toReal - μ) * rho)

theorem E_bot (μ : ℝ) : E ⊥ μ = 0 := if_pos rfl

theorem E_coe (x μ : ℝ) : E (x : EReal) μ = Real.exp ((x - μ) * rho) := by
  unfold E; rw [if_neg (EReal.coe_ne_bot x), EReal.toReal_coe]

theorem E_nonneg (s : EReal) (μ : ℝ) : 0 ≤ E s μ := by
  unfold E; split
  · exact le_refl _
  · exact (Real.exp_pos _).le

theorem E_pos (s : EReal) (μ : ℝ) (h : s ≠ ⊥) : 0 < E s μ := by
  unfold E; rw [if_neg h]; exact Real.exp_pos _

theorem E_shift (s : EReal) (μ μ' : ℝ) : E (μ : EReal) μ' * E s μ = E s μ' := by
  rw [E_coe]; unfold E
  split
  · simp
  · rw [← Real.exp_add]; congr 1; ring

/-- The kernel's factor on the logits. -/
abbrev kap : EReal := ((Real.sqrt 192)⁻¹ * (Real.log 2)⁻¹ : ℝ)

theorem exp2_eq (s : EReal) (μ : ℝ) (h : s ≠ ⊤) : Ideal.exp2 ((s - (μ : EReal)) * kap) = (E s μ : EReal) := by
  have hl : 0 < Real.log 2 := Real.log_pos (by norm_num)
  have hk : (0 : ℝ) < (Real.sqrt 192)⁻¹ * (Real.log 2)⁻¹ := mul_pos rho_pos (inv_pos.mpr hl)
  induction s with
  | bot =>
    rw [E_bot, EReal.bot_sub, EReal.bot_mul_of_pos (EReal.coe_pos.mpr hk)]; rfl
  | top => exact absurd rfl h
  | coe x =>
    rw [E_coe, ← EReal.coe_sub, ← EReal.coe_mul]
    show ((Real.rpow 2 _ : ℝ) : EReal) = _
    congr 1
    show (2 : ℝ) ^ ((x - μ) * ((Real.sqrt 192)⁻¹ * (Real.log 2)⁻¹) : ℝ) = _
    rw [Real.rpow_def_of_pos (by norm_num)]
    congr 1
    unfold rho
    field_simp

theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- A row's running maximum, running sums (lane by lane) and running output after its first `n` keys. -/
def RowSt (s : ℕ → EReal) (v : ℕ → Fin 512 → ℝ) (n : ℕ) (M L : Fin 128 → EReal) (A : Fin 512 → EReal) : Prop :=
  ∃ μ : EReal, μ ≠ ⊤ ∧ (μ = ⊥ → n = 0) ∧ (∀ a, M a = μ)
    ∧ (∃ l : Fin 128 → ℝ, (∀ a, L a = (l a : EReal)) ∧ ∑ a, l a = ∑ j ∈ Finset.range n, E (s j) μ.toReal)
    ∧ ∀ c, A c = ((∑ j ∈ Finset.range n, E (s j) μ.toReal * v j c : ℝ) : EReal)

theorem RowSt.zero (s : ℕ → EReal) (v : ℕ → Fin 512 → ℝ) (M L : Fin 128 → EReal) (A : Fin 512 → EReal)
    (hM : ∀ a, M a = ⊥) (hL : ∀ a, L a = 0) (hA : ∀ c, A c = 0) : RowSt s v 0 M L A :=
  ⟨⊥, bot_ne_top, fun _ => rfl, hM, ⟨fun _ => 0, hL, by simp⟩, fun c => by rw [hA]; simp⟩

theorem RowSt.step {s : ℕ → EReal} {v : ℕ → Fin 512 → ℝ} {n : ℕ} {M L : Fin 128 → EReal} {A : Fin 512 → EReal}
    (h : RowSt s v n M L A) (nb : ℕ) (μ' : ℝ) {M' L' : Fin 128 → EReal} {A' : Fin 512 → EReal} (p : Fin 128 → ℝ) (ln : Fin 512 → Fin 128)
    (hM : ∀ a, M' a = (μ' : EReal))
    (hL : ∀ a, L' a = Ideal.exp2 ((M a - M' a) * kap) * L a + (p a : EReal))
    (hp : ∑ a, p a = ∑ j ∈ Finset.range nb, E (s (n + j)) μ')
    (hA : ∀ c, A' c = Ideal.exp2 ((M (ln c) - M' (ln c)) * kap) * A c + ((∑ j ∈ Finset.range nb, E (s (n + j)) μ' * v (n + j) c : ℝ) : EReal)) :
    RowSt s v (n + nb) M' L' A' := by
  obtain ⟨μ, ht, hb, hMm, ⟨l, hl, hls⟩, hAm⟩ := h
  have key : ∀ j ∈ Finset.range n, E μ μ' * E (s j) μ.toReal = E (s j) μ' := by
    intro j hj
    have hn : n ≠ 0 := by have := Finset.mem_range.mp hj; omega
    have hμ : μ ≠ ⊥ := fun e => hn (hb e)
    have := E_shift (s j) μ.toReal μ'
    rwa [EReal.coe_toReal ht hμ] at this
  refine ⟨(μ' : EReal), EReal.coe_ne_top _, fun e => absurd e (EReal.coe_ne_bot _), hM, ⟨fun a => E μ μ' * l a + p a, fun a => ?_, ?_⟩, fun c => ?_⟩
  · rw [hL, hM, hMm, exp2_eq _ _ ht, hl, ← EReal.coe_mul, ← EReal.coe_add]
  · rw [Finset.sum_add_distrib, ← Finset.mul_sum, hls, hp, Finset.mul_sum, EReal.toReal_coe, Finset.sum_range_add, Finset.sum_congr rfl key]
  · rw [hA, hM, hMm, exp2_eq _ _ ht, hAm, ← EReal.coe_mul, ← EReal.coe_add, EReal.toReal_coe, Finset.sum_range_add, Finset.mul_sum]
    congr 2
    refine Finset.sum_congr rfl fun j hj => ?_
    rw [← mul_assoc, key j hj]

/-- The attention output of a row: the weighted mean of the values. -/
def att (s : ℕ → EReal) (v : ℕ → Fin 512 → ℝ) (n : ℕ) (c : Fin 512) : ℝ :=
  (∑ j ∈ Finset.range n, E (s j) 0 * v j c) / ∑ j ∈ Finset.range n, E (s j) 0

theorem E_zero (s : EReal) (μ : ℝ) : E s μ = E (0 : ℝ) μ * E s 0 := (E_shift s 0 μ).symm

theorem att_eq (s : ℕ → EReal) (v : ℕ → Fin 512 → ℝ) (n : ℕ) (c : Fin 512) (μ : ℝ) :
    (∑ j ∈ Finset.range n, E (s j) μ * v j c) / (∑ j ∈ Finset.range n, E (s j) μ) = att s v n c := by
  have h0 : E ((0 : ℝ) : EReal) μ ≠ 0 := (E_pos _ _ (EReal.coe_ne_bot _)).ne'
  have h1 : (∑ j ∈ Finset.range n, E (s j) μ * v j c) = E ((0 : ℝ) : EReal) μ * ∑ j ∈ Finset.range n, E (s j) 0 * v j c := by
    rw [Finset.mul_sum]; exact Finset.sum_congr rfl fun j _ => by rw [E_zero (s j) μ, mul_assoc]
  have h2 : (∑ j ∈ Finset.range n, E (s j) μ) = E ((0 : ℝ) : EReal) μ * ∑ j ∈ Finset.range n, E (s j) 0 := by
    rw [Finset.mul_sum]; exact Finset.sum_congr rfl fun j _ => E_zero (s j) μ
  rw [h1, h2]; exact mul_div_mul_left _ _ h0

theorem sum_E_pos (s : ℕ → EReal) (n : ℕ) (μ : ℝ) (j : ℕ) (hj : j < n) (hs : s j ≠ ⊥) : 0 < ∑ j ∈ Finset.range n, E (s j) μ :=
  Finset.sum_pos' (fun i _ => E_nonneg _ _) ⟨j, Finset.mem_range.mpr hj, E_pos _ _ hs⟩

theorem div_coe (x y : ℝ) (hy : 0 < y) : Ideal.div (x : EReal) (y : EReal) = ((x / y : ℝ) : EReal) := by
  unfold Ideal.div
  rw [if_neg (by exact_mod_cast hy.ne'), ← EReal.coe_inv, ← EReal.coe_mul, div_eq_mul_inv]

/-- The end of a row. -/
theorem RowSt.out {s : ℕ → EReal} {v : ℕ → Fin 512 → ℝ} {n : ℕ} {M L : Fin 128 → EReal} {A : Fin 512 → EReal}
    (h : RowSt s v n M L A) (j : ℕ) (hj : j < n) (hs : s j ≠ ⊥) (c : Fin 512) : Ideal.div (A c) (∑ a, L a) = (att s v n c : EReal) := by
  obtain ⟨μ, ht, hb, hMm, ⟨l, hl, hls⟩, hAm⟩ := h
  have e : ∑ a, L a = ((∑ a, l a : ℝ) : EReal) := by rw [coe_sum]; exact Finset.sum_congr rfl fun a _ => hl a
  rw [e, hAm, hls, div_coe _ _ (sum_E_pos s n _ j hj hs), att_eq]

/-- Masked keys past the first `n` do not count. -/
theorem att_extend (s : ℕ → EReal) (v : ℕ → Fin 512 → ℝ) (n k : ℕ) (c : Fin 512) (h : ∀ j, n ≤ j → s j = ⊥) : att s v (n + k) c = att s v n c := by
  unfold att
  rw [Finset.sum_range_add, Finset.sum_range_add]
  have h1 : ∑ x ∈ Finset.range k, E (s (n + x)) 0 = 0 := Finset.sum_eq_zero fun x _ => by rw [h _ (by omega), E_bot]
  have h2 : ∑ x ∈ Finset.range k, E (s (n + x)) 0 * v (n + x) c = 0 := Finset.sum_eq_zero fun x _ => by rw [h _ (by omega), E_bot, zero_mul]
  rw [h1, h2, add_zero, add_zero]

/-- A maximum of scores, none infinite and one not masked, is a number. -/
theorem max_real {ι : Type} [Fintype ι] (μ b : EReal) (f : ι → EReal) (hμ : μ ≠ ⊤) (hb : b = ⊥) (hf : ∀ i, f i ≠ ⊤) (i : ι) (hi : f i ≠ ⊥) :
    ∃ x : ℝ, max μ (Finset.fold max b f Finset.univ) = (x : EReal) := by
  subst hb
  have h1 : Finset.fold max ⊥ f Finset.univ < ⊤ := (Finset.fold_max_lt ⊤).mpr ⟨bot_lt_top, fun x _ => lt_top_iff_ne_top.mpr (hf x)⟩
  have h2 : f i ≤ Finset.fold max ⊥ f Finset.univ := (Finset.le_fold_max (f i)).mpr (Or.inr ⟨i, Finset.mem_univ _, le_refl _⟩)
  have h3 : max μ (Finset.fold max ⊥ f Finset.univ) ≠ ⊤ := (max_lt (lt_top_iff_ne_top.mpr hμ) h1).ne
  have h4 : max μ (Finset.fold max ⊥ f Finset.univ) ≠ ⊥ := fun e => hi (le_bot_iff.mp ((h2.trans (le_max_right _ _)).trans e.le))
  exact ⟨_, (EReal.coe_toReal h3 h4).symm⟩

theorem sum4 (f : ℕ → ℝ) : ∑ a : Fin 128, (f a.val + f (128 + a.val) + f (256 + a.val) + f (384 + a.val)) = ∑ j ∈ Finset.range 512, f j := by
  rw [show (512 : ℕ) = 128 + 128 + 128 + 128 by norm_num, Finset.sum_range_add, Finset.sum_range_add, Finset.sum_range_add]
  simp only [Finset.sum_add_distrib, Finset.sum_range]

theorem sum2 (f : ℕ → ℝ) : ∑ a : Fin 128, (f a.val + f (128 + a.val)) = ∑ j ∈ Finset.range 256, f j := by
  rw [show (256 : ℕ) = 128 + 128 by norm_num, Finset.sum_range_add]
  simp only [Finset.sum_add_distrib, Finset.sum_range]

end Cert.AttnReal

end
-- ==== Proof.AttnSpec.lean ====
/-
  The attention of a row over its keys as one formula of the arrays, and the softmax written with a maximum taken off.
-/
module

public import proofs.«01_k».proof.Proof.AttnReal

@[expose] public section

noncomputable section

namespace Cert.AttnSpec

open Idealize.ShloMosaic Cert.AttnReal

/-- An extended real that is a real number. -/
def isR (x : EReal) : Prop := ∃ y : ℝ, x = (y : EReal)

theorem isR.toReal {x : EReal} (h : isR x) : x = (x.toReal : EReal) := by
  obtain ⟨y, rfl⟩ := h; rw [EReal.toReal_coe]

theorem isR.ne_top {x : EReal} (h : isR x) : x ≠ ⊤ := by
  obtain ⟨y, rfl⟩ := h; exact EReal.coe_ne_top y

theorem isR.ne_bot {x : EReal} (h : isR x) : x ≠ ⊥ := by
  obtain ⟨y, rfl⟩ := h; exact EReal.coe_ne_bot y

theorem isR.mul {x y : EReal} (hx : isR x) (hy : isR y) : isR (x * y) := by
  obtain ⟨a, rfl⟩ := hx; obtain ⟨b, rfl⟩ := hy; exact ⟨a * b, (EReal.coe_mul a b).symm⟩

theorem isR.add {x y : EReal} (hx : isR x) (hy : isR y) : isR (x + y) := by
  obtain ⟨a, rfl⟩ := hx; obtain ⟨b, rfl⟩ := hy; exact ⟨a + b, (EReal.coe_add a b).symm⟩

theorem isR.sum {n : ℕ} {f : Fin n → EReal} (h : ∀ i, isR (f i)) : isR (∑ i, f i) := by
  choose g hg using h
  exact ⟨∑ i, g i, by rw [coe_sum]; exact Finset.sum_congr rfl fun i _ => hg i⟩

variable (ql : Fin 4 → Fin 2048 → Fin 8 → Fin 512 → EReal) (qp : Fin 4 → Fin 2048 → Fin 8 → Fin 64 → EReal)
  (ck : Fin 4 → Fin 2048 → Fin 512 → EReal) (kp : Fin 4 → Fin 2048 → Fin 64 → EReal)

/-- A row's score at a key before scaling; −∞ for a key after the row. -/
def sc (b : Fin 4) (r : Fin 2048) (h : Fin 8) (j : ℕ) : EReal :=
  if hj : j < 2048 then (if j ≤ r.val then ∑ c, ck b ⟨j, hj⟩ c * ql b r h c + ∑ e, kp b ⟨j, hj⟩ e * qp b r h e else ⊥) else ⊥

/-- The latent value of a key. -/
def vv (b : Fin 4) (j : ℕ) (c : Fin 512) : ℝ := if hj : j < 2048 then (ck b ⟨j, hj⟩ c).toReal else 0

/-- A row's output in one head: the attention over the keys times the head's up projection. -/
def yE (w : Fin 512 → Fin 2048 → EReal) (b : Fin 4) (r : Fin 2048) (h : Fin 8) (v : Fin 128) : EReal :=
  ∑ c, (att (sc ql qp ck kp b r h) (vv ck b) 2048 c : EReal) * w c ⟨256 * h.val + 128 + v.val, by omega⟩

section
variable {ql qp ck kp}
variable (hql : ∀ b r h c, isR (ql b r h c)) (hqp : ∀ b r h e, isR (qp b r h e)) (hck : ∀ b j c, isR (ck b j c)) (hkp : ∀ b j e, isR (kp b j e))
include hql hqp hck hkp

theorem sc_isR (b : Fin 4) (r : Fin 2048) (h : Fin 8) (j : ℕ) (hj : j ≤ r.val) : isR (sc ql qp ck kp b r h j) := by
  unfold sc
  rw [dif_pos (show j < 2048 by omega), if_pos hj]
  exact isR.add (isR.sum fun c => isR.mul (hck _ _ _) (hql _ _ _ _)) (isR.sum fun e => isR.mul (hkp _ _ _) (hqp _ _ _ _))

omit hql hqp hck hkp in
theorem sc_bot (b : Fin 4) (r : Fin 2048) (h : Fin 8) (j : ℕ) (hj : r.val < j) : sc ql qp ck kp b r h j = ⊥ := by
  unfold sc
  split
  · rw [if_neg (by omega)]
  · rfl

theorem sc_ne_top (b : Fin 4) (r : Fin 2048) (h : Fin 8) (j : ℕ) : sc ql qp ck kp b r h j ≠ ⊤ := by
  by_cases hj : j ≤ r.val
  · exact (sc_isR hql hqp hck hkp b r h j hj).ne_top
  · rw [sc_bot b r h j (by omega)]; exact bot_ne_top
end

theorem vv_eq {ck : Fin 4 → Fin 2048 → Fin 512 → EReal} (hck : ∀ b j c, isR (ck b j c)) (b : Fin 4) (j : Fin 2048) (c : Fin 512) : (vv ck b j.val c : EReal) = ck b j c := by
  unfold vv
  rw [dif_pos j.isLt]
  exact (hck b j c).toReal.symm

theorem exp_eq (s : EReal) (x : ℝ) (h : s ≠ ⊤) : Ideal.exp (s * (rho : EReal) - (x : EReal)) = (E s (x / rho) : EReal) := by
  induction s with
  | bot => rw [E_bot, EReal.bot_mul_of_pos (EReal.coe_pos.mpr rho_pos), EReal.bot_sub]; rfl
  | top => exact absurd rfl h
  | coe y =>
    rw [E_coe, ← EReal.coe_mul, ← EReal.coe_sub]
    show ((Real.exp (y * rho - x) : ℝ) : EReal) = _
    congr 2
    have := rho_pos.ne'
    field_simp

/-- The softmax with the row's maximum taken off, weighed against the values. -/
theorem soft {n : ℕ} (s : ℕ → EReal) (v : ℕ → Fin 512 → ℝ) (c : Fin 512) (ht : ∀ j, s j ≠ ⊤) (j0 : Fin n) (h0 : s j0.val ≠ ⊥)
    (S K : Fin n → EReal) (hS : ∀ j, S j = s j.val * (rho : EReal)) (hK : ∀ j, K j = (v j.val c : EReal)) (B : EReal) (hB : B = ⊥) :
    ∑ j, K j * Ideal.div (Ideal.exp (S j - max B (Finset.fold max B S Finset.univ))) (∑ i, Ideal.exp (S i - max B (Finset.fold max B S Finset.univ)))
      = (att s v n c : EReal) := by
  have hlin : ∀ j : Fin n, (s j.val = ⊥ ∧ S j = ⊥) ∨ ∃ y : ℝ, s j.val = (y : EReal) ∧ S j = ((y * rho : ℝ) : EReal) := fun j => by
    rw [hS]
    have h1 := ht j.val
    generalize s j.val = z at h1
    induction z with
    | bot => exact Or.inl ⟨rfl, EReal.bot_mul_of_pos (EReal.coe_pos.mpr rho_pos)⟩
    | top => exact absurd rfl h1
    | coe y => exact Or.inr ⟨y, rfl, (EReal.coe_mul y rho).symm⟩
  obtain ⟨x, hx⟩ := max_real B B S (by rw [hB]; exact bot_ne_top) hB (fun j => by
    rcases hlin j with ⟨_, h⟩ | ⟨y, _, h⟩ <;> rw [h]
    · exact bot_ne_top
    · exact EReal.coe_ne_top _) j0 (by
    rcases hlin j0 with ⟨h, _⟩ | ⟨y, _, h⟩
    · exact absurd h h0
    · rw [h]; exact EReal.coe_ne_bot _)
  rw [hx]
  have he : ∀ j, Ideal.exp (S j - (x : EReal)) = (E (s j.val) (x / rho) : EReal) := fun j => by rw [hS, exp_eq _ _ (ht _)]
  simp only [he]
  have hZ : ∑ i : Fin n, (E (s i.val) (x / rho) : EReal) = ((∑ i ∈ Finset.range n, E (s i) (x / rho) : ℝ) : EReal) := by
    refine (coe_sum Finset.univ fun i : Fin n => E (s i.val) (x / rho)).symm.trans ?_
    exact congrArg Real.toEReal (Finset.sum_range fun i => E (s i) (x / rho)).symm
  rw [hZ]
  have hpos := sum_E_pos s n (x / rho) j0.val j0.isLt h0
  have hterm : ∀ j : Fin n, K j * Ideal.div (E (s j.val) (x / rho) : EReal) ((∑ i ∈ Finset.range n, E (s i) (x / rho) : ℝ) : EReal)
      = ((E (s j.val) (x / rho) * v j.val c / ∑ i ∈ Finset.range n, E (s i) (x / rho) : ℝ) : EReal) := fun j => by
    rw [div_coe _ _ hpos, hK, ← EReal.coe_mul]
    congr 1
    ring
  simp only [hterm]
  refine (coe_sum Finset.univ fun j : Fin n => E (s j.val) (x / rho) * v j.val c / ∑ i ∈ Finset.range n, E (s i) (x / rho)).symm.trans (congrArg Real.toEReal ?_)
  refine Eq.trans ?_ (att_eq s v n c (x / rho))
  refine (Finset.sum_div _ _ _).symm.trans ?_
  exact congrArg (· / ∑ i ∈ Finset.range n, E (s i) (x / rho)) (Finset.sum_range fun j => E (s j) (x / rho) * v j c).symm

/-- A sum of products over the concatenated columns. -/
theorem sum640 (f g : Fin 640 → EReal) (a a' : Fin 512 → EReal) (b b' : Fin 64 → EReal)
    (hf0 : ∀ c : Fin 512, f ⟨c.val, by omega⟩ = a c) (hf1 : ∀ e : Fin 64, f ⟨512 + e.val, by omega⟩ = b e)
    (hg0 : ∀ c : Fin 512, g ⟨c.val, by omega⟩ = a' c) (hg1 : ∀ e : Fin 64, g ⟨512 + e.val, by omega⟩ = b' e) (hg2 : ∀ e : Fin 64, g ⟨576 + e.val, by omega⟩ = 0) :
    ∑ x, f x * g x = ∑ c, a' c * a c + ∑ e, b' e * b e := by
  have h1 : ∑ x, f x * g x = ∑ x : Fin 576, f ⟨x.val, by omega⟩ * g ⟨x.val, by omega⟩ + ∑ x : Fin 64, f ⟨576 + x.val, by omega⟩ * g ⟨576 + x.val, by omega⟩ :=
    Fin.sum_univ_add (fun x : Fin (576 + 64) => f x * g x)
  have h2 : ∑ x : Fin 576, f ⟨x.val, by omega⟩ * g ⟨x.val, by omega⟩ = ∑ x : Fin 512, f ⟨x.val, by omega⟩ * g ⟨x.val, by omega⟩ + ∑ x : Fin 64, f ⟨512 + x.val, by omega⟩ * g ⟨512 + x.val, by omega⟩ :=
    Fin.sum_univ_add (fun x : Fin (512 + 64) => f ⟨x.val, by omega⟩ * g ⟨x.val, by omega⟩)
  rw [h1, h2]
  simp only [hf0, hf1, hg0, hg1, hg2, mul_zero, Finset.sum_const_zero, add_zero]
  congr 1 <;> exact Finset.sum_congr rfl fun _ _ => mul_comm _ _

end Cert.AttnSpec

end
-- ==== Proof.AttnPre.lean ====
/-
  What the precondition says: every entry of the four arrays it names is a real number.
-/
module

public import proofs.«01_k».proof.Defs
public import proofs.«01_k».proof.Proof.Gen.Pre_finite_attn
public import proofs.«01_k».proof.Proof.AttnSpec

@[expose] public section

noncomputable section

namespace Cert.AttnPre

open Idealize.ShloMosaic
open Cert.AttnSpec

/-- An array whose entries compare below infinity in absolute value has real entries. -/
theorem isR_of {s : Shape} (a : FVec Ideal s .bf16) (hb : Cert.Pre_finite_attn.S_.BroadcastsInDim s (![] : Fin 0 → Fin s.rank))
    (h : cmpf .olt (Host.absf a) (broadcastInDim s ![] hb (constant (F := Ideal) Cert.Pre_finite_attn.S_ .bf16 0x7F80#16)) = fun _ => 1#1) (i : s.Idx) : isR (a i) := by
  have h1 := congrFun h i
  have h2 : BitVec.ofBool (decide (max (a i : EReal) (-(a i : EReal)) < Ideal.ofBits .bf16 0x7F80#16)) = 1#1 := h1
  have ht : Ideal.ofBits .bf16 0x7F80#16 = (⊤ : EReal) := rfl
  rw [ht] at h2
  have h3 : max (a i : EReal) (-(a i : EReal)) < ⊤ := by
    by_contra hn
    rw [decide_eq_false hn] at h2
    exact absurd h2 (by decide)
  have hx : (a i : EReal) ≠ ⊤ := fun e => by rw [e] at h3; simp at h3
  have hy : (a i : EReal) ≠ ⊥ := fun e => by rw [e] at h3; simp at h3
  exact ⟨(a i : EReal).toReal, (EReal.coe_toReal hx hy).symm⟩

end Cert.AttnPre

end
-- ==== Proof.AttnConst.lean ====
/-
  The reference's scale under its root, as the real number its pattern denotes.
-/
module

public import Idealize.ShloMosaic.PureOps.Ideal

@[expose] public section

noncomputable section

namespace Cert.AttnConst

open Idealize.ShloMosaic

theorem ofBits_192 : Ideal.ofBits .f32 0x43400000#32 = ((192 : ℝ) : EReal) := by
  simp [Ideal.ofBits, Ideal.ieee, -EReal.coe_mul]; norm_num

end Cert.AttnConst

end
-- ==== Proof.AttnRef.lean ====
/-
  The attention's reference read at an index.
-/
module

public import proofs.«01_k».proof.Defs
public import proofs.«01_k».proof.Proof.Gen.Reference4Ideal.Run
public import proofs.«01_k».proof.Proof.AttnSpec
public import proofs.«01_k».proof.Proof.AttnConst
public import Idealize.ShloMosaic.Lib.Pointwise
public import Idealize.ShloMosaic.Lib.Tactic.ValueTie

@[expose] public section

set_option maxRecDepth 200000
set_option maxHeartbeats 1000000

noncomputable section

namespace Cert.Reference4Ideal.Attn

open Idealize.ShloMosaic Idealize.ShloMosaic.TcCoe Idealize.SL.Sem
open Cert.Reference4Ideal Cert.Reference4Ideal.Gen Cert.AttnSpec Cert.AttnReal

variable (m : (ℓ : Loc nD τ sig) → Buf (Elt Ideal) ℓ)

abbrev aQ (c : Dev nD) (b : Fin 4) (r : Fin 2048) (h : Fin 8) (k : Fin 512) : EReal := m (c.tc.loc main_arg0) (ix4 b r h k)
abbrev aP (c : Dev nD) (b : Fin 4) (r : Fin 2048) (h : Fin 8) (k : Fin 64) : EReal := m (c.tc.loc main_arg1) (ix4 b r h k)
abbrev aC (c : Dev nD) (b : Fin 4) (r : Fin 2048) (k : Fin 512) : EReal := m (c.tc.loc main_arg2) (ix3 b r k)
abbrev aK (c : Dev nD) (b : Fin 4) (r : Fin 2048) (k : Fin 64) : EReal := m (c.tc.loc main_arg3) (ix3 b r k)
abbrev aW (c : Dev nD) (k : Fin 512) (n : Fin 2048) : EReal := m (c.tc.loc main_arg4) (ix3 0 k n)

/-- The masked scaled scores, as the reference computes them. -/
def sArr (Q : FVec Ideal S4x2048x8x512 .bf16) (P : FVec Ideal S4x2048x8x64 .bf16) (C : FVec Ideal S4x2048x512 .bf16) (K : FVec Ideal S4x2048x64 .bf16) : FVec Ideal S4x8x2048x2048 .f32 :=
  select (broadcastInDim S4x8x2048x2048 ![2, 3] bcast_S2048x2048_S4x8x2048x2048_2_3 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1)))) (Host.divf (addf (transpose S4x8x2048x2048 [0, 3, 2, 1] (Host.dotGeneral dot_S4x2048x512_S4x2048x8x512_S4x2048x2048x8_2_3_1_12_0_0 none (extf .f32 C bitsLt_bf16_f32) (extf .f32 Q bitsLt_bf16_f32)) transposes_S4x2048x2048x8_S4x8x2048x2048_0_3_2_1) (transpose S4x8x2048x2048 [0, 3, 2, 1] (Host.dotGeneral dot_S4x2048x64_S4x2048x8x64_S4x2048x2048x8_2_3_1_12_0_0 none (extf .f32 K bitsLt_bf16_f32) (extf .f32 P bitsLt_bf16_f32)) transposes_S4x2048x2048x8_S4x8x2048x2048_0_3_2_1)) (broadcastInDim S4x8x2048x2048 ![] bcast_S_S4x8x2048x2048 (Host.sqrt (constant S_ .f32 0x43400000#32)))) (broadcastInDim S4x8x2048x2048 ![] bcast_S_S4x8x2048x2048 (id (constant S_ .f32 0xFF800000#32)))

/-- Each row's largest score. -/
def mArr (s : FVec Ideal S4x8x2048x2048 .f32) : FVec Ideal S4x8x2048 .f32 :=
  Host.reduce FloatOps.maximumf s (constant S_ .f32 0xFF800000#32) reducesTo_S4x8x2048x2048_S4x8x2048_d3 h_S_

/-- The exponentials of the scores less a row value. -/
def eArr (s : FVec Ideal S4x8x2048x2048 .f32) (m0 : FVec Ideal S4x8x2048 .f32) : FVec Ideal S4x8x2048x2048 .f32 :=
  Host.exp (subf s (broadcastInDim S4x8x2048x2048 ![0, 1, 2, 3] bcast_S4x8x2048x1_S4x8x2048x2048_0_1_2_3 (broadcastInDim S4x8x2048x1 ![0, 1, 2] bcast_S4x8x2048_S4x8x2048x1_0_1_2 (maximumf (broadcastInDim S4x8x2048 ![] bcast_S_S4x8x2048 (constant S_ .f32 0xFF800000#32)) m0))))

/-- Each row's sum. -/
def dArr (e : FVec Ideal S4x8x2048x2048 .f32) : FVec Ideal S4x8x2048 .f32 :=
  Host.reduceAdd e (constant S_ .f32 0x00000000#32) reducesTo_S4x8x2048x2048_S4x8x2048_d3 h_S_

/-- The softmax of an array of scores over its last axis. -/
def pArr (s : FVec Ideal S4x8x2048x2048 .f32) : FVec Ideal S4x8x2048x2048 .f32 :=
  Host.divf (eArr s (mArr s)) (broadcastInDim S4x8x2048x2048 ![0, 1, 2, 3] bcast_S4x8x2048x1_S4x8x2048x2048_0_1_2_3 (broadcastInDim S4x8x2048x1 ![0, 1, 2] bcast_S4x8x2048_S4x8x2048x1_0_1_2 (dArr (eArr s (mArr s)))))

/-- The weighted values, projected by the value half of the weights. -/
def oArr (p : FVec Ideal S4x8x2048x2048 .f32) (C : FVec Ideal S4x2048x512 .bf16) (W : FVec Ideal S1x512x2048 .f32) : FVec Ideal S4x2048x1024 .bf16 :=
  truncf .bf16 (shapeCast _ (transpose S4x2048x8x128 [2, 3, 0, 1] (Host.dotGeneral dot_S512x8x128_S4x2048x8x512_S8x128x4x2048_0_3_2_01_1_2 none (extractStridedSlice S512x8x128 ![0, 0, 128] (shapeCast _ (shapeCast _ W shapeCasts_S1x512x2048_S512x2048) shapeCasts_S512x2048_S512x8x256) slices_S512x8x256_S512x8x128_0_0_128) (transpose S4x2048x8x512 [0, 3, 2, 1] (Host.dotGeneral dot_S4x2048x512_S4x8x2048x2048_S4x512x8x2048_1_3_2_12_0_0 none (extf .f32 C bitsLt_bf16_f32) p) transposes_S4x512x8x2048_S4x2048x8x512_0_3_2_1)) transposes_S8x128x4x2048_S4x2048x8x128_2_3_0_1) shapeCasts_S4x2048x8x128_S4x2048x1024) bitsLt_bf16_f32

theorem res_eq (c : Dev nD) : Value.res_main_v34 m c = oArr (pArr (sArr (m (c.tc.loc main_arg0)) (m (c.tc.loc main_arg1)) (m (c.tc.loc main_arg2)) (m (c.tc.loc main_arg3)))) (m (c.tc.loc main_arg2)) (m (c.tc.loc main_arg4)) := by
  unfold Value.res_main_v34 oArr pArr dArr eArr mArr sArr
  rfl

theorem oArr_apply (p : FVec Ideal S4x8x2048x2048 .f32) (C : FVec Ideal S4x2048x512 .bf16) (W : FVec Ideal S1x512x2048 .f32) (b : Fin 4) (r : Fin 2048) (d : Fin 1024) :
    oArr p C W (ix3 b r d) = ∑ k : Fin 512, (∑ j : Fin 2048, C (ix3 b j k) * p (ix4 b ⟨d.val / 128, by omega⟩ r j)) * W (ix3 0 k ⟨256 * (d.val / 128) + 128 + d.val % 128, by omega⟩) := by
  unfold oArr
  clean_types
  pointwise
  refine Finset.sum_congr rfl fun k _ => ?_
  refine Eq.trans ?_ (mul_comm _ _)
  refine congrArg₂ (· * ·) ?_ rfl
  refine congrArg W (congrArg (fun x => ix3 0 k x) (Fin.ext ?_))
  dsimp only
  omega

theorem mArr_apply (s : FVec Ideal S4x8x2048x2048 .f32) (b : Fin 4) (h : Fin 8) (r : Fin 2048) :
    mArr s (ix3 b h r) = Finset.fold max (Ideal.ofBits FTy.f32 4286578688#32) (fun i : Fin 2048 => s (ix4 b h r i)) Finset.univ := by
  unfold mArr
  pointwise

theorem dArr_apply (e : FVec Ideal S4x8x2048x2048 .f32) (b : Fin 4) (h : Fin 8) (r : Fin 2048) :
    dArr e (ix3 b h r) = ∑ i : Fin 2048, e (ix4 b h r i) := by
  unfold dArr
  pointwise

theorem eArr_apply (s : FVec Ideal S4x8x2048x2048 .f32) (m0 : FVec Ideal S4x8x2048 .f32) (b : Fin 4) (h : Fin 8) (r j : Fin 2048) :
    eArr s m0 (ix4 b h r j) = Ideal.exp (s (ix4 b h r j) - max (Ideal.ofBits FTy.f32 4286578688#32) (m0 (ix3 b h r))) := by
  unfold eArr
  pointwise

theorem qArr_apply (e : FVec Ideal S4x8x2048x2048 .f32) (d : FVec Ideal S4x8x2048 .f32) (b : Fin 4) (h : Fin 8) (r j : Fin 2048) :
    Host.divf e (broadcastInDim S4x8x2048x2048 ![0, 1, 2, 3] bcast_S4x8x2048x1_S4x8x2048x2048_0_1_2_3 (broadcastInDim S4x8x2048x1 ![0, 1, 2] bcast_S4x8x2048_S4x8x2048x1_0_1_2 d)) (ix4 b h r j) = Ideal.div (e (ix4 b h r j)) (d (ix3 b h r)) := by
  pointwise

theorem pArr_apply (s : FVec Ideal S4x8x2048x2048 .f32) (b : Fin 4) (h : Fin 8) (r j : Fin 2048) :
    pArr s (ix4 b h r j) = Ideal.div (Ideal.exp (s (ix4 b h r j) - max (Ideal.ofBits FTy.f32 4286578688#32) (Finset.fold max (Ideal.ofBits FTy.f32 4286578688#32) (fun i => s (ix4 b h r i)) Finset.univ)))
      (∑ i : Fin 2048, Ideal.exp (s (ix4 b h r i) - max (Ideal.ofBits FTy.f32 4286578688#32) (Finset.fold max (Ideal.ofBits FTy.f32 4286578688#32) (fun i => s (ix4 b h r i)) Finset.univ))) := by
  unfold pArr
  refine (qArr_apply _ _ b h r j).trans ?_
  rw [dArr_apply]
  simp only [eArr_apply, mArr_apply]

/-- A row's scaled and masked score at a key. -/
def S (c : Dev nD) (b : Fin 4) (r : Fin 2048) (h : Fin 8) (j : Fin 2048) : EReal :=
  sArr (m (c.tc.loc main_arg0)) (m (c.tc.loc main_arg1)) (m (c.tc.loc main_arg2)) (m (c.tc.loc main_arg3)) (ix4 b h r j)

theorem sArr_apply (Q : FVec Ideal S4x2048x8x512 .bf16) (P : FVec Ideal S4x2048x8x64 .bf16) (C : FVec Ideal S4x2048x512 .bf16) (K : FVec Ideal S4x2048x64 .bf16) (b : Fin 4) (h : Fin 8) (r j : Fin 2048) :
    sArr Q P C K (ix4 b h r j) = Scalar.select (Scalar.select (IntOp.cmpi CmpIPredicate.sge (IntOp.addi (BitVec.ofNat 32 r.val) 0#32) (BitVec.ofNat 32 j.val)) 1#1 0#1)
    (Ideal.div (∑ x, C (ix3 b j x) * Q (ix4 b r h x) + ∑ x, K (ix3 b j x) * P (ix4 b r h x)) (Ideal.sqrt (Ideal.ofBits FTy.f32 0x43400000#32)))
    (id (constant (F := Ideal) S_ FTy.f32 4286578688#32) ix0) := by
  unfold sArr
  clean_types
  pointwise

theorem sel_bit (x : BitVec 1) (z : EReal) : Scalar.select (Scalar.select x 1#1 0#1) z (⊥ : EReal) = Scalar.select x z ⊥ := by
  have h : ∀ x : BitVec 1, Scalar.select x (1#1) (0#1) = x := by decide
  rw [h]

theorem sel_sge (a b : ℕ) (ha : a < 2 ^ 30) (hb : b < 2 ^ 30) (z : EReal) :
    Scalar.select (IntOp.cmpi CmpIPredicate.sge (BitVec.ofNat 32 a) (BitVec.ofNat 32 b)) z (⊥ : EReal) = if b ≤ a then z else ⊥ := by
  have e : IntOp.cmpi CmpIPredicate.sge (BitVec.ofNat 32 a) (BitVec.ofNat 32 b) = if b ≤ a then 1#1 else 0#1 := by
    have t : ∀ n : ℕ, n < 2 ^ 30 → (BitVec.ofNat 32 n).toInt = (n : ℤ) := fun n hn => by
      rw [BitVec.toInt_eq_toNat_of_lt (by rw [BitVec.toNat_ofNat]; omega), BitVec.toNat_ofNat]
      congr 1
      omega
    have h1 : (BitVec.ofNat 32 b).sle (BitVec.ofNat 32 a) = decide (b ≤ a) := by
      rw [BitVec.sle_eq_decide, t a ha, t b hb]
      simp
    show BitVec.ofBool ((BitVec.ofNat 32 b).sle (BitVec.ofNat 32 a)) = _
    rw [h1]
    by_cases hab : b ≤ a <;> simp [hab]
  rw [e]
  split <;> rfl

theorem S_eq (c : Dev nD) (b : Fin 4) (r : Fin 2048) (h : Fin 8) (j : Fin 2048) :
    S m c b r h j = sc (aQ m c) (aP m c) (aC m c) (aK m c) b r h j.val * (rho : EReal) := by
  refine (sArr_apply _ _ _ _ b h r j).trans ?_
  unfold sc
  rw [show (id (constant (F := Ideal) S_ FTy.f32 4286578688#32) ix0 : EReal) = ⊥ from rfl, sel_bit, show IntOp.addi (BitVec.ofNat 32 r.val) 0#32 = BitVec.ofNat 32 r.val from BitVec.add_zero _,
    sel_sge _ _ (by omega) (by omega), dif_pos j.isLt]
  by_cases hj : j.val ≤ r.val
  · rw [if_pos hj, if_pos hj, AttnConst.ofBits_192]
    simp only [Ideal.sqrt_coe, show ¬(192 : ℝ) < 0 from by norm_num, ↓reduceIte, Ideal.div_coe (show Real.sqrt 192 ≠ 0 from (Real.sqrt_pos.mpr (by norm_num)).ne'), one_div]
    rfl
  · rw [if_neg hj, if_neg hj, EReal.bot_mul_of_pos (EReal.coe_pos.mpr rho_pos)]

theorem ref_apply (c : Dev nD) (b : Fin 4) (r : Fin 2048) (d : Fin 1024)
    (hql : ∀ b r h k, isR (aQ m c b r h k)) (hqp : ∀ b r h e, isR (aP m c b r h e)) (hck : ∀ b j k, isR (aC m c b j k)) (hkp : ∀ b j e, isR (aK m c b j e)) :
    (Value.res_main_v34 m c : S4x2048x1024.Idx → EReal) (ix3 b r d)
      = yE (aQ m c) (aP m c) (aC m c) (aK m c) (aW m c) b r ⟨d.val / 128, by omega⟩ ⟨d.val % 128, Nat.mod_lt _ (by decide)⟩ := by
  refine (congrFun (res_eq m c) (ix3 b r d)).trans ?_
  refine (oArr_apply _ _ _ b r d).trans ?_
  unfold yE
  refine Finset.sum_congr rfl fun k _ => ?_
  refine congrArg₂ (· * ·) ?_ rfl
  refine Eq.trans ?_ (soft _ _ k (sc_ne_top hql hqp hck hkp b r ⟨d.val / 128, by omega⟩) r (sc_isR hql hqp hck hkp b r _ r.val (le_refl _)).ne_bot
      (S m c b r ⟨d.val / 128, by omega⟩) (fun j => aC m c b j k) (fun j => S_eq m c b r _ j) (fun j => (vv_eq hck b j k).symm) (Ideal.ofBits FTy.f32 4286578688#32) rfl)
  refine Finset.sum_congr rfl fun j _ => ?_
  exact congrArg₂ (· * ·) rfl (pArr_apply _ b _ r j)

end Cert.Reference4Ideal.Attn

end
-- ==== Proof.AttnOps.lean ====
/-
  One head of the prompt's attention, one step of its online softmax: over a whole earlier block of keys (`t…`), and over the
  diagonal block for the upper (`u…`) and the lower (`w…`) half of the rows. Per step: the logits, the new maximum, the
  rescaling, the weights, the new sums and the new output.
-/
module

public import proofs.«01_k».proof.Proof.AttnITrip

@[expose] public section

set_option maxRecDepth 16384

noncomputable section

namespace Cert.Kernel4Ideal.Attn

open Idealize.ShloMosaic Idealize.ShloMosaic.TcCoe
open Cert.Kernel4Ideal Cert.Kernel4Ideal.Gen

variable {F : FTy → Type} [FloatOps F] [Named F]

/-- The factor on the logits: the scale of the scores times the base-2 logarithm of e. -/
def scl (R : Shape) : FVec F R .f32 := broadcast R (Named.named κ "scale" 0x3DD53B95#32 : F .f32)

/-- A block of keys as a matrix. -/
def kvm (kv : Vec F S1x512x640 .bf16) : FVec F S512x640 .bf16 := shapeCast S512x640 kv shapeCasts_S1x512x640_S512x640

/-- The logits of a whole block. -/
def tS (q : FVec F S512x640 .bf16) (kv : Vec F S1x512x640 .bf16) : FVec F S512x512 .f32 :=
  matmul dot_S512x640_S512x640_S512x512_1_1_0_0_n_n none q (kvm kv) (constant S512x512 .f32 0x00000000#32)

/-- The masked logits of the diagonal block, upper half. -/
def uS (q : FVec F S512x640 .bf16) (kv : Vec F S1x512x640 .bf16) : FVec F S256x256 .f32 :=
  select (cmpi .sle (iota .tc S256x256 32 [1] iota_S256x256_d1_w32) (addi (iota .tc S256x256 32 [0] iota_S256x256_d0_w32) (broadcast S256x256 0#32)))
    (matmul dot_S256x640_S256x640_S256x256_1_1_0_0_n_n none (extractStridedSlice S256x640 ![0, 0] q slices_S512x640_o0_0_S256x640)
      (extractStridedSlice S256x640 ![0, 0] (kvm kv) slices_S512x640_o0_0_S256x640) (constant S256x256 .f32 0x00000000#32))
    (broadcast S256x256 (Scalar.ofBits .f32 0xFF800000#32 : F .f32))

/-- The masked logits of the diagonal block, lower half. -/
def wS (q : FVec F S512x640 .bf16) (kv : Vec F S1x512x640 .bf16) : FVec F S256x512 .f32 :=
  select (cmpi .sle (iota .tc S256x512 32 [1] iota_S256x512_d1_w32) (addi (iota .tc S256x512 32 [0] iota_S256x512_d0_w32) (broadcast S256x512 256#32)))
    (matmul dot_S256x640_S512x640_S256x512_1_1_0_0_n_n none (extractStridedSlice S256x640 ![256, 0] q slices_S512x640_o256_0_S256x640)
      (kvm kv) (constant S256x512 .f32 0x00000000#32))
    (broadcast S256x512 (Scalar.ofBits .f32 0xFF800000#32 : F .f32))

/-- The values of a whole block: its first 512 columns. -/
def tV (kv : Vec F S1x512x640 .bf16) : FVec F S512x512 .bf16 := extractStridedSlice S512x512 ![0, 0] (kvm kv) slices_S512x640_o0_0_S512x512
/-- The values of the diagonal block's first 256 keys. -/
def uV (kv : Vec F S1x512x640 .bf16) : FVec F S256x512 .bf16 := extractStridedSlice S256x512 ![0, 0] (kvm kv) slices_S512x640_o0_0_S256x512

def tB0 (s : FVec F S512x512 .f32) : FVec F S512x128 .f32 := extractStridedSlice S512x128 ![0, 0] s slices_S512x512_o0_0_S512x128
def tB1 (s : FVec F S512x512 .f32) : FVec F S512x128 .f32 := extractStridedSlice S512x128 ![0, 128] s slices_S512x512_o0_128_S512x128
def tB2 (s : FVec F S512x512 .f32) : FVec F S512x128 .f32 := extractStridedSlice S512x128 ![0, 256] s slices_S512x512_o0_256_S512x128
def tB3 (s : FVec F S512x512 .f32) : FVec F S512x128 .f32 := extractStridedSlice S512x128 ![0, 384] s slices_S512x512_o0_384_S512x128
/-- The new maximum. -/
def tM (s : FVec F S512x512 .f32) (m : Vec F S512x128 .f32) : FVec F S512x128 .f32 :=
  maximumf m (broadcastTo S512x128 (shapeCast S512x1 (multiReduction .maximumf [1] S512 (maximumf (maximumf (maximumf (tB0 s) (tB1 s)) (tB2 s)) (tB3 s)) 0xFF800000#32 reduces_S512x128_S512 (.inl rfl) rfl) shapeCasts_S512_S512x1) broadcasts_S512x1_S512x128)
/-- The rescaling. -/
def tAl (s : FVec F S512x512 .f32) (m : Vec F S512x128 .f32) : FVec F S512x128 .f32 := exp2 (mulf (subf m (tM s m)) (scl S512x128))
def tP0 (s : FVec F S512x512 .f32) (m : Vec F S512x128 .f32) : FVec F S512x128 .f32 := exp2 (mulf (subf (tB0 s) (tM s m)) (scl S512x128))
def tP1 (s : FVec F S512x512 .f32) (m : Vec F S512x128 .f32) : FVec F S512x128 .f32 := exp2 (mulf (subf (tB1 s) (tM s m)) (scl S512x128))
def tP2 (s : FVec F S512x512 .f32) (m : Vec F S512x128 .f32) : FVec F S512x128 .f32 := exp2 (mulf (subf (tB2 s) (tM s m)) (scl S512x128))
def tP3 (s : FVec F S512x512 .f32) (m : Vec F S512x128 .f32) : FVec F S512x128 .f32 := exp2 (mulf (subf (tB3 s) (tM s m)) (scl S512x128))
/-- The new sums, lane by lane. -/
def tL (s : FVec F S512x512 .f32) (m l : Vec F S512x128 .f32) : FVec F S512x128 .f32 := addf (mulf (tAl s m) l) (addf (addf (addf (tP0 s m) (tP1 s m)) (tP2 s m)) (tP3 s m))
/-- The weights times the values. -/
def tPV (s : FVec F S512x512 .f32) (m : Vec F S512x128 .f32) (v : FVec F S512x512 .bf16) : FVec F S512x512 .f32 :=
  matmul dot_S512x512_S512x512_S512x512_1_0_0_1_n_n none (truncf .bf16 (concatenate S512x512 1 [⟨S512x128, tP0 s m⟩, ⟨S512x128, tP1 s m⟩, ⟨S512x128, tP2 s m⟩, ⟨S512x128, tP3 s m⟩] concatenates_S512x128_S512x128_S512x128_S512x128_S512x512_d1) bitsLt_bf16_f32) v (constant S512x512 .f32 0x00000000#32)
def tA0 (s : FVec F S512x512 .f32) (m : Vec F S512x128 .f32) (v : FVec F S512x512 .bf16) (a : Vec F S512x128 .f32) : FVec F S512x128 .f32 := addf (mulf (tAl s m) a) (extractStridedSlice S512x128 ![0, 0] (tPV s m v) slices_S512x512_o0_0_S512x128)
def tA1 (s : FVec F S512x512 .f32) (m : Vec F S512x128 .f32) (v : FVec F S512x512 .bf16) (a : Vec F S512x128 .f32) : FVec F S512x128 .f32 := addf (mulf (tAl s m) a) (extractStridedSlice S512x128 ![0, 128] (tPV s m v) slices_S512x512_o0_128_S512x128)
def tA2 (s : FVec F S512x512 .f32) (m : Vec F S512x128 .f32) (v : FVec F S512x512 .bf16) (a : Vec F S512x128 .f32) : FVec F S512x128 .f32 := addf (mulf (tAl s m) a) (extractStridedSlice S512x128 ![0, 256] (tPV s m v) slices_S512x512_o0_256_S512x128)
def tA3 (s : FVec F S512x512 .f32) (m : Vec F S512x128 .f32) (v : FVec F S512x512 .bf16) (a : Vec F S512x128 .f32) : FVec F S512x128 .f32 := addf (mulf (tAl s m) a) (extractStridedSlice S512x128 ![0, 384] (tPV s m v) slices_S512x512_o0_384_S512x128)
def uB0 (s : FVec F S256x256 .f32) : FVec F S256x128 .f32 := extractStridedSlice S256x128 ![0, 0] s slices_S256x256_o0_0_S256x128
def uB1 (s : FVec F S256x256 .f32) : FVec F S256x128 .f32 := extractStridedSlice S256x128 ![0, 128] s slices_S256x256_o0_128_S256x128
/-- The new maximum. -/
def uM (s : FVec F S256x256 .f32) (m : Vec F S256x128 .f32) : FVec F S256x128 .f32 :=
  maximumf m (broadcastTo S256x128 (shapeCast S256x1 (multiReduction .maximumf [1] S256 (maximumf (uB0 s) (uB1 s)) 0xFF800000#32 reduces_S256x128_S256 (.inl rfl) rfl) shapeCasts_S256_S256x1) broadcasts_S256x1_S256x128)
/-- The rescaling. -/
def uAl (s : FVec F S256x256 .f32) (m : Vec F S256x128 .f32) : FVec F S256x128 .f32 := exp2 (mulf (subf m (uM s m)) (scl S256x128))
def uP0 (s : FVec F S256x256 .f32) (m : Vec F S256x128 .f32) : FVec F S256x128 .f32 := exp2 (mulf (subf (uB0 s) (uM s m)) (scl S256x128))
def uP1 (s : FVec F S256x256 .f32) (m : Vec F S256x128 .f32) : FVec F S256x128 .f32 := exp2 (mulf (subf (uB1 s) (uM s m)) (scl S256x128))
/-- The new sums, lane by lane. -/
def uL (s : FVec F S256x256 .f32) (m l : Vec F S256x128 .f32) : FVec F S256x128 .f32 := addf (mulf (uAl s m) l) (addf (uP0 s m) (uP1 s m))
/-- The weights times the values. -/
def uPV (s : FVec F S256x256 .f32) (m : Vec F S256x128 .f32) (v : FVec F S256x512 .bf16) : FVec F S256x512 .f32 :=
  matmul dot_S256x256_S256x512_S256x512_1_0_0_1_n_n none (truncf .bf16 (concatenate S256x256 1 [⟨S256x128, uP0 s m⟩, ⟨S256x128, uP1 s m⟩] concatenates_S256x128_S256x128_S256x256_d1) bitsLt_bf16_f32) v (constant S256x512 .f32 0x00000000#32)
def uA0 (s : FVec F S256x256 .f32) (m : Vec F S256x128 .f32) (v : FVec F S256x512 .bf16) (a : Vec F S256x128 .f32) : FVec F S256x128 .f32 := addf (mulf (uAl s m) a) (extractStridedSlice S256x128 ![0, 0] (uPV s m v) slices_S256x512_o0_0_S256x128)
def uA1 (s : FVec F S256x256 .f32) (m : Vec F S256x128 .f32) (v : FVec F S256x512 .bf16) (a : Vec F S256x128 .f32) : FVec F S256x128 .f32 := addf (mulf (uAl s m) a) (extractStridedSlice S256x128 ![0, 128] (uPV s m v) slices_S256x512_o0_128_S256x128)
def uA2 (s : FVec F S256x256 .f32) (m : Vec F S256x128 .f32) (v : FVec F S256x512 .bf16) (a : Vec F S256x128 .f32) : FVec F S256x128 .f32 := addf (mulf (uAl s m) a) (extractStridedSlice S256x128 ![0, 256] (uPV s m v) slices_S256x512_o0_256_S256x128)
def uA3 (s : FVec F S256x256 .f32) (m : Vec F S256x128 .f32) (v : FVec F S256x512 .bf16) (a : Vec F S256x128 .f32) : FVec F S256x128 .f32 := addf (mulf (uAl s m) a) (extractStridedSlice S256x128 ![0, 384] (uPV s m v) slices_S256x512_o0_384_S256x128)
def wB0 (s : FVec F S256x512 .f32) : FVec F S256x128 .f32 := extractStridedSlice S256x128 ![0, 0] s slices_S256x512_o0_0_S256x128
def wB1 (s : FVec F S256x512 .f32) : FVec F S256x128 .f32 := extractStridedSlice S256x128 ![0, 128] s slices_S256x512_o0_128_S256x128
def wB2 (s : FVec F S256x512 .f32) : FVec F S256x128 .f32 := extractStridedSlice S256x128 ![0, 256] s slices_S256x512_o0_256_S256x128
def wB3 (s : FVec F S256x512 .f32) : FVec F S256x128 .f32 := extractStridedSlice S256x128 ![0, 384] s slices_S256x512_o0_384_S256x128
/-- The new maximum. -/
def wM (s : FVec F S256x512 .f32) (m : Vec F S256x128 .f32) : FVec F S256x128 .f32 :=
  maximumf m (broadcastTo S256x128 (shapeCast S256x1 (multiReduction .maximumf [1] S256 (maximumf (maximumf (maximumf (wB0 s) (wB1 s)) (wB2 s)) (wB3 s)) 0xFF800000#32 reduces_S256x128_S256 (.inl rfl) rfl) shapeCasts_S256_S256x1) broadcasts_S256x1_S256x128)
/-- The rescaling. -/
def wAl (s : FVec F S256x512 .f32) (m : Vec F S256x128 .f32) : FVec F S256x128 .f32 := exp2 (mulf (subf m (wM s m)) (scl S256x128))
def wP0 (s : FVec F S256x512 .f32) (m : Vec F S256x128 .f32) : FVec F S256x128 .f32 := exp2 (mulf (subf (wB0 s) (wM s m)) (scl S256x128))
def wP1 (s : FVec F S256x512 .f32) (m : Vec F S256x128 .f32) : FVec F S256x128 .f32 := exp2 (mulf (subf (wB1 s) (wM s m)) (scl S256x128))
def wP2 (s : FVec F S256x512 .f32) (m : Vec F S256x128 .f32) : FVec F S256x128 .f32 := exp2 (mulf (subf (wB2 s) (wM s m)) (scl S256x128))
def wP3 (s : FVec F S256x512 .f32) (m : Vec F S256x128 .f32) : FVec F S256x128 .f32 := exp2 (mulf (subf (wB3 s) (wM s m)) (scl S256x128))
/-- The new sums, lane by lane. -/
def wL (s : FVec F S256x512 .f32) (m l : Vec F S256x128 .f32) : FVec F S256x128 .f32 := addf (mulf (wAl s m) l) (addf (addf (addf (wP0 s m) (wP1 s m)) (wP2 s m)) (wP3 s m))
/-- The weights times the values. -/
def wPV (s : FVec F S256x512 .f32) (m : Vec F S256x128 .f32) (v : FVec F S512x512 .bf16) : FVec F S256x512 .f32 :=
  matmul dot_S256x512_S512x512_S256x512_1_0_0_1_n_n none (truncf .bf16 (concatenate S256x512 1 [⟨S256x128, wP0 s m⟩, ⟨S256x128, wP1 s m⟩, ⟨S256x128, wP2 s m⟩, ⟨S256x128, wP3 s m⟩] concatenates_S256x128_S256x128_S256x128_S256x128_S256x512_d1) bitsLt_bf16_f32) v (constant S256x512 .f32 0x00000000#32)
def wA0 (s : FVec F S256x512 .f32) (m : Vec F S256x128 .f32) (v : FVec F S512x512 .bf16) (a : Vec F S256x128 .f32) : FVec F S256x128 .f32 := addf (mulf (wAl s m) a) (extractStridedSlice S256x128 ![0, 0] (wPV s m v) slices_S256x512_o0_0_S256x128)
def wA1 (s : FVec F S256x512 .f32) (m : Vec F S256x128 .f32) (v : FVec F S512x512 .bf16) (a : Vec F S256x128 .f32) : FVec F S256x128 .f32 := addf (mulf (wAl s m) a) (extractStridedSlice S256x128 ![0, 128] (wPV s m v) slices_S256x512_o0_128_S256x128)
def wA2 (s : FVec F S256x512 .f32) (m : Vec F S256x128 .f32) (v : FVec F S512x512 .bf16) (a : Vec F S256x128 .f32) : FVec F S256x128 .f32 := addf (mulf (wAl s m) a) (extractStridedSlice S256x128 ![0, 256] (wPV s m v) slices_S256x512_o0_256_S256x128)
def wA3 (s : FVec F S256x512 .f32) (m : Vec F S256x128 .f32) (v : FVec F S512x512 .bf16) (a : Vec F S256x128 .f32) : FVec F S256x128 .f32 := addf (mulf (wAl s m) a) (extractStridedSlice S256x128 ![0, 384] (wPV s m v) slices_S256x512_o0_384_S256x128)
/-- One head's pieces of one trip over an earlier block, from its queries and the block. -/
def tripH (a : Memref sig .tc .vmem S512x512 .f32) (m l : Memref sig .tc .vmem S512x128 .f32) (q : FVec F S512x640 .bf16) (kv : Vec F S1x512x640 .bf16) : HeadL F a m l where
  A := fun fa fm fl => [⟨Rect.unit ![0, 384] S512x128.size inb_S512x512_S512x128_0_384, shapeCast S512x128 (tA3 (tS q kv) (m.view.readAt (Elt F) (Rect.unit (s := S512x128) ![0, 0] S512x128.size inb_S512x128_S512x128_0_0).toLoadRect fm) (tV kv) (a.view.readAt (Elt F) (Rect.unit (s := S512x512) ![0, 384] S512x128.size inb_S512x512_S512x128_0_384).toLoadRect fa)) shapeCasts_S512x128_S512x128⟩,
    ⟨Rect.unit ![0, 256] S512x128.size inb_S512x512_S512x128_0_256, shapeCast S512x128 (tA2 (tS q kv) (m.view.readAt (Elt F) (Rect.unit (s := S512x128) ![0, 0] S512x128.size inb_S512x128_S512x128_0_0).toLoadRect fm) (tV kv) (a.view.readAt (Elt F) (Rect.unit (s := S512x512) ![0, 256] S512x128.size inb_S512x512_S512x128_0_256).toLoadRect fa)) shapeCasts_S512x128_S512x128⟩,
    ⟨Rect.unit ![0, 128] S512x128.size inb_S512x512_S512x128_0_128, shapeCast S512x128 (tA1 (tS q kv) (m.view.readAt (Elt F) (Rect.unit (s := S512x128) ![0, 0] S512x128.size inb_S512x128_S512x128_0_0).toLoadRect fm) (tV kv) (a.view.readAt (Elt F) (Rect.unit (s := S512x512) ![0, 128] S512x128.size inb_S512x512_S512x128_0_128).toLoadRect fa)) shapeCasts_S512x128_S512x128⟩,
    ⟨Rect.unit ![0, 0] S512x128.size inb_S512x512_S512x128_0_0, shapeCast S512x128 (tA0 (tS q kv) (m.view.readAt (Elt F) (Rect.unit (s := S512x128) ![0, 0] S512x128.size inb_S512x128_S512x128_0_0).toLoadRect fm) (tV kv) (a.view.readAt (Elt F) (Rect.unit (s := S512x512) ![0, 0] S512x128.size inb_S512x512_S512x128_0_0).toLoadRect fa)) shapeCasts_S512x128_S512x128⟩]
  M := fun fa fm fl => [⟨Rect.unit ![0, 0] S512x128.size inb_S512x128_S512x128_0_0, shapeCast S512x128 (tM (tS q kv) (m.view.readAt (Elt F) (Rect.unit (s := S512x128) ![0, 0] S512x128.size inb_S512x128_S512x128_0_0).toLoadRect fm)) shapeCasts_S512x128_S512x128⟩]
  L := fun fa fm fl => [⟨Rect.unit ![0, 0] S512x128.size inb_S512x128_S512x128_0_0, shapeCast S512x128 (tL (tS q kv) (m.view.readAt (Elt F) (Rect.unit (s := S512x128) ![0, 0] S512x128.size inb_S512x128_S512x128_0_0).toLoadRect fm) (l.view.readAt (Elt F) (Rect.unit (s := S512x128) ![0, 0] S512x128.size inb_S512x128_S512x128_0_0).toLoadRect fl)) shapeCasts_S512x128_S512x128⟩]

theorem inbA_0_0 : ∀ a : Fin S512x512.rank, (![0, 0] : Fin 2 → ℕ) a + S256x128.size a ≤ S512x512.size a := by decide
theorem inbA_0_128 : ∀ a : Fin S512x512.rank, (![0, 128] : Fin 2 → ℕ) a + S256x128.size a ≤ S512x512.size a := by decide
theorem inbA_0_256 : ∀ a : Fin S512x512.rank, (![0, 256] : Fin 2 → ℕ) a + S256x128.size a ≤ S512x512.size a := by decide
theorem inbA_0_384 : ∀ a : Fin S512x512.rank, (![0, 384] : Fin 2 → ℕ) a + S256x128.size a ≤ S512x512.size a := by decide
theorem inbA_256_0 : ∀ a : Fin S512x512.rank, (![256, 0] : Fin 2 → ℕ) a + S256x128.size a ≤ S512x512.size a := by decide
theorem inbA_256_128 : ∀ a : Fin S512x512.rank, (![256, 128] : Fin 2 → ℕ) a + S256x128.size a ≤ S512x512.size a := by decide
theorem inbA_256_256 : ∀ a : Fin S512x512.rank, (![256, 256] : Fin 2 → ℕ) a + S256x128.size a ≤ S512x512.size a := by decide
theorem inbA_256_384 : ∀ a : Fin S512x512.rank, (![256, 384] : Fin 2 → ℕ) a + S256x128.size a ≤ S512x512.size a := by decide
theorem inbS_0 : ∀ a : Fin S512x128.rank, (![0, 0] : Fin 2 → ℕ) a + S256x128.size a ≤ S512x128.size a := by decide
theorem inbS_256 : ∀ a : Fin S512x128.rank, (![256, 0] : Fin 2 → ℕ) a + S256x128.size a ≤ S512x128.size a := by decide
/-- One head's pieces of the running output over the diagonal block. -/
def diagA (a : Memref sig .tc .vmem S512x512 .f32) (m l : Memref sig .tc .vmem S512x128 .f32) (q : FVec F S512x640 .bf16) (kv : Vec F S1x512x640 .bf16) (fa : BufTy.Contents (Elt F) a.view.ty) (fm : BufTy.Contents (Elt F) m.view.ty) (fl : BufTy.Contents (Elt F) l.view.ty) : List (View.Piece (Elt F) S512x512 .f32) := [⟨Rect.unit ![256, 384] S256x128.size inbA_256_384, shapeCast S256x128 (wA3 (wS q kv) (m.view.readAt (Elt F) (Rect.unit (s := S512x128) ![256, 0] S256x128.size inbS_256).toLoadRect fm) (tV kv) (a.view.readAt (Elt F) (Rect.unit (s := S512x512) ![256, 384] S256x128.size inbA_256_384).toLoadRect fa)) shapeCasts_S256x128_S256x128⟩,
    ⟨Rect.unit ![256, 256] S256x128.size inbA_256_256, shapeCast S256x128 (wA2 (wS q kv) (m.view.readAt (Elt F) (Rect.unit (s := S512x128) ![256, 0] S256x128.size inbS_256).toLoadRect fm) (tV kv) (a.view.readAt (Elt F) (Rect.unit (s := S512x512) ![256, 256] S256x128.size inbA_256_256).toLoadRect fa)) shapeCasts_S256x128_S256x128⟩,
    ⟨Rect.unit ![256, 128] S256x128.size inbA_256_128, shapeCast S256x128 (wA1 (wS q kv) (m.view.readAt (Elt F) (Rect.unit (s := S512x128) ![256, 0] S256x128.size inbS_256).toLoadRect fm) (tV kv) (a.view.readAt (Elt F) (Rect.unit (s := S512x512) ![256, 128] S256x128.size inbA_256_128).toLoadRect fa)) shapeCasts_S256x128_S256x128⟩,
    ⟨Rect.unit ![256, 0] S256x128.size inbA_256_0, shapeCast S256x128 (wA0 (wS q kv) (m.view.readAt (Elt F) (Rect.unit (s := S512x128) ![256, 0] S256x128.size inbS_256).toLoadRect fm) (tV kv) (a.view.readAt (Elt F) (Rect.unit (s := S512x512) ![256, 0] S256x128.size inbA_256_0).toLoadRect fa)) shapeCasts_S256x128_S256x128⟩,
    ⟨Rect.unit ![0, 384] S256x128.size inbA_0_384, shapeCast S256x128 (uA3 (uS q kv) (m.view.readAt (Elt F) (Rect.unit (s := S512x128) ![0, 0] S256x128.size inbS_0).toLoadRect fm) (uV kv) (a.view.readAt (Elt F) (Rect.unit (s := S512x512) ![0, 384] S256x128.size inbA_0_384).toLoadRect fa)) shapeCasts_S256x128_S256x128⟩,
    ⟨Rect.unit ![0, 256] S256x128.size inbA_0_256, shapeCast S256x128 (uA2 (uS q kv) (m.view.readAt (Elt F) (Rect.unit (s := S512x128) ![0, 0] S256x128.size inbS_0).toLoadRect fm) (uV kv) (a.view.readAt (Elt F) (Rect.unit (s := S512x512) ![0, 256] S256x128.size inbA_0_256).toLoadRect fa)) shapeCasts_S256x128_S256x128⟩,
    ⟨Rect.unit ![0, 128] S256x128.size inbA_0_128, shapeCast S256x128 (uA1 (uS q kv) (m.view.readAt (Elt F) (Rect.unit (s := S512x128) ![0, 0] S256x128.size inbS_0).toLoadRect fm) (uV kv) (a.view.readAt (Elt F) (Rect.unit (s := S512x512) ![0, 128] S256x128.size inbA_0_128).toLoadRect fa)) shapeCasts_S256x128_S256x128⟩,
    ⟨Rect.unit ![0, 0] S256x128.size inbA_0_0, shapeCast S256x128 (uA0 (uS q kv) (m.view.readAt (Elt F) (Rect.unit (s := S512x128) ![0, 0] S256x128.size inbS_0).toLoadRect fm) (uV kv) (a.view.readAt (Elt F) (Rect.unit (s := S512x512) ![0, 0] S256x128.size inbA_0_0).toLoadRect fa)) shapeCasts_S256x128_S256x128⟩]
/-- One head's pieces of the running sums over the diagonal block. -/
def diagL (a : Memref sig .tc .vmem S512x512 .f32) (m l : Memref sig .tc .vmem S512x128 .f32) (q : FVec F S512x640 .bf16) (kv : Vec F S1x512x640 .bf16) (fa : BufTy.Contents (Elt F) a.view.ty) (fm : BufTy.Contents (Elt F) m.view.ty) (fl : BufTy.Contents (Elt F) l.view.ty) : List (View.Piece (Elt F) S512x128 .f32) := [⟨Rect.unit ![256, 0] S256x128.size inbS_256, shapeCast S256x128 (wL (wS q kv) (m.view.readAt (Elt F) (Rect.unit (s := S512x128) ![256, 0] S256x128.size inbS_256).toLoadRect fm) (l.view.readAt (Elt F) (Rect.unit (s := S512x128) ![256, 0] S256x128.size inbS_256).toLoadRect fl)) shapeCasts_S256x128_S256x128⟩,
    ⟨Rect.unit ![0, 0] S256x128.size inbS_0, shapeCast S256x128 (uL (uS q kv) (m.view.readAt (Elt F) (Rect.unit (s := S512x128) ![0, 0] S256x128.size inbS_0).toLoadRect fm) (l.view.readAt (Elt F) (Rect.unit (s := S512x128) ![0, 0] S256x128.size inbS_0).toLoadRect fl)) shapeCasts_S256x128_S256x128⟩]
/-- One head's result: the output over the sum of the lanes, times the head's part of the up projection. -/
def fin (a : Vec F S512x512 .f32) (l : Vec F S512x128 .f32) (w : Vec F S1x512x128 .bf16) : FVec F S1x512x128 .bf16 :=
  shapeCast S1x512x128 (truncf .bf16 (matmul dot_S512x512_S512x128_S512x128_1_0_0_1_n_n none
    (truncf .bf16 (divf a (broadcastTo S512x512 (shapeCast S512x1 (multiReduction .add [1] S512 l 0#32 reduces_S512x128_S512 (.inl rfl) rfl) shapeCasts_S512_S512x1) broadcasts_S512x1_S512x512)) bitsLt_bf16_f32)
    (shapeCast S512x128 w shapeCasts_S1x512x128_S512x128) (constant S512x128 .f32 0x00000000#32)) bitsLt_bf16_f32) shapeCasts_S512x128_S1x512x128
/-- A scratch filled with zeros, or with -∞. -/
def z5 : FVec F S512x512 .f32 := shapeCast S512x512 (broadcast S512x512 (FloatOps.ofBits .f32 0#32 : F .f32)) shapeCasts_S512x512_S512x512
def z1 : FVec F S512x128 .f32 := shapeCast S512x128 (broadcast S512x128 (FloatOps.ofBits .f32 0#32 : F .f32)) shapeCasts_S512x128_S512x128
def ninf1 : FVec F S512x128 .f32 := shapeCast S512x128 (broadcast S512x128 (FloatOps.ofBits .f32 0xFF800000#32 : F .f32)) shapeCasts_S512x128_S512x128
theorem inb5 : ∀ a : Fin S512x512.rank, (![0, 0] : Fin 2 → ℕ) a + S512x512.size a ≤ S512x512.size a := by decide
/-- One head's scratch as the loop finds it. -/
def Z5 (a : Memref sig .tc .vmem S512x512 .f32) : BufTy.Contents (Elt F) a.view.ty := a.view.writes (Elt F) a.view.junk [⟨Rect.unit ![0, 0] S512x512.size inb5, z5⟩]
def Z1 (a : Memref sig .tc .vmem S512x128 .f32) : BufTy.Contents (Elt F) a.view.ty := a.view.writes (Elt F) a.view.junk [⟨Rect.unit ![0, 0] S512x128.size inb_S512x128_S512x128_0_0, z1⟩]
def N1 (a : Memref sig .tc .vmem S512x128 .f32) : BufTy.Contents (Elt F) a.view.ty := a.view.writes (Elt F) a.view.junk [⟨Rect.unit ![0, 0] S512x128.size inb_S512x128_S512x128_0_0, ninf1⟩]
/-- One head's whole output block at a point: the loop over `n` earlier blocks, storing `Hs`, the diagonal block `kd`, the end. -/
def headOut (a : Memref sig .tc .vmem S512x512 .f32) (m l : Memref sig .tc .vmem S512x128 .f32) (q : FVec F S512x640 .bf16) {N : ℕ} (Hs : Fin N → HeadL F a m l) (kd : Vec F S1x512x640 .bf16) (w : Vec F S1x512x128 .bf16) (n : ℕ) : FVec F S1x512x128 .bf16 :=
  fin (a.view.readCov (diagA a m l q kd (stA Hs (Z5 a) (N1 m) (Z1 l) n) (stM Hs (Z5 a) (N1 m) (Z1 l) n) (stL Hs (Z5 a) (N1 m) (Z1 l) n)) (Rect.unit ![0, 0] S512x512.size inb5).toLoadRect)
    (l.view.readCov (diagL a m l q kd (stA Hs (Z5 a) (N1 m) (Z1 l) n) (stM Hs (Z5 a) (N1 m) (Z1 l) n) (stL Hs (Z5 a) (N1 m) (Z1 l) n)) (Rect.unit ![0, 0] S512x128.size inb_S512x128_S512x128_0_0).toLoadRect) w

end Cert.Kernel4Ideal.Attn

end
-- ==== Proof.AttnStep.lean ====
/-
  One step of one head, row by row: it takes the row's state over the keys before the block to the state over the block's too.
-/
module

public import proofs.«01_k».proof.Proof.AttnOps
public import proofs.«01_k».proof.Proof.AttnReal

@[expose] public section

set_option maxRecDepth 200000

noncomputable section

namespace Cert.Kernel4Ideal.Attn

open Idealize.ShloMosaic Idealize.ShloMosaic.TcCoe
open Cert.Kernel4Ideal Cert.Kernel4Ideal.Gen Cert.AttnReal

theorem named_eq : (Named.named κ "scale" 0x3DD53B95#32 : Ideal .f32) = kap := rfl

theorem ninf_eq : (Ideal.ofBits FTy.f32 4286578688#32 : EReal) = ⊥ := rfl

/-- The lane a column of the output shares its scratch rows with. -/
def lane (c : Fin 512) : Fin 128 := ⟨c.val % 128, Nat.mod_lt _ (by norm_num)⟩

theorem tB0_apply (s : FVec Ideal S512x512 .f32) (r : Fin 512) (a : Fin 128) : tB0 s (ix2 r a) = s (ix2 r ⟨a.val, by omega⟩) := by
  pointwise [tB0]
theorem tB1_apply (s : FVec Ideal S512x512 .f32) (r : Fin 512) (a : Fin 128) : tB1 s (ix2 r a) = s (ix2 r ⟨128 + a.val, by omega⟩) := by
  pointwise [tB1]
theorem tB2_apply (s : FVec Ideal S512x512 .f32) (r : Fin 512) (a : Fin 128) : tB2 s (ix2 r a) = s (ix2 r ⟨256 + a.val, by omega⟩) := by
  pointwise [tB2]
theorem tB3_apply (s : FVec Ideal S512x512 .f32) (r : Fin 512) (a : Fin 128) : tB3 s (ix2 r a) = s (ix2 r ⟨384 + a.val, by omega⟩) := by
  pointwise [tB3]

theorem tM_apply (s : FVec Ideal S512x512 .f32) (m : Vec Ideal S512x128 .f32) (r : Fin 512) (b : Fin 128) :
    tM s m (ix2 r b) = max (m (ix2 r b)) (Finset.fold max (Ideal.ofBits FTy.f32 4286578688#32) (fun a : Fin 128 => max (max (max (s (ix2 r ⟨a.val, by omega⟩)) (s (ix2 r ⟨128 + a.val, by omega⟩))) (s (ix2 r ⟨256 + a.val, by omega⟩))) (s (ix2 r ⟨384 + a.val, by omega⟩))) Finset.univ) := by
  pointwise [tM, tB0, tB1, tB2, tB3]

theorem tAl_apply (s : FVec Ideal S512x512 .f32) (m : Vec Ideal S512x128 .f32) (r : Fin 512) (a : Fin 128) :
    tAl s m (ix2 r a) = Ideal.exp2 ((m (ix2 r a) - tM s m (ix2 r a)) * kap) := by
  pointwise [tAl, scl]
  rfl

theorem tP0_apply (s : FVec Ideal S512x512 .f32) (m : Vec Ideal S512x128 .f32) (r : Fin 512) (a : Fin 128) :
    tP0 s m (ix2 r a) = Ideal.exp2 ((s (ix2 r ⟨a.val, by omega⟩) - tM s m (ix2 r a)) * kap) := by
  pointwise [tP0, scl, tB0]
  rfl

theorem tP1_apply (s : FVec Ideal S512x512 .f32) (m : Vec Ideal S512x128 .f32) (r : Fin 512) (a : Fin 128) :
    tP1 s m (ix2 r a) = Ideal.exp2 ((s (ix2 r ⟨128 + a.val, by omega⟩) - tM s m (ix2 r a)) * kap) := by
  pointwise [tP1, scl, tB1]
  rfl

theorem tP2_apply (s : FVec Ideal S512x512 .f32) (m : Vec Ideal S512x128 .f32) (r : Fin 512) (a : Fin 128) :
    tP2 s m (ix2 r a) = Ideal.exp2 ((s (ix2 r ⟨256 + a.val, by omega⟩) - tM s m (ix2 r a)) * kap) := by
  pointwise [tP2, scl, tB2]
  rfl

theorem tP3_apply (s : FVec Ideal S512x512 .f32) (m : Vec Ideal S512x128 .f32) (r : Fin 512) (a : Fin 128) :
    tP3 s m (ix2 r a) = Ideal.exp2 ((s (ix2 r ⟨384 + a.val, by omega⟩) - tM s m (ix2 r a)) * kap) := by
  pointwise [tP3, scl, tB3]
  rfl

theorem tL_apply (s : FVec Ideal S512x512 .f32) (m l : Vec Ideal S512x128 .f32) (r : Fin 512) (a : Fin 128) :
    tL s m l (ix2 r a) = tAl s m (ix2 r a) * l (ix2 r a) + (tP0 s m (ix2 r a) + tP1 s m (ix2 r a) + tP2 s m (ix2 r a) + tP3 s m (ix2 r a)) := by
  pointwise [tL]

/-- The weights side by side. -/
def tW (s : FVec Ideal S512x512 .f32) (m : Vec Ideal S512x128 .f32) (r : Fin 512) (x : Fin 512) : EReal :=
  if h : x.val < 128 then tP0 s m (ix2 r ⟨x.val, by omega⟩) else if h : x.val - 128 < 128 then tP1 s m (ix2 r ⟨x.val - 128, by omega⟩) else if h : x.val - 128 - 128 < 128 then tP2 s m (ix2 r ⟨x.val - 128 - 128, by omega⟩) else tP3 s m (ix2 r ⟨x.val - 128 - 128 - 128, by omega⟩)

theorem tPV_apply (s : FVec Ideal S512x512 .f32) (m : Vec Ideal S512x128 .f32) (v : FVec Ideal S512x512 .bf16) (r : Fin 512) (c : Fin 512) :
    tPV s m v (ix2 r c) = ∑ x : Fin 512, tW s m r x * v (ix2 x c) := by
  pointwise [tPV]
  rfl

theorem tA0_apply (s : FVec Ideal S512x512 .f32) (m : Vec Ideal S512x128 .f32) (v : FVec Ideal S512x512 .bf16) (a : Vec Ideal S512x128 .f32) (r : Fin 512) (b : Fin 128) :
    tA0 s m v a (ix2 r b) = tAl s m (ix2 r b) * a (ix2 r b) + tPV s m v (ix2 r ⟨b.val, by omega⟩) := by
  pointwise [tA0]

theorem tA1_apply (s : FVec Ideal S512x512 .f32) (m : Vec Ideal S512x128 .f32) (v : FVec Ideal S512x512 .bf16) (a : Vec Ideal S512x128 .f32) (r : Fin 512) (b : Fin 128) :
    tA1 s m v a (ix2 r b) = tAl s m (ix2 r b) * a (ix2 r b) + tPV s m v (ix2 r ⟨128 + b.val, by omega⟩) := by
  pointwise [tA1]

theorem tA2_apply (s : FVec Ideal S512x512 .f32) (m : Vec Ideal S512x128 .f32) (v : FVec Ideal S512x512 .bf16) (a : Vec Ideal S512x128 .f32) (r : Fin 512) (b : Fin 128) :
    tA2 s m v a (ix2 r b) = tAl s m (ix2 r b) * a (ix2 r b) + tPV s m v (ix2 r ⟨256 + b.val, by omega⟩) := by
  pointwise [tA2]

theorem tA3_apply (s : FVec Ideal S512x512 .f32) (m : Vec Ideal S512x128 .f32) (v : FVec Ideal S512x512 .bf16) (a : Vec Ideal S512x128 .f32) (r : Fin 512) (b : Fin 128) :
    tA3 s m v a (ix2 r b) = tAl s m (ix2 r b) * a (ix2 r b) + tPV s m v (ix2 r ⟨384 + b.val, by omega⟩) := by
  pointwise [tA3]

theorem t_step (s : FVec Ideal S512x512 .f32) (m l : Vec Ideal S512x128 .f32) (V : FVec Ideal S512x512 .bf16) (r : Fin 512) (sc : ℕ → EReal) (v : ℕ → Fin 512 → ℝ) (n : ℕ) (A A' : Fin 512 → EReal)
    (h : RowSt sc v n (fun a => m (ix2 r a)) (fun a => l (ix2 r a)) A)
    (hs : ∀ j : Fin 512, s (ix2 r j) = sc (n + j.val)) (hv : ∀ (j : Fin 512) (c : Fin 512), V (ix2 j c) = (v (n + j.val) c : EReal))
    (ht : ∀ j, sc j ≠ ⊤) (j0 : Fin 512) (h0 : s (ix2 r j0) ≠ ⊥)
    (hA : ∀ c, A' c = tAl s m (ix2 r (lane c)) * A c + tPV s m V (ix2 r c)) :
    RowSt sc v (n + 512) (fun a => tM s m (ix2 r a)) (fun a => tL s m l (ix2 r a)) A' := by
  obtain ⟨μ, hμ, hb, hMm, rest⟩ := id h
  obtain ⟨x, hx⟩ : ∃ x : ℝ, max μ (Finset.fold max (Ideal.ofBits FTy.f32 4286578688#32) (fun a : Fin 128 => max (max (max (s (ix2 r ⟨a.val, by omega⟩)) (s (ix2 r ⟨128 + a.val, by omega⟩))) (s (ix2 r ⟨256 + a.val, by omega⟩))) (s (ix2 r ⟨384 + a.val, by omega⟩))) Finset.univ) = (x : EReal) := by
    refine max_real μ _ _ hμ ninf_eq (fun a => ?_) ⟨j0.val % 128, Nat.mod_lt _ (by norm_num)⟩ (fun e => ?_)
    · simp only [hs]; exact (max_lt (max_lt (max_lt (lt_top_iff_ne_top.mpr (ht _)) (lt_top_iff_ne_top.mpr (ht _))) (lt_top_iff_ne_top.mpr (ht _))) (lt_top_iff_ne_top.mpr (ht _))).ne
    · simp only [max_eq_bot] at e
      obtain ⟨⟨⟨e0, e1⟩, e2⟩, e3⟩ := e
      have := j0.isLt
      rcases (show j0.val / 128 = 0 ∨ j0.val / 128 = 1 ∨ j0.val / 128 = 2 ∨ j0.val / 128 = 3 by omega) with h | h | h | h
      · refine h0 (Eq.trans (congrArg _ ?_) e0); exact congrArg (ix2 r) (Fin.ext (by simp only; omega))
      · refine h0 (Eq.trans (congrArg _ ?_) e1); exact congrArg (ix2 r) (Fin.ext (by simp only; omega))
      · refine h0 (Eq.trans (congrArg _ ?_) e2); exact congrArg (ix2 r) (Fin.ext (by simp only; omega))
      · refine h0 (Eq.trans (congrArg _ ?_) e3); exact congrArg (ix2 r) (Fin.ext (by simp only; omega))
  have hM : ∀ a, tM s m (ix2 r a) = (x : EReal) := fun a => by
    rw [tM_apply, ← hx]; exact congrArg (fun z => max z _) (hMm a)
  have P0 : ∀ a : Fin 128, tP0 s m (ix2 r a) = (E (sc (n + (a.val))) x : EReal) := fun a => by
    rw [tP0_apply, hM, hs]; exact exp2_eq _ _ (ht _)
  have P1 : ∀ a : Fin 128, tP1 s m (ix2 r a) = (E (sc (n + (128 + a.val))) x : EReal) := fun a => by
    rw [tP1_apply, hM, hs]; exact exp2_eq _ _ (ht _)
  have P2 : ∀ a : Fin 128, tP2 s m (ix2 r a) = (E (sc (n + (256 + a.val))) x : EReal) := fun a => by
    rw [tP2_apply, hM, hs]; exact exp2_eq _ _ (ht _)
  have P3 : ∀ a : Fin 128, tP3 s m (ix2 r a) = (E (sc (n + (384 + a.val))) x : EReal) := fun a => by
    rw [tP3_apply, hM, hs]; exact exp2_eq _ _ (ht _)
  have hW : ∀ j : Fin 512, tW s m r j = (E (sc (n + j.val)) x : EReal) := fun j => by
    unfold tW
    split
    · rw [P0]
    split
    · rw [P1]; congr 4; simp only; omega
    split
    · rw [P2]; congr 4; simp only; omega
    · rw [P3]; congr 4; simp only; have := j.isLt; omega
  refine h.step 512 x (fun a => E (sc (n + (a.val))) x + E (sc (n + (128 + a.val))) x + E (sc (n + (256 + a.val))) x + E (sc (n + (384 + a.val))) x) lane hM (fun a => ?_) ?_ (fun c => ?_)
  · show tL s m l (ix2 r a) = _
    rw [tL_apply, tAl_apply, P0, P1, P2, P3]
    simp only [EReal.coe_add]
  · exact sum4 (fun j => E (sc (n + j)) x)
  · rw [hA, tAl_apply, tPV_apply, coe_sum, Finset.sum_range]
    congr 1
    refine Finset.sum_congr rfl fun j _ => ?_
    rw [hW, hv, ← EReal.coe_mul]

theorem uB0_apply (s : FVec Ideal S256x256 .f32) (r : Fin 256) (a : Fin 128) : uB0 s (ix2 r a) = s (ix2 r ⟨a.val, by omega⟩) := by
  pointwise [uB0]
theorem uB1_apply (s : FVec Ideal S256x256 .f32) (r : Fin 256) (a : Fin 128) : uB1 s (ix2 r a) = s (ix2 r ⟨128 + a.val, by omega⟩) := by
  pointwise [uB1]

theorem uM_apply (s : FVec Ideal S256x256 .f32) (m : Vec Ideal S256x128 .f32) (r : Fin 256) (b : Fin 128) :
    uM s m (ix2 r b) = max (m (ix2 r b)) (Finset.fold max (Ideal.ofBits FTy.f32 4286578688#32) (fun a : Fin 128 => max (s (ix2 r ⟨a.val, by omega⟩)) (s (ix2 r ⟨128 + a.val, by omega⟩))) Finset.univ) := by
  pointwise [uM, uB0, uB1]

theorem uAl_apply (s : FVec Ideal S256x256 .f32) (m : Vec Ideal S256x128 .f32) (r : Fin 256) (a : Fin 128) :
    uAl s m (ix2 r a) = Ideal.exp2 ((m (ix2 r a) - uM s m (ix2 r a)) * kap) := by
  pointwise [uAl, scl]
  rfl

theorem uP0_apply (s : FVec Ideal S256x256 .f32) (m : Vec Ideal S256x128 .f32) (r : Fin 256) (a : Fin 128) :
    uP0 s m (ix2 r a) = Ideal.exp2 ((s (ix2 r ⟨a.val, by omega⟩) - uM s m (ix2 r a)) * kap) := by
  pointwise [uP0, scl, uB0]
  rfl

theorem uP1_apply (s : FVec Ideal S256x256 .f32) (m : Vec Ideal S256x128 .f32) (r : Fin 256) (a : Fin 128) :
    uP1 s m (ix2 r a) = Ideal.exp2 ((s (ix2 r ⟨128 + a.val, by omega⟩) - uM s m (ix2 r a)) * kap) := by
  pointwise [uP1, scl, uB1]
  rfl

theorem uL_apply (s : FVec Ideal S256x256 .f32) (m l : Vec Ideal S256x128 .f32) (r : Fin 256) (a : Fin 128) :
    uL s m l (ix2 r a) = uAl s m (ix2 r a) * l (ix2 r a) + (uP0 s m (ix2 r a) + uP1 s m (ix2 r a)) := by
  pointwise [uL]

/-- The weights side by side. -/
def uW (s : FVec Ideal S256x256 .f32) (m : Vec Ideal S256x128 .f32) (r : Fin 256) (x : Fin 256) : EReal :=
  if h : x.val < 128 then uP0 s m (ix2 r ⟨x.val, by omega⟩) else uP1 s m (ix2 r ⟨x.val - 128, by omega⟩)

theorem uPV_apply (s : FVec Ideal S256x256 .f32) (m : Vec Ideal S256x128 .f32) (v : FVec Ideal S256x512 .bf16) (r : Fin 256) (c : Fin 512) :
    uPV s m v (ix2 r c) = ∑ x : Fin 256, uW s m r x * v (ix2 x c) := by
  pointwise [uPV]
  refine Eq.symm ((Fin.sum_univ_add (fun x : Fin (128 + 128) => uW s m r x * v (ix2 x c))).trans ?_)
  congr 1

theorem uA0_apply (s : FVec Ideal S256x256 .f32) (m : Vec Ideal S256x128 .f32) (v : FVec Ideal S256x512 .bf16) (a : Vec Ideal S256x128 .f32) (r : Fin 256) (b : Fin 128) :
    uA0 s m v a (ix2 r b) = uAl s m (ix2 r b) * a (ix2 r b) + uPV s m v (ix2 r ⟨b.val, by omega⟩) := by
  pointwise [uA0]

theorem uA1_apply (s : FVec Ideal S256x256 .f32) (m : Vec Ideal S256x128 .f32) (v : FVec Ideal S256x512 .bf16) (a : Vec Ideal S256x128 .f32) (r : Fin 256) (b : Fin 128) :
    uA1 s m v a (ix2 r b) = uAl s m (ix2 r b) * a (ix2 r b) + uPV s m v (ix2 r ⟨128 + b.val, by omega⟩) := by
  pointwise [uA1]

theorem uA2_apply (s : FVec Ideal S256x256 .f32) (m : Vec Ideal S256x128 .f32) (v : FVec Ideal S256x512 .bf16) (a : Vec Ideal S256x128 .f32) (r : Fin 256) (b : Fin 128) :
    uA2 s m v a (ix2 r b) = uAl s m (ix2 r b) * a (ix2 r b) + uPV s m v (ix2 r ⟨256 + b.val, by omega⟩) := by
  pointwise [uA2]

theorem uA3_apply (s : FVec Ideal S256x256 .f32) (m : Vec Ideal S256x128 .f32) (v : FVec Ideal S256x512 .bf16) (a : Vec Ideal S256x128 .f32) (r : Fin 256) (b : Fin 128) :
    uA3 s m v a (ix2 r b) = uAl s m (ix2 r b) * a (ix2 r b) + uPV s m v (ix2 r ⟨384 + b.val, by omega⟩) := by
  pointwise [uA3]

theorem u_step (s : FVec Ideal S256x256 .f32) (m l : Vec Ideal S256x128 .f32) (V : FVec Ideal S256x512 .bf16) (r : Fin 256) (sc : ℕ → EReal) (v : ℕ → Fin 512 → ℝ) (n : ℕ) (A A' : Fin 512 → EReal)
    (h : RowSt sc v n (fun a => m (ix2 r a)) (fun a => l (ix2 r a)) A)
    (hs : ∀ j : Fin 256, s (ix2 r j) = sc (n + j.val)) (hv : ∀ (j : Fin 256) (c : Fin 512), V (ix2 j c) = (v (n + j.val) c : EReal))
    (ht : ∀ j, sc j ≠ ⊤) (j0 : Fin 256) (h0 : s (ix2 r j0) ≠ ⊥)
    (hA : ∀ c, A' c = uAl s m (ix2 r (lane c)) * A c + uPV s m V (ix2 r c)) :
    RowSt sc v (n + 256) (fun a => uM s m (ix2 r a)) (fun a => uL s m l (ix2 r a)) A' := by
  obtain ⟨μ, hμ, hb, hMm, rest⟩ := id h
  obtain ⟨x, hx⟩ : ∃ x : ℝ, max μ (Finset.fold max (Ideal.ofBits FTy.f32 4286578688#32) (fun a : Fin 128 => max (s (ix2 r ⟨a.val, by omega⟩)) (s (ix2 r ⟨128 + a.val, by omega⟩))) Finset.univ) = (x : EReal) := by
    refine max_real μ _ _ hμ ninf_eq (fun a => ?_) ⟨j0.val % 128, Nat.mod_lt _ (by norm_num)⟩ (fun e => ?_)
    · simp only [hs]; exact (max_lt (lt_top_iff_ne_top.mpr (ht _)) (lt_top_iff_ne_top.mpr (ht _))).ne
    · simp only [max_eq_bot] at e
      obtain ⟨e0, e1⟩ := e
      have := j0.isLt
      rcases (show j0.val / 128 = 0 ∨ j0.val / 128 = 1 by omega) with h | h
      · refine h0 (Eq.trans (congrArg _ ?_) e0); exact congrArg (ix2 r) (Fin.ext (by simp only; omega))
      · refine h0 (Eq.trans (congrArg _ ?_) e1); exact congrArg (ix2 r) (Fin.ext (by simp only; omega))
  have hM : ∀ a, uM s m (ix2 r a) = (x : EReal) := fun a => by
    rw [uM_apply, ← hx]; exact congrArg (fun z => max z _) (hMm a)
  have P0 : ∀ a : Fin 128, uP0 s m (ix2 r a) = (E (sc (n + (a.val))) x : EReal) := fun a => by
    rw [uP0_apply, hM, hs]; exact exp2_eq _ _ (ht _)
  have P1 : ∀ a : Fin 128, uP1 s m (ix2 r a) = (E (sc (n + (128 + a.val))) x : EReal) := fun a => by
    rw [uP1_apply, hM, hs]; exact exp2_eq _ _ (ht _)
  have hW : ∀ j : Fin 256, uW s m r j = (E (sc (n + j.val)) x : EReal) := fun j => by
    unfold uW
    split
    · rw [P0]
    · rw [P1]; congr 4; simp only; omega
  refine h.step 256 x (fun a => E (sc (n + (a.val))) x + E (sc (n + (128 + a.val))) x) lane hM (fun a => ?_) ?_ (fun c => ?_)
  · show uL s m l (ix2 r a) = _
    rw [uL_apply, uAl_apply, P0, P1]
    simp only [EReal.coe_add]
  · exact sum2 (fun j => E (sc (n + j)) x)
  · rw [hA, uAl_apply, uPV_apply, coe_sum, Finset.sum_range]
    congr 1
    refine Finset.sum_congr rfl fun j _ => ?_
    rw [hW, hv, ← EReal.coe_mul]

theorem wB0_apply (s : FVec Ideal S256x512 .f32) (r : Fin 256) (a : Fin 128) : wB0 s (ix2 r a) = s (ix2 r ⟨a.val, by omega⟩) := by
  pointwise [wB0]
theorem wB1_apply (s : FVec Ideal S256x512 .f32) (r : Fin 256) (a : Fin 128) : wB1 s (ix2 r a) = s (ix2 r ⟨128 + a.val, by omega⟩) := by
  pointwise [wB1]
theorem wB2_apply (s : FVec Ideal S256x512 .f32) (r : Fin 256) (a : Fin 128) : wB2 s (ix2 r a) = s (ix2 r ⟨256 + a.val, by omega⟩) := by
  pointwise [wB2]
theorem wB3_apply (s : FVec Ideal S256x512 .f32) (r : Fin 256) (a : Fin 128) : wB3 s (ix2 r a) = s (ix2 r ⟨384 + a.val, by omega⟩) := by
  pointwise [wB3]

theorem wM_apply (s : FVec Ideal S256x512 .f32) (m : Vec Ideal S256x128 .f32) (r : Fin 256) (b : Fin 128) :
    wM s m (ix2 r b) = max (m (ix2 r b)) (Finset.fold max (Ideal.ofBits FTy.f32 4286578688#32) (fun a : Fin 128 => max (max (max (s (ix2 r ⟨a.val, by omega⟩)) (s (ix2 r ⟨128 + a.val, by omega⟩))) (s (ix2 r ⟨256 + a.val, by omega⟩))) (s (ix2 r ⟨384 + a.val, by omega⟩))) Finset.univ) := by
  pointwise [wM, wB0, wB1, wB2, wB3]

theorem wAl_apply (s : FVec Ideal S256x512 .f32) (m : Vec Ideal S256x128 .f32) (r : Fin 256) (a : Fin 128) :
    wAl s m (ix2 r a) = Ideal.exp2 ((m (ix2 r a) - wM s m (ix2 r a)) * kap) := by
  pointwise [wAl, scl]
  rfl

theorem wP0_apply (s : FVec Ideal S256x512 .f32) (m : Vec Ideal S256x128 .f32) (r : Fin 256) (a : Fin 128) :
    wP0 s m (ix2 r a) = Ideal.exp2 ((s (ix2 r ⟨a.val, by omega⟩) - wM s m (ix2 r a)) * kap) := by
  pointwise [wP0, scl, wB0]
  rfl

theorem wP1_apply (s : FVec Ideal S256x512 .f32) (m : Vec Ideal S256x128 .f32) (r : Fin 256) (a : Fin 128) :
    wP1 s m (ix2 r a) = Ideal.exp2 ((s (ix2 r ⟨128 + a.val, by omega⟩) - wM s m (ix2 r a)) * kap) := by
  pointwise [wP1, scl, wB1]
  rfl

theorem wP2_apply (s : FVec Ideal S256x512 .f32) (m : Vec Ideal S256x128 .f32) (r : Fin 256) (a : Fin 128) :
    wP2 s m (ix2 r a) = Ideal.exp2 ((s (ix2 r ⟨256 + a.val, by omega⟩) - wM s m (ix2 r a)) * kap) := by
  pointwise [wP2, scl, wB2]
  rfl

theorem wP3_apply (s : FVec Ideal S256x512 .f32) (m : Vec Ideal S256x128 .f32) (r : Fin 256) (a : Fin 128) :
    wP3 s m (ix2 r a) = Ideal.exp2 ((s (ix2 r ⟨384 + a.val, by omega⟩) - wM s m (ix2 r a)) * kap) := by
  pointwise [wP3, scl, wB3]
  rfl

theorem wL_apply (s : FVec Ideal S256x512 .f32) (m l : Vec Ideal S256x128 .f32) (r : Fin 256) (a : Fin 128) :
    wL s m l (ix2 r a) = wAl s m (ix2 r a) * l (ix2 r a) + (wP0 s m (ix2 r a) + wP1 s m (ix2 r a) + wP2 s m (ix2 r a) + wP3 s m (ix2 r a)) := by
  pointwise [wL]

/-- The weights side by side. -/
def wW (s : FVec Ideal S256x512 .f32) (m : Vec Ideal S256x128 .f32) (r : Fin 256) (x : Fin 512) : EReal :=
  if h : x.val < 128 then wP0 s m (ix2 r ⟨x.val, by omega⟩) else if h : x.val - 128 < 128 then wP1 s m (ix2 r ⟨x.val - 128, by omega⟩) else if h : x.val - 128 - 128 < 128 then wP2 s m (ix2 r ⟨x.val - 128 - 128, by omega⟩) else wP3 s m (ix2 r ⟨x.val - 128 - 128 - 128, by omega⟩)

theorem wPV_apply (s : FVec Ideal S256x512 .f32) (m : Vec Ideal S256x128 .f32) (v : FVec Ideal S512x512 .bf16) (r : Fin 256) (c : Fin 512) :
    wPV s m v (ix2 r c) = ∑ x : Fin 512, wW s m r x * v (ix2 x c) := by
  pointwise [wPV]
  rfl

theorem wA0_apply (s : FVec Ideal S256x512 .f32) (m : Vec Ideal S256x128 .f32) (v : FVec Ideal S512x512 .bf16) (a : Vec Ideal S256x128 .f32) (r : Fin 256) (b : Fin 128) :
    wA0 s m v a (ix2 r b) = wAl s m (ix2 r b) * a (ix2 r b) + wPV s m v (ix2 r ⟨b.val, by omega⟩) := by
  pointwise [wA0]

theorem wA1_apply (s : FVec Ideal S256x512 .f32) (m : Vec Ideal S256x128 .f32) (v : FVec Ideal S512x512 .bf16) (a : Vec Ideal S256x128 .f32) (r : Fin 256) (b : Fin 128) :
    wA1 s m v a (ix2 r b) = wAl s m (ix2 r b) * a (ix2 r b) + wPV s m v (ix2 r ⟨128 + b.val, by omega⟩) := by
  pointwise [wA1]

theorem wA2_apply (s : FVec Ideal S256x512 .f32) (m : Vec Ideal S256x128 .f32) (v : FVec Ideal S512x512 .bf16) (a : Vec Ideal S256x128 .f32) (r : Fin 256) (b : Fin 128) :
    wA2 s m v a (ix2 r b) = wAl s m (ix2 r b) * a (ix2 r b) + wPV s m v (ix2 r ⟨256 + b.val, by omega⟩) := by
  pointwise [wA2]

theorem wA3_apply (s : FVec Ideal S256x512 .f32) (m : Vec Ideal S256x128 .f32) (v : FVec Ideal S512x512 .bf16) (a : Vec Ideal S256x128 .f32) (r : Fin 256) (b : Fin 128) :
    wA3 s m v a (ix2 r b) = wAl s m (ix2 r b) * a (ix2 r b) + wPV s m v (ix2 r ⟨384 + b.val, by omega⟩) := by
  pointwise [wA3]

theorem w_step (s : FVec Ideal S256x512 .f32) (m l : Vec Ideal S256x128 .f32) (V : FVec Ideal S512x512 .bf16) (r : Fin 256) (sc : ℕ → EReal) (v : ℕ → Fin 512 → ℝ) (n : ℕ) (A A' : Fin 512 → EReal)
    (h : RowSt sc v n (fun a => m (ix2 r a)) (fun a => l (ix2 r a)) A)
    (hs : ∀ j : Fin 512, s (ix2 r j) = sc (n + j.val)) (hv : ∀ (j : Fin 512) (c : Fin 512), V (ix2 j c) = (v (n + j.val) c : EReal))
    (ht : ∀ j, sc j ≠ ⊤) (j0 : Fin 512) (h0 : s (ix2 r j0) ≠ ⊥)
    (hA : ∀ c, A' c = wAl s m (ix2 r (lane c)) * A c + wPV s m V (ix2 r c)) :
    RowSt sc v (n + 512) (fun a => wM s m (ix2 r a)) (fun a => wL s m l (ix2 r a)) A' := by
  obtain ⟨μ, hμ, hb, hMm, rest⟩ := id h
  obtain ⟨x, hx⟩ : ∃ x : ℝ, max μ (Finset.fold max (Ideal.ofBits FTy.f32 4286578688#32) (fun a : Fin 128 => max (max (max (s (ix2 r ⟨a.val, by omega⟩)) (s (ix2 r ⟨128 + a.val, by omega⟩))) (s (ix2 r ⟨256 + a.val, by omega⟩))) (s (ix2 r ⟨384 + a.val, by omega⟩))) Finset.univ) = (x : EReal) := by
    refine max_real μ _ _ hμ ninf_eq (fun a => ?_) ⟨j0.val % 128, Nat.mod_lt _ (by norm_num)⟩ (fun e => ?_)
    · simp only [hs]; exact (max_lt (max_lt (max_lt (lt_top_iff_ne_top.mpr (ht _)) (lt_top_iff_ne_top.mpr (ht _))) (lt_top_iff_ne_top.mpr (ht _))) (lt_top_iff_ne_top.mpr (ht _))).ne
    · simp only [max_eq_bot] at e
      obtain ⟨⟨⟨e0, e1⟩, e2⟩, e3⟩ := e
      have := j0.isLt
      rcases (show j0.val / 128 = 0 ∨ j0.val / 128 = 1 ∨ j0.val / 128 = 2 ∨ j0.val / 128 = 3 by omega) with h | h | h | h
      · refine h0 (Eq.trans (congrArg _ ?_) e0); exact congrArg (ix2 r) (Fin.ext (by simp only; omega))
      · refine h0 (Eq.trans (congrArg _ ?_) e1); exact congrArg (ix2 r) (Fin.ext (by simp only; omega))
      · refine h0 (Eq.trans (congrArg _ ?_) e2); exact congrArg (ix2 r) (Fin.ext (by simp only; omega))
      · refine h0 (Eq.trans (congrArg _ ?_) e3); exact congrArg (ix2 r) (Fin.ext (by simp only; omega))
  have hM : ∀ a, wM s m (ix2 r a) = (x : EReal) := fun a => by
    rw [wM_apply, ← hx]; exact congrArg (fun z => max z _) (hMm a)
  have P0 : ∀ a : Fin 128, wP0 s m (ix2 r a) = (E (sc (n + (a.val))) x : EReal) := fun a => by
    rw [wP0_apply, hM, hs]; exact exp2_eq _ _ (ht _)
  have P1 : ∀ a : Fin 128, wP1 s m (ix2 r a) = (E (sc (n + (128 + a.val))) x : EReal) := fun a => by
    rw [wP1_apply, hM, hs]; exact exp2_eq _ _ (ht _)
  have P2 : ∀ a : Fin 128, wP2 s m (ix2 r a) = (E (sc (n + (256 + a.val))) x : EReal) := fun a => by
    rw [wP2_apply, hM, hs]; exact exp2_eq _ _ (ht _)
  have P3 : ∀ a : Fin 128, wP3 s m (ix2 r a) = (E (sc (n + (384 + a.val))) x : EReal) := fun a => by
    rw [wP3_apply, hM, hs]; exact exp2_eq _ _ (ht _)
  have hW : ∀ j : Fin 512, wW s m r j = (E (sc (n + j.val)) x : EReal) := fun j => by
    unfold wW
    split
    · rw [P0]
    split
    · rw [P1]; congr 4; simp only; omega
    split
    · rw [P2]; congr 4; simp only; omega
    · rw [P3]; congr 4; simp only; have := j.isLt; omega
  refine h.step 512 x (fun a => E (sc (n + (a.val))) x + E (sc (n + (128 + a.val))) x + E (sc (n + (256 + a.val))) x + E (sc (n + (384 + a.val))) x) lane hM (fun a => ?_) ?_ (fun c => ?_)
  · show wL s m l (ix2 r a) = _
    rw [wL_apply, wAl_apply, P0, P1, P2, P3]
    simp only [EReal.coe_add]
  · exact sum4 (fun j => E (sc (n + j)) x)
  · rw [hA, wAl_apply, wPV_apply, coe_sum, Finset.sum_range]
    congr 1
    refine Finset.sum_congr rfl fun j _ => ?_
    rw [hW, hv, ← EReal.coe_mul]

end Cert.Kernel4Ideal.Attn

end
-- ==== Proof.AttnHead.lean ====
/-
  One head at one grid point: the scratch through the trips, the diagonal block and the end, row by row.
-/
module

public import proofs.«01_k».proof.Proof.AttnStep

@[expose] public section

set_option maxRecDepth 200000

noncomputable section

namespace Cert.Kernel4Ideal.Attn

open Idealize.ShloMosaic Idealize.ShloMosaic.TcCoe
open Cert.Kernel4Ideal Cert.Kernel4Ideal.Gen Cert.AttnReal

/-! ## Reading back -/

theorem tS_apply (q : FVec Ideal S512x640 .bf16) (kv : Vec Ideal S1x512x640 .bf16) (r j : Fin 512) : tS q kv (ix2 r j) = ∑ x, q (ix2 r x) * kv (ix3 0 j x) := by
  pointwise [tS, kvm]

theorem sel_sle (a b : ℕ) (ha : a < 2 ^ 30) (hb : b < 2 ^ 30) (z : EReal) :
    Scalar.select (IntOp.cmpi CmpIPredicate.sle (BitVec.ofNat 32 a) (BitVec.ofNat 32 b)) z (⊥ : EReal) = if a ≤ b then z else ⊥ := by
  have e : IntOp.cmpi CmpIPredicate.sle (BitVec.ofNat 32 a) (BitVec.ofNat 32 b) = if a ≤ b then 1#1 else 0#1 := by
    have t : ∀ n : ℕ, n < 2 ^ 30 → (BitVec.ofNat 32 n).toInt = (n : ℤ) := fun n hn => by
      rw [BitVec.toInt_eq_toNat_of_lt (by rw [BitVec.toNat_ofNat]; omega), BitVec.toNat_ofNat]
      congr 1
      omega
    have h1 : (BitVec.ofNat 32 a).sle (BitVec.ofNat 32 b) = decide (a ≤ b) := by
      rw [BitVec.sle_eq_decide, t a ha, t b hb]
      simp
    show BitVec.ofBool ((BitVec.ofNat 32 a).sle (BitVec.ofNat 32 b)) = _
    rw [h1]
    by_cases hab : a ≤ b <;> simp [hab]
  rw [e]
  split <;> rfl

theorem uS_apply (q : FVec Ideal S512x640 .bf16) (kv : Vec Ideal S1x512x640 .bf16) (r j : Fin 256) :
    uS q kv (ix2 r j) = if j.val ≤ r.val then tS q kv (ix2 ⟨r.val, by omega⟩ ⟨j.val, by omega⟩) else ⊥ := by
  rw [tS_apply]
  pointwise [uS, kvm]
  rw [show IntOp.addi (BitVec.ofNat 32 r.val) 0#32 = BitVec.ofNat 32 r.val from BitVec.add_zero _]
  exact sel_sle _ _ (by omega) (by omega) _

theorem wS_apply (q : FVec Ideal S512x640 .bf16) (kv : Vec Ideal S1x512x640 .bf16) (r : Fin 256) (j : Fin 512) :
    wS q kv (ix2 r j) = if j.val ≤ 256 + r.val then ∑ x, q (ix2 ⟨256 + r.val, by omega⟩ x) * kv (ix3 0 j x) else ⊥ := by
  pointwise [wS, kvm]
  rw [show IntOp.addi (BitVec.ofNat 32 r.val) 256#32 = BitVec.ofNat 32 (256 + r.val) from by
    rw [Nat.add_comm]; exact (BitVec.ofNat_add r.val 256).symm]
  exact sel_sle _ _ (by omega) (by omega) _

theorem tV_apply (kv : Vec Ideal S1x512x640 .bf16) (j c : Fin 512) : tV kv (ix2 j c) = kv (ix3 0 j ⟨c.val, by omega⟩) := by
  pointwise [tV, kvm]

theorem uV_apply (kv : Vec Ideal S1x512x640 .bf16) (j : Fin 256) (c : Fin 512) : uV kv (ix2 j c) = kv (ix3 0 ⟨j.val, by omega⟩ ⟨c.val, by omega⟩) := by
  pointwise [uV, kvm]

theorem rdA5 {Val : EltTy → Type} (v : View sig .tc .vmem S512x512 .f32) (f : v.ty.Contents Val) (off : Fin 2 → ℕ) (h : ∀ a : Fin S512x512.rank, off a + S512x128.size a ≤ S512x512.size a)
    (x : Fin 512) (y : Fin 128) (r : Fin 512) (c : Fin 512) (hr : r.val = off 0 + x.val) (hc : c.val = off 1 + y.val) :
    v.readAt Val (Rect.unit (s := S512x512) off S512x128.size h).toLoadRect f (ix2 x y) = v.read Val f (ix2 r c) := by
  rw [View.readAt_apply]
  refine congrArg (v.read Val f) (funext fun a => Fin.ext ?_)
  match a with
  | ⟨0, _⟩ => show off 0 + 1 * x.val = r.val; omega
  | ⟨1, _⟩ => show off 1 + 1 * y.val = c.val; omega

theorem rdA2 {Val : EltTy → Type} (v : View sig .tc .vmem S512x512 .f32) (f : v.ty.Contents Val) (off : Fin 2 → ℕ) (h : ∀ a : Fin S512x512.rank, off a + S256x128.size a ≤ S512x512.size a)
    (x : Fin 256) (y : Fin 128) (r : Fin 512) (c : Fin 512) (hr : r.val = off 0 + x.val) (hc : c.val = off 1 + y.val) :
    v.readAt Val (Rect.unit (s := S512x512) off S256x128.size h).toLoadRect f (ix2 x y) = v.read Val f (ix2 r c) := by
  rw [View.readAt_apply]
  refine congrArg (v.read Val f) (funext fun a => Fin.ext ?_)
  match a with
  | ⟨0, _⟩ => show off 0 + 1 * x.val = r.val; omega
  | ⟨1, _⟩ => show off 1 + 1 * y.val = c.val; omega

theorem rdM5 {Val : EltTy → Type} (v : View sig .tc .vmem S512x128 .f32) (f : v.ty.Contents Val) (off : Fin 2 → ℕ) (h : ∀ a : Fin S512x128.rank, off a + S512x128.size a ≤ S512x128.size a)
    (x : Fin 512) (y : Fin 128) (r : Fin 512) (c : Fin 128) (hr : r.val = off 0 + x.val) (hc : c.val = off 1 + y.val) :
    v.readAt Val (Rect.unit (s := S512x128) off S512x128.size h).toLoadRect f (ix2 x y) = v.read Val f (ix2 r c) := by
  rw [View.readAt_apply]
  refine congrArg (v.read Val f) (funext fun a => Fin.ext ?_)
  match a with
  | ⟨0, _⟩ => show off 0 + 1 * x.val = r.val; omega
  | ⟨1, _⟩ => show off 1 + 1 * y.val = c.val; omega

theorem rdM2 {Val : EltTy → Type} (v : View sig .tc .vmem S512x128 .f32) (f : v.ty.Contents Val) (off : Fin 2 → ℕ) (h : ∀ a : Fin S512x128.rank, off a + S256x128.size a ≤ S512x128.size a)
    (x : Fin 256) (y : Fin 128) (r : Fin 512) (c : Fin 128) (hr : r.val = off 0 + x.val) (hc : c.val = off 1 + y.val) :
    v.readAt Val (Rect.unit (s := S512x128) off S256x128.size h).toLoadRect f (ix2 x y) = v.read Val f (ix2 r c) := by
  rw [View.readAt_apply]
  refine congrArg (v.read Val f) (funext fun a => Fin.ext ?_)
  match a with
  | ⟨0, _⟩ => show off 0 + 1 * x.val = r.val; omega
  | ⟨1, _⟩ => show off 1 + 1 * y.val = c.val; omega

theorem rdA9 {Val : EltTy → Type} (v : View sig .tc .vmem S512x512 .f32) (f : v.ty.Contents Val) (off : Fin 2 → ℕ) (h : ∀ a : Fin S512x512.rank, off a + S512x512.size a ≤ S512x512.size a)
    (x : Fin 512) (y : Fin 512) (r : Fin 512) (c : Fin 512) (hr : r.val = off 0 + x.val) (hc : c.val = off 1 + y.val) :
    v.readAt Val (Rect.unit (s := S512x512) off S512x512.size h).toLoadRect f (ix2 x y) = v.read Val f (ix2 r c) := by
  rw [View.readAt_apply]
  refine congrArg (v.read Val f) (funext fun a => Fin.ext ?_)
  match a with
  | ⟨0, _⟩ => show off 0 + 1 * x.val = r.val; omega
  | ⟨1, _⟩ => show off 1 + 1 * y.val = c.val; omega

theorem hitM5 {Val : EltTy → Type} (v : View sig .tc .vmem S512x128 .f32) (f : v.ty.Contents Val) (off : Fin 2 → ℕ) (h : ∀ a : Fin S512x128.rank, off a + S512x128.size a ≤ S512x128.size a) (w : S512x128.Idx → Val .f32) (L : List (View.Piece Val S512x128 .f32))
    (x : Fin 512) (y : Fin 128) (r : Fin 512) (c : Fin 128) (hr : r.val = off 0 + x.val) (hc : c.val = off 1 + y.val) :
    v.read Val (v.writes Val f (⟨Rect.unit (s := S512x128) off S512x128.size h, w⟩ :: L)) (ix2 r c) = w (ix2 x y) := by
  have e : ∀ a : Fin 2, ((ix2 r c : S512x128.Idx) a).val = off a + 1 * ((ix2 x y : S512x128.Idx) a).val := fun a => by
    match a with
    | ⟨0, _⟩ => show r.val = off 0 + 1 * x.val; omega
    | ⟨1, _⟩ => show c.val = off 1 + 1 * y.val; omega
  exact View.read_writes_cons_hit_of_coords v f (Rect.unit (s := S512x128) off S512x128.size h) w L (ix2 x y : S512x128.Idx) (ix2 r c) e

theorem missM5_1 {Val : EltTy → Type} (v : View sig .tc .vmem S512x128 .f32) (f : v.ty.Contents Val) (off : Fin 2 → ℕ) (h : ∀ a : Fin S512x128.rank, off a + S512x128.size a ≤ S512x128.size a) (w : S512x128.Idx → Val .f32) (L : List (View.Piece Val S512x128 .f32))
    (r : Fin 512) (c : Fin 128) (hc : c.val < off 1 ∨ off 1 + 128 ≤ c.val) :
    v.read Val (v.writes Val f (⟨Rect.unit (s := S512x128) off S512x128.size h, w⟩ :: L)) (ix2 r c) = v.read Val (v.writes Val f L) (ix2 r c) :=
  View.read_writes_cons_miss_of_axis v f _ L (ix2 r c) 1 (off 1) 128 rfl rfl rfl hc

theorem missM5_0 {Val : EltTy → Type} (v : View sig .tc .vmem S512x128 .f32) (f : v.ty.Contents Val) (off : Fin 2 → ℕ) (h : ∀ a : Fin S512x128.rank, off a + S512x128.size a ≤ S512x128.size a) (w : S512x128.Idx → Val .f32) (L : List (View.Piece Val S512x128 .f32))
    (r : Fin 512) (c : Fin 128) (hr : r.val < off 0 ∨ off 0 + 512 ≤ r.val) :
    v.read Val (v.writes Val f (⟨Rect.unit (s := S512x128) off S512x128.size h, w⟩ :: L)) (ix2 r c) = v.read Val (v.writes Val f L) (ix2 r c) :=
  View.read_writes_cons_miss_of_axis v f _ L (ix2 r c) 0 (off 0) 512 rfl rfl rfl hr

theorem hitM2 {Val : EltTy → Type} (v : View sig .tc .vmem S512x128 .f32) (f : v.ty.Contents Val) (off : Fin 2 → ℕ) (h : ∀ a : Fin S512x128.rank, off a + S256x128.size a ≤ S512x128.size a) (w : S256x128.Idx → Val .f32) (L : List (View.Piece Val S512x128 .f32))
    (x : Fin 256) (y : Fin 128) (r : Fin 512) (c : Fin 128) (hr : r.val = off 0 + x.val) (hc : c.val = off 1 + y.val) :
    v.read Val (v.writes Val f (⟨Rect.unit (s := S512x128) off S256x128.size h, w⟩ :: L)) (ix2 r c) = w (ix2 x y) := by
  have e : ∀ a : Fin 2, ((ix2 r c : S512x128.Idx) a).val = off a + 1 * ((ix2 x y : S256x128.Idx) a).val := fun a => by
    match a with
    | ⟨0, _⟩ => show r.val = off 0 + 1 * x.val; omega
    | ⟨1, _⟩ => show c.val = off 1 + 1 * y.val; omega
  exact View.read_writes_cons_hit_of_coords v f (Rect.unit (s := S512x128) off S256x128.size h) w L (ix2 x y : S256x128.Idx) (ix2 r c) e

theorem missM2_1 {Val : EltTy → Type} (v : View sig .tc .vmem S512x128 .f32) (f : v.ty.Contents Val) (off : Fin 2 → ℕ) (h : ∀ a : Fin S512x128.rank, off a + S256x128.size a ≤ S512x128.size a) (w : S256x128.Idx → Val .f32) (L : List (View.Piece Val S512x128 .f32))
    (r : Fin 512) (c : Fin 128) (hc : c.val < off 1 ∨ off 1 + 128 ≤ c.val) :
    v.read Val (v.writes Val f (⟨Rect.unit (s := S512x128) off S256x128.size h, w⟩ :: L)) (ix2 r c) = v.read Val (v.writes Val f L) (ix2 r c) :=
  View.read_writes_cons_miss_of_axis v f _ L (ix2 r c) 1 (off 1) 128 rfl rfl rfl hc

theorem missM2_0 {Val : EltTy → Type} (v : View sig .tc .vmem S512x128 .f32) (f : v.ty.Contents Val) (off : Fin 2 → ℕ) (h : ∀ a : Fin S512x128.rank, off a + S256x128.size a ≤ S512x128.size a) (w : S256x128.Idx → Val .f32) (L : List (View.Piece Val S512x128 .f32))
    (r : Fin 512) (c : Fin 128) (hr : r.val < off 0 ∨ off 0 + 256 ≤ r.val) :
    v.read Val (v.writes Val f (⟨Rect.unit (s := S512x128) off S256x128.size h, w⟩ :: L)) (ix2 r c) = v.read Val (v.writes Val f L) (ix2 r c) :=
  View.read_writes_cons_miss_of_axis v f _ L (ix2 r c) 0 (off 0) 256 rfl rfl rfl hr

theorem hitA5 {Val : EltTy → Type} (v : View sig .tc .vmem S512x512 .f32) (f : v.ty.Contents Val) (off : Fin 2 → ℕ) (h : ∀ a : Fin S512x512.rank, off a + S512x128.size a ≤ S512x512.size a) (w : S512x128.Idx → Val .f32) (L : List (View.Piece Val S512x512 .f32))
    (x : Fin 512) (y : Fin 128) (r : Fin 512) (c : Fin 512) (hr : r.val = off 0 + x.val) (hc : c.val = off 1 + y.val) :
    v.read Val (v.writes Val f (⟨Rect.unit (s := S512x512) off S512x128.size h, w⟩ :: L)) (ix2 r c) = w (ix2 x y) := by
  have e : ∀ a : Fin 2, ((ix2 r c : S512x512.Idx) a).val = off a + 1 * ((ix2 x y : S512x128.Idx) a).val := fun a => by
    match a with
    | ⟨0, _⟩ => show r.val = off 0 + 1 * x.val; omega
    | ⟨1, _⟩ => show c.val = off 1 + 1 * y.val; omega
  exact View.read_writes_cons_hit_of_coords v f (Rect.unit (s := S512x512) off S512x128.size h) w L (ix2 x y : S512x128.Idx) (ix2 r c) e

theorem missA5_1 {Val : EltTy → Type} (v : View sig .tc .vmem S512x512 .f32) (f : v.ty.Contents Val) (off : Fin 2 → ℕ) (h : ∀ a : Fin S512x512.rank, off a + S512x128.size a ≤ S512x512.size a) (w : S512x128.Idx → Val .f32) (L : List (View.Piece Val S512x512 .f32))
    (r : Fin 512) (c : Fin 512) (hc : c.val < off 1 ∨ off 1 + 128 ≤ c.val) :
    v.read Val (v.writes Val f (⟨Rect.unit (s := S512x512) off S512x128.size h, w⟩ :: L)) (ix2 r c) = v.read Val (v.writes Val f L) (ix2 r c) :=
  View.read_writes_cons_miss_of_axis v f _ L (ix2 r c) 1 (off 1) 128 rfl rfl rfl hc

theorem missA5_0 {Val : EltTy → Type} (v : View sig .tc .vmem S512x512 .f32) (f : v.ty.Contents Val) (off : Fin 2 → ℕ) (h : ∀ a : Fin S512x512.rank, off a + S512x128.size a ≤ S512x512.size a) (w : S512x128.Idx → Val .f32) (L : List (View.Piece Val S512x512 .f32))
    (r : Fin 512) (c : Fin 512) (hr : r.val < off 0 ∨ off 0 + 512 ≤ r.val) :
    v.read Val (v.writes Val f (⟨Rect.unit (s := S512x512) off S512x128.size h, w⟩ :: L)) (ix2 r c) = v.read Val (v.writes Val f L) (ix2 r c) :=
  View.read_writes_cons_miss_of_axis v f _ L (ix2 r c) 0 (off 0) 512 rfl rfl rfl hr

theorem hitA2 {Val : EltTy → Type} (v : View sig .tc .vmem S512x512 .f32) (f : v.ty.Contents Val) (off : Fin 2 → ℕ) (h : ∀ a : Fin S512x512.rank, off a + S256x128.size a ≤ S512x512.size a) (w : S256x128.Idx → Val .f32) (L : List (View.Piece Val S512x512 .f32))
    (x : Fin 256) (y : Fin 128) (r : Fin 512) (c : Fin 512) (hr : r.val = off 0 + x.val) (hc : c.val = off 1 + y.val) :
    v.read Val (v.writes Val f (⟨Rect.unit (s := S512x512) off S256x128.size h, w⟩ :: L)) (ix2 r c) = w (ix2 x y) := by
  have e : ∀ a : Fin 2, ((ix2 r c : S512x512.Idx) a).val = off a + 1 * ((ix2 x y : S256x128.Idx) a).val := fun a => by
    match a with
    | ⟨0, _⟩ => show r.val = off 0 + 1 * x.val; omega
    | ⟨1, _⟩ => show c.val = off 1 + 1 * y.val; omega
  exact View.read_writes_cons_hit_of_coords v f (Rect.unit (s := S512x512) off S256x128.size h) w L (ix2 x y : S256x128.Idx) (ix2 r c) e

theorem missA2_1 {Val : EltTy → Type} (v : View sig .tc .vmem S512x512 .f32) (f : v.ty.Contents Val) (off : Fin 2 → ℕ) (h : ∀ a : Fin S512x512.rank, off a + S256x128.size a ≤ S512x512.size a) (w : S256x128.Idx → Val .f32) (L : List (View.Piece Val S512x512 .f32))
    (r : Fin 512) (c : Fin 512) (hc : c.val < off 1 ∨ off 1 + 128 ≤ c.val) :
    v.read Val (v.writes Val f (⟨Rect.unit (s := S512x512) off S256x128.size h, w⟩ :: L)) (ix2 r c) = v.read Val (v.writes Val f L) (ix2 r c) :=
  View.read_writes_cons_miss_of_axis v f _ L (ix2 r c) 1 (off 1) 128 rfl rfl rfl hc

theorem missA2_0 {Val : EltTy → Type} (v : View sig .tc .vmem S512x512 .f32) (f : v.ty.Contents Val) (off : Fin 2 → ℕ) (h : ∀ a : Fin S512x512.rank, off a + S256x128.size a ≤ S512x512.size a) (w : S256x128.Idx → Val .f32) (L : List (View.Piece Val S512x512 .f32))
    (r : Fin 512) (c : Fin 512) (hr : r.val < off 0 ∨ off 0 + 256 ≤ r.val) :
    v.read Val (v.writes Val f (⟨Rect.unit (s := S512x512) off S256x128.size h, w⟩ :: L)) (ix2 r c) = v.read Val (v.writes Val f L) (ix2 r c) :=
  View.read_writes_cons_miss_of_axis v f _ L (ix2 r c) 0 (off 0) 256 rfl rfl rfl hr

theorem pieces4 {Val : EltTy → Type} (v : View sig .tc .vmem S512x512 .f32) (f : v.ty.Contents Val) (w0 w1 w2 w3 : S512x128.Idx → Val .f32) (h0 : ∀ a : Fin S512x512.rank, (![0, 0] : Fin 2 → ℕ) a + S512x128.size a ≤ S512x512.size a) (h1 : ∀ a : Fin S512x512.rank, (![0, 128] : Fin 2 → ℕ) a + S512x128.size a ≤ S512x512.size a) (h2 : ∀ a : Fin S512x512.rank, (![0, 256] : Fin 2 → ℕ) a + S512x128.size a ≤ S512x512.size a) (h3 : ∀ a : Fin S512x512.rank, (![0, 384] : Fin 2 → ℕ) a + S512x128.size a ≤ S512x512.size a)
    (r : Fin 512) (G : Fin 512 → Val .f32) (g0 : ∀ b : Fin 128, w0 (ix2 r b) = G ⟨b.val, by omega⟩) (g1 : ∀ b : Fin 128, w1 (ix2 r b) = G ⟨128 + b.val, by omega⟩) (g2 : ∀ b : Fin 128, w2 (ix2 r b) = G ⟨256 + b.val, by omega⟩) (g3 : ∀ b : Fin 128, w3 (ix2 r b) = G ⟨384 + b.val, by omega⟩) (c : Fin 512) :
    v.read Val (v.writes Val f [⟨Rect.unit (s := S512x512) ![0, 384] S512x128.size h3, w3⟩, ⟨Rect.unit (s := S512x512) ![0, 256] S512x128.size h2, w2⟩, ⟨Rect.unit (s := S512x512) ![0, 128] S512x128.size h1, w1⟩, ⟨Rect.unit (s := S512x512) ![0, 0] S512x128.size h0, w0⟩]) (ix2 r c) = G c := by
  have hc := c.isLt
  rcases (show c.val / 128 = 0 ∨ c.val / 128 = 1 ∨ c.val / 128 = 2 ∨ c.val / 128 = 3 by omega) with h | h | h | h
  · rw [missA5_1 _ _ _ _ _ _ _ _ (Or.inl (show c.val < 384 by omega))]
    rw [missA5_1 _ _ _ _ _ _ _ _ (Or.inl (show c.val < 256 by omega))]
    rw [missA5_1 _ _ _ _ _ _ _ _ (Or.inl (show c.val < 128 by omega))]
    rw [hitA5 _ _ _ _ _ _ r ⟨c.val - 0, by omega⟩ r c (show r.val = 0 + r.val by omega) (show c.val = 0 + (c.val - 0) by omega), g0]
    exact congrArg G (Fin.ext (show (c.val - 0) = c.val by omega))
  · rw [missA5_1 _ _ _ _ _ _ _ _ (Or.inl (show c.val < 384 by omega))]
    rw [missA5_1 _ _ _ _ _ _ _ _ (Or.inl (show c.val < 256 by omega))]
    rw [hitA5 _ _ _ _ _ _ r ⟨c.val - 128, by omega⟩ r c (show r.val = 0 + r.val by omega) (show c.val = 128 + (c.val - 128) by omega), g1]
    exact congrArg G (Fin.ext (show 128 + (c.val - 128) = c.val by omega))
  · rw [missA5_1 _ _ _ _ _ _ _ _ (Or.inl (show c.val < 384 by omega))]
    rw [hitA5 _ _ _ _ _ _ r ⟨c.val - 256, by omega⟩ r c (show r.val = 0 + r.val by omega) (show c.val = 256 + (c.val - 256) by omega), g2]
    exact congrArg G (Fin.ext (show 256 + (c.val - 256) = c.val by omega))
  · skip
    rw [hitA5 _ _ _ _ _ _ r ⟨c.val - 384, by omega⟩ r c (show r.val = 0 + r.val by omega) (show c.val = 384 + (c.val - 384) by omega), g3]
    exact congrArg G (Fin.ext (show 384 + (c.val - 384) = c.val by omega))

theorem pieces8up {Val : EltTy → Type} (v : View sig .tc .vmem S512x512 .f32) (f : v.ty.Contents Val) (u0 u1 u2 u3 w0 w1 w2 w3 : S256x128.Idx → Val .f32) (wh0 : ∀ a : Fin S512x512.rank, (![256, 0] : Fin 2 → ℕ) a + S256x128.size a ≤ S512x512.size a) (wh1 : ∀ a : Fin S512x512.rank, (![256, 128] : Fin 2 → ℕ) a + S256x128.size a ≤ S512x512.size a) (wh2 : ∀ a : Fin S512x512.rank, (![256, 256] : Fin 2 → ℕ) a + S256x128.size a ≤ S512x512.size a) (wh3 : ∀ a : Fin S512x512.rank, (![256, 384] : Fin 2 → ℕ) a + S256x128.size a ≤ S512x512.size a) (uh0 : ∀ a : Fin S512x512.rank, (![0, 0] : Fin 2 → ℕ) a + S256x128.size a ≤ S512x512.size a) (uh1 : ∀ a : Fin S512x512.rank, (![0, 128] : Fin 2 → ℕ) a + S256x128.size a ≤ S512x512.size a) (uh2 : ∀ a : Fin S512x512.rank, (![0, 256] : Fin 2 → ℕ) a + S256x128.size a ≤ S512x512.size a) (uh3 : ∀ a : Fin S512x512.rank, (![0, 384] : Fin 2 → ℕ) a + S256x128.size a ≤ S512x512.size a)
    (x : Fin 256) (r : Fin 512) (hr : r.val = 0 + x.val) (G : Fin 512 → Val .f32) (g0 : ∀ b : Fin 128, u0 (ix2 x b) = G ⟨b.val, by omega⟩) (g1 : ∀ b : Fin 128, u1 (ix2 x b) = G ⟨128 + b.val, by omega⟩) (g2 : ∀ b : Fin 128, u2 (ix2 x b) = G ⟨256 + b.val, by omega⟩) (g3 : ∀ b : Fin 128, u3 (ix2 x b) = G ⟨384 + b.val, by omega⟩) (c : Fin 512) :
    v.read Val (v.writes Val f [⟨Rect.unit (s := S512x512) ![256, 384] S256x128.size wh3, w3⟩, ⟨Rect.unit (s := S512x512) ![256, 256] S256x128.size wh2, w2⟩, ⟨Rect.unit (s := S512x512) ![256, 128] S256x128.size wh1, w1⟩, ⟨Rect.unit (s := S512x512) ![256, 0] S256x128.size wh0, w0⟩, ⟨Rect.unit (s := S512x512) ![0, 384] S256x128.size uh3, u3⟩, ⟨Rect.unit (s := S512x512) ![0, 256] S256x128.size uh2, u2⟩, ⟨Rect.unit (s := S512x512) ![0, 128] S256x128.size uh1, u1⟩, ⟨Rect.unit (s := S512x512) ![0, 0] S256x128.size uh0, u0⟩]) (ix2 r c) = G c := by
  have hc := c.isLt
  have hx := x.isLt
  rw [missA2_0 _ _ _ _ _ _ _ _ (Or.inl (show r.val < 256 by omega))]
  rw [missA2_0 _ _ _ _ _ _ _ _ (Or.inl (show r.val < 256 by omega))]
  rw [missA2_0 _ _ _ _ _ _ _ _ (Or.inl (show r.val < 256 by omega))]
  rw [missA2_0 _ _ _ _ _ _ _ _ (Or.inl (show r.val < 256 by omega))]
  rcases (show c.val / 128 = 0 ∨ c.val / 128 = 1 ∨ c.val / 128 = 2 ∨ c.val / 128 = 3 by omega) with h | h | h | h
  · rw [missA2_1 _ _ _ _ _ _ _ _ (Or.inl (show c.val < 384 by omega))]
    rw [missA2_1 _ _ _ _ _ _ _ _ (Or.inl (show c.val < 256 by omega))]
    rw [missA2_1 _ _ _ _ _ _ _ _ (Or.inl (show c.val < 128 by omega))]
    rw [hitA2 _ _ _ _ _ _ x ⟨c.val - 0, by omega⟩ r c (show r.val = 0 + x.val by omega) (show c.val = 0 + (c.val - 0) by omega), g0]
    exact congrArg G (Fin.ext (show (c.val - 0) = c.val by omega))
  · rw [missA2_1 _ _ _ _ _ _ _ _ (Or.inl (show c.val < 384 by omega))]
    rw [missA2_1 _ _ _ _ _ _ _ _ (Or.inl (show c.val < 256 by omega))]
    rw [hitA2 _ _ _ _ _ _ x ⟨c.val - 128, by omega⟩ r c (show r.val = 0 + x.val by omega) (show c.val = 128 + (c.val - 128) by omega), g1]
    exact congrArg G (Fin.ext (show 128 + (c.val - 128) = c.val by omega))
  · rw [missA2_1 _ _ _ _ _ _ _ _ (Or.inl (show c.val < 384 by omega))]
    rw [hitA2 _ _ _ _ _ _ x ⟨c.val - 256, by omega⟩ r c (show r.val = 0 + x.val by omega) (show c.val = 256 + (c.val - 256) by omega), g2]
    exact congrArg G (Fin.ext (show 256 + (c.val - 256) = c.val by omega))
  · skip
    rw [hitA2 _ _ _ _ _ _ x ⟨c.val - 384, by omega⟩ r c (show r.val = 0 + x.val by omega) (show c.val = 384 + (c.val - 384) by omega), g3]
    exact congrArg G (Fin.ext (show 384 + (c.val - 384) = c.val by omega))

theorem pieces8low {Val : EltTy → Type} (v : View sig .tc .vmem S512x512 .f32) (f : v.ty.Contents Val) (u0 u1 u2 u3 w0 w1 w2 w3 : S256x128.Idx → Val .f32) (wh0 : ∀ a : Fin S512x512.rank, (![256, 0] : Fin 2 → ℕ) a + S256x128.size a ≤ S512x512.size a) (wh1 : ∀ a : Fin S512x512.rank, (![256, 128] : Fin 2 → ℕ) a + S256x128.size a ≤ S512x512.size a) (wh2 : ∀ a : Fin S512x512.rank, (![256, 256] : Fin 2 → ℕ) a + S256x128.size a ≤ S512x512.size a) (wh3 : ∀ a : Fin S512x512.rank, (![256, 384] : Fin 2 → ℕ) a + S256x128.size a ≤ S512x512.size a) (uh0 : ∀ a : Fin S512x512.rank, (![0, 0] : Fin 2 → ℕ) a + S256x128.size a ≤ S512x512.size a) (uh1 : ∀ a : Fin S512x512.rank, (![0, 128] : Fin 2 → ℕ) a + S256x128.size a ≤ S512x512.size a) (uh2 : ∀ a : Fin S512x512.rank, (![0, 256] : Fin 2 → ℕ) a + S256x128.size a ≤ S512x512.size a) (uh3 : ∀ a : Fin S512x512.rank, (![0, 384] : Fin 2 → ℕ) a + S256x128.size a ≤ S512x512.size a)
    (x : Fin 256) (r : Fin 512) (hr : r.val = 256 + x.val) (G : Fin 512 → Val .f32) (g0 : ∀ b : Fin 128, w0 (ix2 x b) = G ⟨b.val, by omega⟩) (g1 : ∀ b : Fin 128, w1 (ix2 x b) = G ⟨128 + b.val, by omega⟩) (g2 : ∀ b : Fin 128, w2 (ix2 x b) = G ⟨256 + b.val, by omega⟩) (g3 : ∀ b : Fin 128, w3 (ix2 x b) = G ⟨384 + b.val, by omega⟩) (c : Fin 512) :
    v.read Val (v.writes Val f [⟨Rect.unit (s := S512x512) ![256, 384] S256x128.size wh3, w3⟩, ⟨Rect.unit (s := S512x512) ![256, 256] S256x128.size wh2, w2⟩, ⟨Rect.unit (s := S512x512) ![256, 128] S256x128.size wh1, w1⟩, ⟨Rect.unit (s := S512x512) ![256, 0] S256x128.size wh0, w0⟩, ⟨Rect.unit (s := S512x512) ![0, 384] S256x128.size uh3, u3⟩, ⟨Rect.unit (s := S512x512) ![0, 256] S256x128.size uh2, u2⟩, ⟨Rect.unit (s := S512x512) ![0, 128] S256x128.size uh1, u1⟩, ⟨Rect.unit (s := S512x512) ![0, 0] S256x128.size uh0, u0⟩]) (ix2 r c) = G c := by
  have hc := c.isLt
  have hx := x.isLt
  rcases (show c.val / 128 = 0 ∨ c.val / 128 = 1 ∨ c.val / 128 = 2 ∨ c.val / 128 = 3 by omega) with h | h | h | h
  · rw [missA2_1 _ _ _ _ _ _ _ _ (Or.inl (show c.val < 384 by omega))]
    rw [missA2_1 _ _ _ _ _ _ _ _ (Or.inl (show c.val < 256 by omega))]
    rw [missA2_1 _ _ _ _ _ _ _ _ (Or.inl (show c.val < 128 by omega))]
    rw [hitA2 _ _ _ _ _ _ x ⟨c.val - 0, by omega⟩ r c (show r.val = 256 + x.val by omega) (show c.val = 0 + (c.val - 0) by omega), g0]
    exact congrArg G (Fin.ext (show (c.val - 0) = c.val by omega))
  · rw [missA2_1 _ _ _ _ _ _ _ _ (Or.inl (show c.val < 384 by omega))]
    rw [missA2_1 _ _ _ _ _ _ _ _ (Or.inl (show c.val < 256 by omega))]
    rw [hitA2 _ _ _ _ _ _ x ⟨c.val - 128, by omega⟩ r c (show r.val = 256 + x.val by omega) (show c.val = 128 + (c.val - 128) by omega), g1]
    exact congrArg G (Fin.ext (show 128 + (c.val - 128) = c.val by omega))
  · rw [missA2_1 _ _ _ _ _ _ _ _ (Or.inl (show c.val < 384 by omega))]
    rw [hitA2 _ _ _ _ _ _ x ⟨c.val - 256, by omega⟩ r c (show r.val = 256 + x.val by omega) (show c.val = 256 + (c.val - 256) by omega), g2]
    exact congrArg G (Fin.ext (show 256 + (c.val - 256) = c.val by omega))
  · skip
    rw [hitA2 _ _ _ _ _ _ x ⟨c.val - 384, by omega⟩ r c (show r.val = 256 + x.val by omega) (show c.val = 384 + (c.val - 384) by omega), g3]
    exact congrArg G (Fin.ext (show 384 + (c.val - 384) = c.val by omega))

theorem cast5 (x : FVec Ideal S512x128 .f32) (i : Fin 512) (j : Fin 128) : shapeCast S512x128 x shapeCasts_S512x128_S512x128 (ix2 i j) = x (ix2 i j) := by
  pointwise

theorem cast2 (x : FVec Ideal S256x128 .f32) (i : Fin 256) (j : Fin 128) : shapeCast S256x128 x shapeCasts_S256x128_S256x128 (ix2 i j) = x (ix2 i j) := by
  pointwise

theorem lane_add (k : ℕ) (b : Fin 128) (h : 128 * k + b.val < 512) : lane ⟨128 * k + b.val, h⟩ = b :=
  Fin.ext (by have := b.isLt; simp only [lane]; omega)

/-! ## One row through one head's scratch -/

/-- Row `r` of one head's scratch holds the row's state after its first `n` keys. -/
def RowC (a : Memref sig .tc .vmem S512x512 .f32) (m l : Memref sig .tc .vmem S512x128 .f32) (r : Fin 512) (sc : ℕ → EReal) (v : ℕ → Fin 512 → ℝ) (n : ℕ)
    (fa : BufTy.Contents (Elt Ideal) a.view.ty) (fm : BufTy.Contents (Elt Ideal) m.view.ty) (fl : BufTy.Contents (Elt Ideal) l.view.ty) : Prop :=
  RowSt sc v n (fun b => (m.view.read (Elt Ideal) fm (ix2 r b) : EReal)) (fun b => (l.view.read (Elt Ideal) fl (ix2 r b) : EReal)) (fun c => (a.view.read (Elt Ideal) fa (ix2 r c) : EReal))

theorem zero_row (a : Memref sig .tc .vmem S512x512 .f32) (m l : Memref sig .tc .vmem S512x128 .f32) (r : Fin 512) (sc : ℕ → EReal) (v : ℕ → Fin 512 → ℝ) :
    RowC a m l r sc v 0 (Z5 a) (N1 m) (Z1 l) := by
  refine RowSt.zero _ _ _ _ _ (fun b => ?_) (fun b => ?_) (fun c => ?_)
  · show m.view.read (Elt Ideal) (N1 m) (ix2 r b) = _
    unfold N1
    rw [hitM5 _ _ _ _ _ _ r b r b (show r.val = 0 + r.val by omega) (show b.val = 0 + b.val by omega)]
    unfold ninf1
    pointwise
    rfl
  · show l.view.read (Elt Ideal) (Z1 l) (ix2 r b) = _
    unfold Z1
    rw [hitM5 _ _ _ _ _ _ r b r b (show r.val = 0 + r.val by omega) (show b.val = 0 + b.val by omega)]
    unfold z1
    pointwise
  · show a.view.read (Elt Ideal) (Z5 a) (ix2 r c) = _
    unfold Z5
    rw [View.read_writes_cons_hit_of_coords a.view _ _ _ [] (ix2 r c) (ix2 r c) (fun a => by
      match a with
      | ⟨0, _⟩ => show r.val = 0 + 1 * r.val; omega
      | ⟨1, _⟩ => show c.val = 0 + 1 * c.val; omega)]
    unfold z5
    pointwise

set_option maxHeartbeats 1000000 in
theorem trip_row (a : Memref sig .tc .vmem S512x512 .f32) (m l : Memref sig .tc .vmem S512x128 .f32) (q : FVec Ideal S512x640 .bf16) (kv : Vec Ideal S1x512x640 .bf16) (r : Fin 512) (sc : ℕ → EReal) (v : ℕ → Fin 512 → ℝ) (n : ℕ)
    (fa : BufTy.Contents (Elt Ideal) a.view.ty) (fm : BufTy.Contents (Elt Ideal) m.view.ty) (fl : BufTy.Contents (Elt Ideal) l.view.ty)
    (h : RowC a m l r sc v n fa fm fl)
    (hs : ∀ j : Fin 512, tS q kv (ix2 r j) = sc (n + j.val)) (hv : ∀ (j c : Fin 512), tV kv (ix2 j c) = (v (n + j.val) c : EReal))
    (ht : ∀ j, sc j ≠ ⊤) (j0 : Fin 512) (h0 : tS q kv (ix2 r j0) ≠ ⊥) :
    RowC a m l r sc v (n + 512) ((tripH a m l q kv).stp (fa, fm, fl)).1 ((tripH a m l q kv).stp (fa, fm, fl)).2.1 ((tripH a m l q kv).stp (fa, fm, fl)).2.2 := by
  have eM : (fun b => (m.view.read (Elt Ideal) fm (ix2 r b) : EReal)) = fun b => (m.view.readAt (Elt Ideal) (Rect.unit (s := S512x128) ![0, 0] S512x128.size inb_S512x128_S512x128_0_0).toLoadRect fm (ix2 r b) : EReal) :=
    funext fun b => (rdM5 m.view fm ![0, 0] _ r b r b (show r.val = 0 + r.val by omega) (show b.val = 0 + b.val by omega)).symm
  have eL : (fun b => (l.view.read (Elt Ideal) fl (ix2 r b) : EReal)) = fun b => (l.view.readAt (Elt Ideal) (Rect.unit (s := S512x128) ![0, 0] S512x128.size inb_S512x128_S512x128_0_0).toLoadRect fl (ix2 r b) : EReal) :=
    funext fun b => (rdM5 l.view fl ![0, 0] _ r b r b (show r.val = 0 + r.val by omega) (show b.val = 0 + b.val by omega)).symm
  unfold RowC at h
  rw [eM, eL] at h
  have key := t_step (tS q kv) _ _ (tV kv) r sc v n _ (fun c => (a.view.read (Elt Ideal) ((tripH a m l q kv).stp (fa, fm, fl)).1 (ix2 r c) : EReal)) h hs hv ht j0 h0 (fun c => by
    refine pieces4 a.view fa _ _ _ _ _ _ _ _ r (fun c => tAl (tS q kv) _ (ix2 r (lane c)) * (a.view.read (Elt Ideal) fa (ix2 r c) : EReal) + tPV (tS q kv) _ (tV kv) (ix2 r c)) (fun b => ?_) (fun b => ?_) (fun b => ?_) (fun b => ?_) c
    · refine (cast5 _ r b).trans ((tA0_apply _ _ _ _ r b).trans ?_)
      rw [rdA5 a.view fa ![0, 0] _ r b r ⟨b.val, by omega⟩ (show r.val = 0 + r.val by omega) (show b.val = 0 + b.val by omega)]
      rw [show lane ⟨b.val, by omega⟩ = b from Fin.ext (by have := b.isLt; simp only [lane]; omega)]
    · refine (cast5 _ r b).trans ((tA1_apply _ _ _ _ r b).trans ?_)
      rw [rdA5 a.view fa ![0, 128] _ r b r ⟨128 + b.val, by omega⟩ (show r.val = 0 + r.val by omega) (show 128 + b.val = 128 + b.val by omega)]
      rw [show lane ⟨128 + b.val, by omega⟩ = b from Fin.ext (by have := b.isLt; simp only [lane]; omega)]
    · refine (cast5 _ r b).trans ((tA2_apply _ _ _ _ r b).trans ?_)
      rw [rdA5 a.view fa ![0, 256] _ r b r ⟨256 + b.val, by omega⟩ (show r.val = 0 + r.val by omega) (show 256 + b.val = 256 + b.val by omega)]
      rw [show lane ⟨256 + b.val, by omega⟩ = b from Fin.ext (by have := b.isLt; simp only [lane]; omega)]
    · refine (cast5 _ r b).trans ((tA3_apply _ _ _ _ r b).trans ?_)
      rw [rdA5 a.view fa ![0, 384] _ r b r ⟨384 + b.val, by omega⟩ (show r.val = 0 + r.val by omega) (show 384 + b.val = 384 + b.val by omega)]
      rw [show lane ⟨384 + b.val, by omega⟩ = b from Fin.ext (by have := b.isLt; simp only [lane]; omega)]
    )
  unfold RowC
  have eM' : (fun b => (m.view.read (Elt Ideal) ((tripH a m l q kv).stp (fa, fm, fl)).2.1 (ix2 r b) : EReal)) = fun b => tM (tS q kv) (m.view.readAt (Elt Ideal) (Rect.unit (s := S512x128) ![0, 0] S512x128.size inb_S512x128_S512x128_0_0).toLoadRect fm) (ix2 r b) := by
    funext b
    exact (hitM5 m.view fm _ _ _ _ r b r b (show r.val = 0 + r.val by omega) (show b.val = 0 + b.val by omega)).trans (cast5 _ r b)
  have eL' : (fun b => (l.view.read (Elt Ideal) ((tripH a m l q kv).stp (fa, fm, fl)).2.2 (ix2 r b) : EReal)) = fun b => tL (tS q kv) (m.view.readAt (Elt Ideal) (Rect.unit (s := S512x128) ![0, 0] S512x128.size inb_S512x128_S512x128_0_0).toLoadRect fm) (l.view.readAt (Elt Ideal) (Rect.unit (s := S512x128) ![0, 0] S512x128.size inb_S512x128_S512x128_0_0).toLoadRect fl) (ix2 r b) := by
    funext b
    exact (hitM5 l.view fl _ _ _ _ r b r b (show r.val = 0 + r.val by omega) (show b.val = 0 + b.val by omega)).trans (cast5 _ r b)
  rw [eM', eL']
  exact key

theorem trips_row (a : Memref sig .tc .vmem S512x512 .f32) (m l : Memref sig .tc .vmem S512x128 .f32) (q : FVec Ideal S512x640 .bf16) {N : ℕ} (ks : Fin N → Vec Ideal S1x512x640 .bf16) (r : Fin 512) (sc : ℕ → EReal) (v : ℕ → Fin 512 → ℝ)
    (hs : ∀ (k : Fin N) (j : Fin 512), tS q (ks k) (ix2 r j) = sc (512 * k.val + j.val)) (hv : ∀ (k : Fin N) (j c : Fin 512), tV (ks k) (ix2 j c) = (v (512 * k.val + j.val) c : EReal))
    (ht : ∀ j, sc j ≠ ⊤) (hb : ∀ j, j < 512 * N → sc j ≠ ⊥) (n : ℕ) (hn : n ≤ N) :
    RowC a m l r sc v (512 * n) (stA (fun k => tripH a m l q (ks k)) (Z5 a) (N1 m) (Z1 l) n) (stM (fun k => tripH a m l q (ks k)) (Z5 a) (N1 m) (Z1 l) n) (stL (fun k => tripH a m l q (ks k)) (Z5 a) (N1 m) (Z1 l) n) := by
  induction n with
  | zero => exact zero_row a m l r sc v
  | succ n ih =>
    have hi := ih (by omega)
    rw [stA_eq, stM_eq, stL_eq] at hi ⊢
    rw [stH_succ (fun k => tripH a m l q (ks k)) (Z5 a, N1 m, Z1 l) ⟨n, by omega⟩]
    exact trip_row a m l q (ks ⟨n, by omega⟩) r sc v (512 * n) _ _ _ hi (hs ⟨n, by omega⟩) (hv ⟨n, by omega⟩) ht 0 (by rw [hs]; exact hb _ (by simp only [Fin.val_zero]; omega))

theorem fin_apply (a : Vec Ideal S512x512 .f32) (l : Vec Ideal S512x128 .f32) (w : Vec Ideal S1x512x128 .bf16) (r : Fin 512) (j : Fin 128) :
    fin a l w (ix3 0 r j) = ∑ c, Ideal.div (a (ix2 r c)) (∑ b, l (ix2 r b)) * w (ix3 0 c j) := by
  pointwise [fin]

set_option maxHeartbeats 1000000 in
/-- The upper half's rows over the diagonal block. -/
theorem diag_up (a : Memref sig .tc .vmem S512x512 .f32) (m l : Memref sig .tc .vmem S512x128 .f32) (q : FVec Ideal S512x640 .bf16) (kv : Vec Ideal S1x512x640 .bf16) (x : Fin 256) (r : Fin 512) (hr : r.val = 0 + x.val) (sc : ℕ → EReal) (v : ℕ → Fin 512 → ℝ) (n : ℕ)
    (fa : BufTy.Contents (Elt Ideal) a.view.ty) (fm : BufTy.Contents (Elt Ideal) m.view.ty) (fl : BufTy.Contents (Elt Ideal) l.view.ty) (ga : BufTy.Contents (Elt Ideal) a.view.ty) (gl : BufTy.Contents (Elt Ideal) l.view.ty)
    (h : RowC a m l r sc v n fa fm fl)
    (hs : ∀ j : Fin 256, uS q kv (ix2 x j) = sc (n + j.val)) (hv : ∀ (j : Fin 256) (c : Fin 512), uV kv (ix2 j c) = (v (n + j.val) c : EReal))
    (ht : ∀ j, sc j ≠ ⊤) (j0 : Fin 256) (h0 : uS q kv (ix2 x j0) ≠ ⊥) :
    ∃ M : Fin 128 → EReal, RowSt sc v (n + 256) M (fun b => (l.view.read (Elt Ideal) (l.view.writes (Elt Ideal) gl (diagL a m l q kv fa fm fl)) (ix2 r b) : EReal))
      (fun c => (a.view.read (Elt Ideal) (a.view.writes (Elt Ideal) ga (diagA a m l q kv fa fm fl)) (ix2 r c) : EReal)) := by
  have hx := x.isLt
  have eM : (fun b => (m.view.read (Elt Ideal) fm (ix2 r b) : EReal)) = fun b => (m.view.readAt (Elt Ideal) (Rect.unit (s := S512x128) ![0, 0] S256x128.size inbS_0).toLoadRect fm (ix2 x b) : EReal) :=
    funext fun b => (rdM2 m.view fm ![0, 0] _ x b r b hr (show b.val = 0 + b.val by omega)).symm
  have eL : (fun b => (l.view.read (Elt Ideal) fl (ix2 r b) : EReal)) = fun b => (l.view.readAt (Elt Ideal) (Rect.unit (s := S512x128) ![0, 0] S256x128.size inbS_0).toLoadRect fl (ix2 x b) : EReal) :=
    funext fun b => (rdM2 l.view fl ![0, 0] _ x b r b hr (show b.val = 0 + b.val by omega)).symm
  unfold RowC at h
  rw [eM, eL] at h
  have key := u_step (uS q kv) _ _ (uV kv) x sc v n _ (fun c => (a.view.read (Elt Ideal) (a.view.writes (Elt Ideal) ga (diagA a m l q kv fa fm fl)) (ix2 r c) : EReal)) h hs hv ht j0 h0 (fun c => by
    refine pieces8up a.view ga _ _ _ _ _ _ _ _ _ _ _ _ _ _ _ _ x r hr (fun c => uAl (uS q kv) _ (ix2 x (lane c)) * (a.view.read (Elt Ideal) fa (ix2 r c) : EReal) + uPV (uS q kv) _ (uV kv) (ix2 x c)) (fun b => ?_) (fun b => ?_) (fun b => ?_) (fun b => ?_) c
    · refine (cast2 _ x b).trans ((uA0_apply _ _ _ _ x b).trans ?_)
      rw [rdA2 a.view fa ![0, 0] _ x b r ⟨b.val, by omega⟩ hr (show b.val = 0 + b.val by omega)]
      rw [show lane ⟨b.val, by omega⟩ = b from Fin.ext (by have := b.isLt; simp only [lane]; omega)]
    · refine (cast2 _ x b).trans ((uA1_apply _ _ _ _ x b).trans ?_)
      rw [rdA2 a.view fa ![0, 128] _ x b r ⟨128 + b.val, by omega⟩ hr (show 128 + b.val = 128 + b.val by omega)]
      rw [show lane ⟨128 + b.val, by omega⟩ = b from Fin.ext (by have := b.isLt; simp only [lane]; omega)]
    · refine (cast2 _ x b).trans ((uA2_apply _ _ _ _ x b).trans ?_)
      rw [rdA2 a.view fa ![0, 256] _ x b r ⟨256 + b.val, by omega⟩ hr (show 256 + b.val = 256 + b.val by omega)]
      rw [show lane ⟨256 + b.val, by omega⟩ = b from Fin.ext (by have := b.isLt; simp only [lane]; omega)]
    · refine (cast2 _ x b).trans ((uA3_apply _ _ _ _ x b).trans ?_)
      rw [rdA2 a.view fa ![0, 384] _ x b r ⟨384 + b.val, by omega⟩ hr (show 384 + b.val = 384 + b.val by omega)]
      rw [show lane ⟨384 + b.val, by omega⟩ = b from Fin.ext (by have := b.isLt; simp only [lane]; omega)]
    )
  have eL' : (fun b => (l.view.read (Elt Ideal) (l.view.writes (Elt Ideal) gl (diagL a m l q kv fa fm fl)) (ix2 r b) : EReal)) = fun b => uL (uS q kv) (m.view.readAt (Elt Ideal) (Rect.unit (s := S512x128) ![0, 0] S256x128.size inbS_0).toLoadRect fm) (l.view.readAt (Elt Ideal) (Rect.unit (s := S512x128) ![0, 0] S256x128.size inbS_0).toLoadRect fl) (ix2 x b) := by
    funext b
    refine (missM2_0 l.view gl _ _ _ _ r b (Or.inl (show r.val < 256 by omega))).trans ?_
    exact (hitM2 l.view gl _ _ _ _ x b r b hr (show b.val = 0 + b.val by omega)).trans (cast2 _ x b)
  rw [eL']
  exact ⟨_, key⟩

set_option maxHeartbeats 1000000 in
/-- The lower half's rows over the diagonal block. -/
theorem diag_low (a : Memref sig .tc .vmem S512x512 .f32) (m l : Memref sig .tc .vmem S512x128 .f32) (q : FVec Ideal S512x640 .bf16) (kv : Vec Ideal S1x512x640 .bf16) (x : Fin 256) (r : Fin 512) (hr : r.val = 256 + x.val) (sc : ℕ → EReal) (v : ℕ → Fin 512 → ℝ) (n : ℕ)
    (fa : BufTy.Contents (Elt Ideal) a.view.ty) (fm : BufTy.Contents (Elt Ideal) m.view.ty) (fl : BufTy.Contents (Elt Ideal) l.view.ty) (ga : BufTy.Contents (Elt Ideal) a.view.ty) (gl : BufTy.Contents (Elt Ideal) l.view.ty)
    (h : RowC a m l r sc v n fa fm fl)
    (hs : ∀ j : Fin 512, wS q kv (ix2 x j) = sc (n + j.val)) (hv : ∀ (j : Fin 512) (c : Fin 512), tV kv (ix2 j c) = (v (n + j.val) c : EReal))
    (ht : ∀ j, sc j ≠ ⊤) (j0 : Fin 512) (h0 : wS q kv (ix2 x j0) ≠ ⊥) :
    ∃ M : Fin 128 → EReal, RowSt sc v (n + 512) M (fun b => (l.view.read (Elt Ideal) (l.view.writes (Elt Ideal) gl (diagL a m l q kv fa fm fl)) (ix2 r b) : EReal))
      (fun c => (a.view.read (Elt Ideal) (a.view.writes (Elt Ideal) ga (diagA a m l q kv fa fm fl)) (ix2 r c) : EReal)) := by
  have hx := x.isLt
  have eM : (fun b => (m.view.read (Elt Ideal) fm (ix2 r b) : EReal)) = fun b => (m.view.readAt (Elt Ideal) (Rect.unit (s := S512x128) ![256, 0] S256x128.size inbS_256).toLoadRect fm (ix2 x b) : EReal) :=
    funext fun b => (rdM2 m.view fm ![256, 0] _ x b r b hr (show b.val = 0 + b.val by omega)).symm
  have eL : (fun b => (l.view.read (Elt Ideal) fl (ix2 r b) : EReal)) = fun b => (l.view.readAt (Elt Ideal) (Rect.unit (s := S512x128) ![256, 0] S256x128.size inbS_256).toLoadRect fl (ix2 x b) : EReal) :=
    funext fun b => (rdM2 l.view fl ![256, 0] _ x b r b hr (show b.val = 0 + b.val by omega)).symm
  unfold RowC at h
  rw [eM, eL] at h
  have key := w_step (wS q kv) _ _ (tV kv) x sc v n _ (fun c => (a.view.read (Elt Ideal) (a.view.writes (Elt Ideal) ga (diagA a m l q kv fa fm fl)) (ix2 r c) : EReal)) h hs hv ht j0 h0 (fun c => by
    refine pieces8low a.view ga _ _ _ _ _ _ _ _ _ _ _ _ _ _ _ _ x r hr (fun c => wAl (wS q kv) _ (ix2 x (lane c)) * (a.view.read (Elt Ideal) fa (ix2 r c) : EReal) + wPV (wS q kv) _ (tV kv) (ix2 x c)) (fun b => ?_) (fun b => ?_) (fun b => ?_) (fun b => ?_) c
    · refine (cast2 _ x b).trans ((wA0_apply _ _ _ _ x b).trans ?_)
      rw [rdA2 a.view fa ![256, 0] _ x b r ⟨b.val, by omega⟩ hr (show b.val = 0 + b.val by omega)]
      rw [show lane ⟨b.val, by omega⟩ = b from Fin.ext (by have := b.isLt; simp only [lane]; omega)]
    · refine (cast2 _ x b).trans ((wA1_apply _ _ _ _ x b).trans ?_)
      rw [rdA2 a.view fa ![256, 128] _ x b r ⟨128 + b.val, by omega⟩ hr (show 128 + b.val = 128 + b.val by omega)]
      rw [show lane ⟨128 + b.val, by omega⟩ = b from Fin.ext (by have := b.isLt; simp only [lane]; omega)]
    · refine (cast2 _ x b).trans ((wA2_apply _ _ _ _ x b).trans ?_)
      rw [rdA2 a.view fa ![256, 256] _ x b r ⟨256 + b.val, by omega⟩ hr (show 256 + b.val = 256 + b.val by omega)]
      rw [show lane ⟨256 + b.val, by omega⟩ = b from Fin.ext (by have := b.isLt; simp only [lane]; omega)]
    · refine (cast2 _ x b).trans ((wA3_apply _ _ _ _ x b).trans ?_)
      rw [rdA2 a.view fa ![256, 384] _ x b r ⟨384 + b.val, by omega⟩ hr (show 384 + b.val = 384 + b.val by omega)]
      rw [show lane ⟨384 + b.val, by omega⟩ = b from Fin.ext (by have := b.isLt; simp only [lane]; omega)]
    )
  have eL' : (fun b => (l.view.read (Elt Ideal) (l.view.writes (Elt Ideal) gl (diagL a m l q kv fa fm fl)) (ix2 r b) : EReal)) = fun b => wL (wS q kv) (m.view.readAt (Elt Ideal) (Rect.unit (s := S512x128) ![256, 0] S256x128.size inbS_256).toLoadRect fm) (l.view.readAt (Elt Ideal) (Rect.unit (s := S512x128) ![256, 0] S256x128.size inbS_256).toLoadRect fl) (ix2 x b) := by
    funext b
    exact (hitM2 l.view gl _ _ _ _ x b r b hr (show b.val = 0 + b.val by omega)).trans (cast2 _ x b)
  rw [eL']
  exact ⟨_, key⟩

/-- One head's output block at a point, entry by entry: the attention of the row over all the keys up to its own, times the
    head's part of the up projection. `sc` and `v` are the row's scores (masked ones −∞) and the values, key by key. -/
theorem headOut_apply (a : Memref sig .tc .vmem S512x512 .f32) (m l : Memref sig .tc .vmem S512x128 .f32) (q : FVec Ideal S512x640 .bf16) {N : ℕ} (ks : Fin N → Vec Ideal S1x512x640 .bf16) (kd : Vec Ideal S1x512x640 .bf16) (w : Vec Ideal S1x512x128 .bf16)
    (r : Fin 512) (sc : ℕ → EReal) (v : ℕ → Fin 512 → ℝ) (T : ℕ) (hT : 512 * N + 512 ≤ T)
    (hs : ∀ (k : Fin N) (j : Fin 512), tS q (ks k) (ix2 r j) = sc (512 * k.val + j.val)) (hv : ∀ (k : Fin N) (j c : Fin 512), tV (ks k) (ix2 j c) = (v (512 * k.val + j.val) c : EReal))
    (hd : ∀ j : Fin 512, j.val ≤ r.val → tS q kd (ix2 r j) = sc (512 * N + j.val)) (hdv : ∀ (j c : Fin 512), tV kd (ix2 j c) = (v (512 * N + j.val) c : EReal))
    (ht : ∀ j, sc j ≠ ⊤) (hb : ∀ j, j ≤ 512 * N + r.val → sc j ≠ ⊥) (hm : ∀ j, 512 * N + r.val < j → sc j = ⊥) (e : Fin 128) :
    headOut a m l q (fun k => tripH a m l q (ks k)) kd w N (ix3 0 r e) = ∑ c : Fin 512, (att sc v T c : EReal) * w (ix3 0 c e) := by
  have hst := trips_row a m l q ks r sc v hs hv ht (fun j hj => hb j (by omega)) N (le_refl _)
  have hr := r.isLt
  unfold headOut
  rw [fin_apply]
  refine Finset.sum_congr rfl fun c _ => ?_
  congr 1
  have fin_ : ∀ (n k : ℕ) (hn : 512 * N + r.val < n) (hk : n + k = T) (M L : Fin 128 → EReal) (A : Fin 512 → EReal), RowSt sc v n M L A → Ideal.div (A c) (∑ b, L b) = (att sc v T c : EReal) := by
    intro n k hn hk M L A h
    rw [h.out (512 * N + r.val) hn (hb _ (le_refl _)) c, ← hk, att_extend sc v n k c (fun j hj => hm j (by omega))]
  have eA : ∀ L : List (View.Piece (Elt Ideal) S512x512 .f32), (a.view.readCov L (Rect.unit (s := S512x512) ![0, 0] S512x512.size inb5).toLoadRect (ix2 r c) : EReal) = a.view.read (Elt Ideal) (a.view.writes (Elt Ideal) a.view.junk L) (ix2 r c) := fun L => by
    unfold View.readCov
    exact rdA9 a.view _ ![0, 0] _ r c r c (show r.val = 0 + r.val by omega) (show c.val = 0 + c.val by omega)
  have eL : ∀ (L : List (View.Piece (Elt Ideal) S512x128 .f32)) (b : Fin 128), (l.view.readCov L (Rect.unit (s := S512x128) ![0, 0] S512x128.size inb_S512x128_S512x128_0_0).toLoadRect (ix2 r b) : EReal) = l.view.read (Elt Ideal) (l.view.writes (Elt Ideal) l.view.junk L) (ix2 r b) := fun L b => by
    unfold View.readCov
    exact rdM5 l.view _ ![0, 0] _ r b r b (show r.val = 0 + r.val by omega) (show b.val = 0 + b.val by omega)
  rw [eA]
  simp only [eL]
  by_cases h256 : r.val < 256
  · have hsu : ∀ j : Fin 256, uS q kd (ix2 ⟨r.val, h256⟩ j) = sc (512 * N + j.val) := fun j => by
      rw [uS_apply]
      by_cases hj : j.val ≤ r.val
      · rw [if_pos hj]
        refine Eq.trans ?_ (hd ⟨j.val, by omega⟩ hj)
        rfl
      · rw [if_neg hj, hm _ (by omega)]
    obtain ⟨M, h⟩ := diag_up a m l q kd ⟨r.val, h256⟩ r (by simp) sc v (512 * N) _ _ _ a.view.junk l.view.junk hst hsu
      (fun j c => by
        refine Eq.trans ?_ (hdv ⟨j.val, by omega⟩ c)
        rw [uV_apply, tV_apply]) ht ⟨r.val, h256⟩ (by rw [hsu]; exact hb _ (le_refl _))
    exact fin_ (512 * N + 256) (T - (512 * N + 256)) (by omega) (by omega) _ _ _ h
  · have hsw : ∀ j : Fin 512, wS q kd (ix2 ⟨r.val - 256, by omega⟩ j) = sc (512 * N + j.val) := fun j => by
      rw [wS_apply]
      by_cases hj : j.val ≤ r.val
      · rw [if_pos (show j.val ≤ 256 + (r.val - 256) by omega)]
        refine Eq.trans ?_ (hd j hj)
        rw [tS_apply]
        refine Finset.sum_congr rfl fun x _ => ?_
        congr 2
        exact congrArg (fun y => ix2 y x) (Fin.ext (show 256 + (r.val - 256) = r.val by omega))
      · rw [if_neg (show ¬ j.val ≤ 256 + (r.val - 256) by omega), hm _ (by omega)]
    obtain ⟨M, h⟩ := diag_low a m l q kd ⟨r.val - 256, by omega⟩ r (show r.val = 256 + (r.val - 256) by omega) sc v (512 * N) _ _ _ a.view.junk l.view.junk hst hsw hdv ht r (by rw [hsw]; exact hb _ (le_refl _))
    exact fin_ (512 * N + 512) (T - (512 * N + 512)) (by omega) (by omega) _ _ _ h

end Cert.Kernel4Ideal.Attn

end
-- ==== Proof.AttnHost.lean ====
/-
  The attention's host values and the blocks a grid point reads, as entries of the arguments. Point `t` is batch `t / 4`,
  row block `t % 4`.
-/
module

public import proofs.«01_k».proof.Proof.AttnHead
public import proofs.«01_k».proof.Proof.AttnSpec
public import proofs.«01_k».proof.Proof.AttnIFrame
public import Idealize.ShloMosaic.Lib.Pointwise
public import Idealize.ShloMosaic.Lib.Tactic

@[expose] public section

set_option maxRecDepth 200000
set_option maxHeartbeats 1000000

noncomputable section

namespace Cert.Kernel4Ideal.Attn

open Idealize.ShloMosaic Idealize.ShloMosaic.TcCoe Idealize.SL.Sem
open Cert.Kernel4Ideal Cert.Kernel4Ideal.Gen

theorem ix_0 : ∀ t : Fin cfg0.N, win0_0.index t 0 = t.val / 4 ∧ win0_0.index t 1 = t.val % 4 ∧ win0_0.index t 2 = 0 := by decide +kernel
theorem ix_1 : ∀ t : Fin cfg0.N, win0_1.index t 0 = t.val / 4 ∧ win0_1.index t 1 = 0 ∧ win0_1.index t 2 = 0 := by decide +kernel
theorem ix_2 : ∀ t : Fin cfg0.N, win0_2.index t 0 = 0 ∧ win0_2.index t 1 = 0 ∧ win0_2.index t 2 = 0 := by decide +kernel
theorem ix_3 : ∀ t : Fin cfg0.N, win0_3.index t 0 = t.val / 4 ∧ win0_3.index t 1 = t.val % 4 ∧ win0_3.index t 2 = 0 := by decide +kernel
theorem fl_3 : ∀ t : Fin cfg0.N, (cfg0.win 3).flush t = true := by decide +kernel
theorem trips_eq : ∀ t : Fin cfg0.N, (k0_t1_loop (grid0.coords t)).trips = t.val % 4 := by decide +kernel
theorem off3_eq : ∀ t : Fin cfg0.N, k0_off3 (grid0.coords t) = ![0, 512 * (t.val % 4), 0] := by decide +kernel
theorem off1_eq : ∀ t : Fin cfg0.N, ∀ k : Fin (k0_t1_loop (grid0.coords t)).trips, k0_off1 (grid0.coords t) k = ![0, 512 * k.val, 0] := by decide +kernel

open Cert.AttnSpec

variable (m : (ℓ : Loc nD τ sig) → Buf (Elt Ideal) ℓ)

abbrev aQ (c : Dev nD) (b : Fin 4) (r : Fin 2048) (h : Fin 8) (k : Fin 512) : EReal := m ((c : Thread nD τ).loc main_arg0) (ix4 b r h k)
abbrev aP (c : Dev nD) (b : Fin 4) (r : Fin 2048) (h : Fin 8) (k : Fin 64) : EReal := m ((c : Thread nD τ).loc main_arg1) (ix4 b r h k)
abbrev aC (c : Dev nD) (b : Fin 4) (r : Fin 2048) (k : Fin 512) : EReal := m ((c : Thread nD τ).loc main_arg2) (ix3 b r k)
abbrev aK (c : Dev nD) (b : Fin 4) (r : Fin 2048) (k : Fin 64) : EReal := m ((c : Thread nD τ).loc main_arg3) (ix3 b r k)
abbrev aW (c : Dev nD) (k : Fin 512) (n : Fin 2048) : EReal := m ((c : Thread nD τ).loc main_arg4) (ix3 0 k n)

/-- A row's concatenated query in one head: latent part, rotated part, zeros. -/
def qq (c : Dev nD) (b : Fin 4) (t : Fin 2048) (h : Fin 8) (x : Fin 640) : EReal :=
  if h0 : x.val < 512 then aQ m c b t h ⟨x.val, h0⟩ else if h1 : x.val - 512 < 64 then aP m c b t h ⟨x.val - 512, h1⟩ else 0

/-- A key's concatenated entries: latent part, rotated part, zeros. -/
def kk (c : Dev nD) (b : Fin 4) (t : Fin 2048) (x : Fin 640) : EReal :=
  if h0 : x.val < 512 then aC m c b t ⟨x.val, h0⟩ else if h1 : x.val - 512 < 64 then aK m c b t ⟨x.val - 512, h1⟩ else 0

theorem qk (c : Dev nD) (b : Fin 4) (t j : Fin 2048) (h : Fin 8) :
    ∑ x, qq m c b t h x * kk m c b j x = ∑ k, aC m c b j k * aQ m c b t h k + ∑ e, aK m c b j e * aP m c b t h e := by
  refine sum640 _ _ _ _ _ _ (fun k => ?_) (fun e => ?_) (fun k => ?_) (fun e => ?_) (fun e => ?_)
  · unfold qq; rw [dif_pos k.isLt]
  · unfold qq
    rw [dif_neg (by dsimp only; omega), dif_pos (by dsimp only; omega)]
    exact congrArg (aP m c b t h) (Fin.ext (by dsimp only; omega))
  · unfold kk; rw [dif_pos k.isLt]
  · unfold kk
    rw [dif_neg (by dsimp only; omega), dif_pos (by dsimp only; omega)]
    exact congrArg (aK m c b j) (Fin.ext (by dsimp only; omega))
  · unfold kk
    rw [dif_neg (by dsimp only; omega), dif_neg (by dsimp only; omega)]

theorem cast_w4 (x : FVec Ideal S1x512x2048 .f32) (h : Fin 8) (r : Fin 512) (v : Fin 128) :
    truncf (F := Ideal) (φ := .f32) .bf16 (transpose S8x512x128 [1, 0, 2] (extractStridedSlice S512x8x128 ![0, 0, 128] (shapeCast S512x8x256 (shapeCast S512x2048 x shapeCasts_S1x512x2048_S512x2048) shapeCasts_S512x2048_S512x8x256) slices_S512x8x256_S512x8x128_0_0_128) transposes_S512x8x128_S8x512x128_1_0_2) bitsLt_bf16_f32 (ix3 h r v)
      = x (ix3 0 r ⟨256 * h.val + 128 + v.val, by omega⟩) := by
  refine Eq.trans (b := x (ix3 0 r ⟨h.val * 256 + (128 + v.val), by omega⟩)) ?_ (congrArg (fun n => x (ix3 0 r n)) (Fin.ext (show h.val * 256 + (128 + v.val) = 256 * h.val + 128 + v.val by omega)))
  pointwise

theorem V_v4 (c : Dev nD) (h : Fin 8) (r : Fin 512) (v : Fin 128) :
    (V m c main_v4 : S8x512x128.Idx → EReal) (ix3 h r v) = (m ((c : Thread nD τ).loc main_arg4) : S1x512x2048.Idx → EReal) (ix3 0 r ⟨256 * h.val + 128 + v.val, by omega⟩) := by
  have e : V m c main_v4 = truncf (F := Ideal) (φ := .f32) .bf16 (transpose S8x512x128 [1, 0, 2] (extractStridedSlice S512x8x128 ![0, 0, 128] (shapeCast S512x8x256 (shapeCast S512x2048 (m ((c : Thread nD τ).loc main_arg4) : FVec Ideal S1x512x2048 .f32) shapeCasts_S1x512x2048_S512x2048) shapeCasts_S512x2048_S512x8x256) slices_S512x8x256_S512x8x128_0_0_128) transposes_S512x8x128_S8x512x128_1_0_2) bitsLt_bf16_f32 := by
    show StableHlo.after hostOps0 _ (Proc.devRef .tc main_v4) = _
    after_results
    rfl
  rw [e]
  exact cast_w4 _ h r v

theorem cast_q (q : FVec Ideal S4x2048x8x512 .bf16) (p : FVec Ideal S4x2048x8x64 .bf16) (b : Fin 4) (t : Fin 2048) (k : Fin 5120) :
    shapeCast S4x2048x5120 (shapeCast S8192x5120 (concatenate S4x2048x8x640 3 [⟨S4x2048x8x512, q⟩, ⟨S4x2048x8x64, p⟩, ⟨S4x2048x8x64, broadcastInDim S4x2048x8x64 ![] bcast_S_S4x2048x8x64 (constant (F := Ideal) S_ .bf16 0x0000#16)⟩] concatenates_S4x2048x8x512_S4x2048x8x64_S4x2048x8x64_S4x2048x8x640_d3) shapeCasts_S4x2048x8x640_S8192x5120) shapeCasts_S8192x5120_S4x2048x5120 (ix3 b t k)
      = (fun (h : Fin 8) (x : Fin 640) => if h0 : x.val < 512 then q (ix4 b t h ⟨x.val, h0⟩) else if h1 : x.val - 512 < 64 then p (ix4 b t h ⟨x.val - 512, h1⟩) else (0 : EReal)) ⟨k.val / 640, by omega⟩ ⟨k.val % 640, by omega⟩ := by
  pointwise

theorem cast_k (q : FVec Ideal S4x2048x512 .bf16) (p : FVec Ideal S4x2048x64 .bf16) (b : Fin 4) (t : Fin 2048) (x : Fin 640) :
    shapeCast S4x2048x640 (shapeCast S8192x640 (concatenate S4x2048x640 2 [⟨S4x2048x512, q⟩, ⟨S4x2048x64, p⟩, ⟨S4x2048x64, broadcastInDim S4x2048x64 ![] bcast_S_S4x2048x64 (constant (F := Ideal) S_ .bf16 0x0000#16)⟩] concatenates_S4x2048x512_S4x2048x64_S4x2048x64_S4x2048x640_d2) shapeCasts_S4x2048x640_S8192x640) shapeCasts_S8192x640_S4x2048x640 (ix3 b t x)
      = if h0 : x.val < 512 then q (ix3 b t ⟨x.val, h0⟩) else if h1 : x.val - 512 < 64 then p (ix3 b t ⟨x.val - 512, h1⟩) else (0 : EReal) := by
  pointwise

theorem V_v11 (c : Dev nD) (b : Fin 4) (t : Fin 2048) (h : Fin 8) (x : Fin 640) :
    (V m c main_v11 : S4x2048x5120.Idx → EReal) (ix3 b t ⟨640 * h.val + x.val, by omega⟩) = qq m c b t h x := by
  have e : V m c main_v11 = shapeCast S4x2048x5120 (shapeCast S8192x5120 (concatenate S4x2048x8x640 3 [⟨S4x2048x8x512, (m ((c : Thread nD τ).loc main_arg0) : FVec Ideal S4x2048x8x512 .bf16)⟩, ⟨S4x2048x8x64, (m ((c : Thread nD τ).loc main_arg1) : FVec Ideal S4x2048x8x64 .bf16)⟩, ⟨S4x2048x8x64, broadcastInDim S4x2048x8x64 ![] bcast_S_S4x2048x8x64 (constant (F := Ideal) S_ .bf16 0x0000#16)⟩] concatenates_S4x2048x8x512_S4x2048x8x64_S4x2048x8x64_S4x2048x8x640_d3) shapeCasts_S4x2048x8x640_S8192x5120) shapeCasts_S8192x5120_S4x2048x5120 := by
    show StableHlo.after hostOps0 _ (Proc.devRef .tc main_v11) = _
    after_results
    rfl
  rw [e]
  have ed : (⟨(640 * h.val + x.val) / 640, by omega⟩ : Fin 8) = h := Fin.ext (by dsimp only; omega)
  have em : (⟨(640 * h.val + x.val) % 640, by omega⟩ : Fin 640) = x := Fin.ext (by dsimp only; omega)
  refine (cast_q _ _ b t _).trans ?_
  rw [ed, em]
  rfl

theorem V_v12 (c : Dev nD) (b : Fin 4) (t : Fin 2048) (x : Fin 640) :
    (V m c main_v12 : S4x2048x640.Idx → EReal) (ix3 b t x) = kk m c b t x := by
  have e : V m c main_v12 = shapeCast S4x2048x640 (shapeCast S8192x640 (concatenate S4x2048x640 2 [⟨S4x2048x512, (m ((c : Thread nD τ).loc main_arg2) : FVec Ideal S4x2048x512 .bf16)⟩, ⟨S4x2048x64, (m ((c : Thread nD τ).loc main_arg3) : FVec Ideal S4x2048x64 .bf16)⟩, ⟨S4x2048x64, broadcastInDim S4x2048x64 ![] bcast_S_S4x2048x64 (constant (F := Ideal) S_ .bf16 0x0000#16)⟩] concatenates_S4x2048x512_S4x2048x64_S4x2048x64_S4x2048x640_d2) shapeCasts_S4x2048x640_S8192x640) shapeCasts_S8192x640_S4x2048x640 := by
    show StableHlo.after hostOps0 _ (Proc.devRef .tc main_v12) = _
    after_results
    rfl
  rw [e]
  exact cast_k _ _ b t x

theorem blk_q' (c : Dev nD) (t : Fin cfg0.N) (b : Fin 4) (R : Fin 2048) (r : Fin 512) (k : Fin 5120)
    (hb : b.val = t.val / 4) (hR : R.val = 512 * (t.val % 4) + r.val) :
    (iblk m c 0 t : Vec Ideal S1x512x5120 .bf16) (ix3 0 r k) = (V m c main_v11 : S4x2048x5120.Idx → EReal) (ix3 b R k) := by
  obtain ⟨i0, i1, i2⟩ := ix_0 t
  unfold iblk
  rw [View.read_apply]
  have e : (((cfg0.win 0).blk t).view.emb (ix3 0 r k)) = (ix3 b R k : S4x2048x5120.Idx) := by
    funext a
    refine Fin.ext ?_
    match a with
    | ⟨0, _⟩ => show win0_0.index t 0 * 1 + 1 * 0 = b.val; rw [i0]; try omega
    | ⟨1, _⟩ => show win0_0.index t 1 * 512 + 1 * r.val = R.val; rw [i1]; try omega
    | ⟨2, _⟩ => show win0_0.index t 2 * 5120 + 1 * k.val = k.val; rw [i2]; try omega
  refine (cast_eq _ _).trans ?_
  rw [e]

/-- A row block of the queries, head by head. -/
theorem blk_q (c : Dev nD) (t : Fin cfg0.N) (b : Fin 4) (R : Fin 2048) (r : Fin 512) (h : Fin 8) (x : Fin 640)
    (hb : b.val = t.val / 4) (hR : R.val = 512 * (t.val % 4) + r.val) :
    (iblk m c 0 t : Vec Ideal S1x512x5120 .bf16) (ix3 0 r ⟨640 * h.val + x.val, by omega⟩) = qq m c b R h x :=
  (blk_q' m c t b R r _ hb hR).trans (V_v11 m c b R h x)

/-- A batch's keys. -/
theorem blk_k (c : Dev nD) (t : Fin cfg0.N) (b : Fin 4) (j : Fin 2048) (x : Fin 640) (hb : b.val = t.val / 4) :
    (iblk m c 1 t : Vec Ideal S1x2048x640 .bf16) (ix3 0 j x) = kk m c b j x := by
  obtain ⟨i0, i1, i2⟩ := ix_1 t
  unfold iblk
  rw [View.read_apply]
  have e : (((cfg0.win 1).blk t).view.emb (ix3 0 j x)) = (ix3 b j x : S4x2048x640.Idx) := by
    funext a
    refine Fin.ext ?_
    match a with
    | ⟨0, _⟩ => show win0_1.index t 0 * 1 + 1 * 0 = b.val; rw [i0]; try omega
    | ⟨1, _⟩ => show win0_1.index t 1 * 2048 + 1 * j.val = j.val; rw [i1]; try omega
    | ⟨2, _⟩ => show win0_1.index t 2 * 640 + 1 * x.val = x.val; rw [i2]; try omega
  refine (cast_eq _ _).trans ?_
  rw [e]
  exact V_v12 m c b j x

/-- The heads' up projections. -/
theorem blk_w (c : Dev nD) (t : Fin cfg0.N) (h : Fin 8) (k : Fin 512) (v : Fin 128) :
    (iblk m c 2 t : Vec Ideal S8x512x128 .bf16) (ix3 h k v) = aW m c k ⟨256 * h.val + 128 + v.val, by omega⟩ := by
  obtain ⟨i0, i1, i2⟩ := ix_2 t
  unfold iblk
  rw [View.read_apply]
  have e : (((cfg0.win 2).blk t).view.emb (ix3 h k v)) = (ix3 h k v : S8x512x128.Idx) := by
    funext a
    refine Fin.ext ?_
    match a with
    | ⟨0, _⟩ => show win0_2.index t 0 * 8 + 1 * h.val = h.val; rw [i0]; try omega
    | ⟨1, _⟩ => show win0_2.index t 1 * 512 + 1 * k.val = k.val; rw [i1]; try omega
    | ⟨2, _⟩ => show win0_2.index t 2 * 128 + 1 * v.val = v.val; rw [i2]; try omega
  refine (cast_eq _ _).trans ?_
  rw [e]
  exact V_v4 m c h k v

end Cert.Kernel4Ideal.Attn

end
-- ==== Proof.AttnEq.lean ====
/-
  What the trips and the body store, head by head, is the one head's step of `AttnOps`.
-/
module

public import proofs.«01_k».proof.Proof.AttnIRun
public import proofs.«01_k».proof.Proof.AttnOps

@[expose] public section

set_option maxRecDepth 16384

noncomputable section

namespace Cert.Kernel4Ideal.Attn

open Idealize.ShloMosaic Idealize.ShloMosaic.TcCoe
open Cert.Kernel4Ideal Cert.Kernel4Ideal.Gen

variable {F : FTy → Type} [FloatOps F] [Named F]

set_option maxHeartbeats 4000000 in
theorem trip_h0 (𝒱 : Variants) (c : Dev nD) (bd : Option 𝒱.V) (i : grid0.Coords) (arg2 : Memref sig .tc .vmem S1x512x5120 .bf16) (harg2 : arg2.IsWhole) (arg3 : Memref sig .tc .vmem S1x2048x640 .bf16) (harg3 : arg3.IsWhole) (arg4 : Memref sig .tc .vmem S8x512x128 .bf16) (harg4 : arg4.IsWhole) (arg5 : Memref sig .tc .vmem S1x512x1024 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x512 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x512 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x512 .f32) (harg27 : arg27.IsWhole) (arg28 : Memref sig .tc .vmem S512x128 .f32) (harg28 : arg28.IsWhole) (arg29 : Memref sig .tc .vmem S512x128 .f32) (harg29 : arg29.IsWhole) (arg1 : BitVec 32) (v1 : FVec F S512x640 .bf16) (v3 : FVec F S512x640 .bf16) (v5 : FVec F S512x640 .bf16) (v7 : FVec F S512x640 .bf16) (v9 : FVec F S512x640 .bf16) (v11 : FVec F S512x640 .bf16) (v13 : FVec F S512x640 .bf16) (v15 : FVec F S512x640 .bf16) (c0_i32_87 : BitVec 32) (c1_i32 : BitVec 32) (v114 : BitVec 32) (X3 : BufTy.Contents (Elt F) arg3.view.ty) (k : Fin (k0_t1_loop i).trips) :
    (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h0 = tripH arg6 arg7 arg8 v1 (arg3.view.readAt (Elt F) (Rect.unit (s := S1x2048x640) (k0_off1 i k) S1x512x640.size (k0_off1_inb i k)).toLoadRect X3) := by
  unfold trip1; rfl

set_option maxHeartbeats 4000000 in
theorem trip_h1 (𝒱 : Variants) (c : Dev nD) (bd : Option 𝒱.V) (i : grid0.Coords) (arg2 : Memref sig .tc .vmem S1x512x5120 .bf16) (harg2 : arg2.IsWhole) (arg3 : Memref sig .tc .vmem S1x2048x640 .bf16) (harg3 : arg3.IsWhole) (arg4 : Memref sig .tc .vmem S8x512x128 .bf16) (harg4 : arg4.IsWhole) (arg5 : Memref sig .tc .vmem S1x512x1024 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x512 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x512 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x512 .f32) (harg27 : arg27.IsWhole) (arg28 : Memref sig .tc .vmem S512x128 .f32) (harg28 : arg28.IsWhole) (arg29 : Memref sig .tc .vmem S512x128 .f32) (harg29 : arg29.IsWhole) (arg1 : BitVec 32) (v1 : FVec F S512x640 .bf16) (v3 : FVec F S512x640 .bf16) (v5 : FVec F S512x640 .bf16) (v7 : FVec F S512x640 .bf16) (v9 : FVec F S512x640 .bf16) (v11 : FVec F S512x640 .bf16) (v13 : FVec F S512x640 .bf16) (v15 : FVec F S512x640 .bf16) (c0_i32_87 : BitVec 32) (c1_i32 : BitVec 32) (v114 : BitVec 32) (X3 : BufTy.Contents (Elt F) arg3.view.ty) (k : Fin (k0_t1_loop i).trips) :
    (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h1 = tripH arg9 arg10 arg11 v3 (arg3.view.readAt (Elt F) (Rect.unit (s := S1x2048x640) (k0_off1 i k) S1x512x640.size (k0_off1_inb i k)).toLoadRect X3) := by
  unfold trip1; rfl

set_option maxHeartbeats 4000000 in
theorem trip_h2 (𝒱 : Variants) (c : Dev nD) (bd : Option 𝒱.V) (i : grid0.Coords) (arg2 : Memref sig .tc .vmem S1x512x5120 .bf16) (harg2 : arg2.IsWhole) (arg3 : Memref sig .tc .vmem S1x2048x640 .bf16) (harg3 : arg3.IsWhole) (arg4 : Memref sig .tc .vmem S8x512x128 .bf16) (harg4 : arg4.IsWhole) (arg5 : Memref sig .tc .vmem S1x512x1024 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x512 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x512 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x512 .f32) (harg27 : arg27.IsWhole) (arg28 : Memref sig .tc .vmem S512x128 .f32) (harg28 : arg28.IsWhole) (arg29 : Memref sig .tc .vmem S512x128 .f32) (harg29 : arg29.IsWhole) (arg1 : BitVec 32) (v1 : FVec F S512x640 .bf16) (v3 : FVec F S512x640 .bf16) (v5 : FVec F S512x640 .bf16) (v7 : FVec F S512x640 .bf16) (v9 : FVec F S512x640 .bf16) (v11 : FVec F S512x640 .bf16) (v13 : FVec F S512x640 .bf16) (v15 : FVec F S512x640 .bf16) (c0_i32_87 : BitVec 32) (c1_i32 : BitVec 32) (v114 : BitVec 32) (X3 : BufTy.Contents (Elt F) arg3.view.ty) (k : Fin (k0_t1_loop i).trips) :
    (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h2 = tripH arg12 arg13 arg14 v5 (arg3.view.readAt (Elt F) (Rect.unit (s := S1x2048x640) (k0_off1 i k) S1x512x640.size (k0_off1_inb i k)).toLoadRect X3) := by
  unfold trip1; rfl

set_option maxHeartbeats 4000000 in
theorem trip_h3 (𝒱 : Variants) (c : Dev nD) (bd : Option 𝒱.V) (i : grid0.Coords) (arg2 : Memref sig .tc .vmem S1x512x5120 .bf16) (harg2 : arg2.IsWhole) (arg3 : Memref sig .tc .vmem S1x2048x640 .bf16) (harg3 : arg3.IsWhole) (arg4 : Memref sig .tc .vmem S8x512x128 .bf16) (harg4 : arg4.IsWhole) (arg5 : Memref sig .tc .vmem S1x512x1024 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x512 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x512 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x512 .f32) (harg27 : arg27.IsWhole) (arg28 : Memref sig .tc .vmem S512x128 .f32) (harg28 : arg28.IsWhole) (arg29 : Memref sig .tc .vmem S512x128 .f32) (harg29 : arg29.IsWhole) (arg1 : BitVec 32) (v1 : FVec F S512x640 .bf16) (v3 : FVec F S512x640 .bf16) (v5 : FVec F S512x640 .bf16) (v7 : FVec F S512x640 .bf16) (v9 : FVec F S512x640 .bf16) (v11 : FVec F S512x640 .bf16) (v13 : FVec F S512x640 .bf16) (v15 : FVec F S512x640 .bf16) (c0_i32_87 : BitVec 32) (c1_i32 : BitVec 32) (v114 : BitVec 32) (X3 : BufTy.Contents (Elt F) arg3.view.ty) (k : Fin (k0_t1_loop i).trips) :
    (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h3 = tripH arg15 arg16 arg17 v7 (arg3.view.readAt (Elt F) (Rect.unit (s := S1x2048x640) (k0_off1 i k) S1x512x640.size (k0_off1_inb i k)).toLoadRect X3) := by
  unfold trip1; rfl

set_option maxHeartbeats 4000000 in
theorem trip_h4 (𝒱 : Variants) (c : Dev nD) (bd : Option 𝒱.V) (i : grid0.Coords) (arg2 : Memref sig .tc .vmem S1x512x5120 .bf16) (harg2 : arg2.IsWhole) (arg3 : Memref sig .tc .vmem S1x2048x640 .bf16) (harg3 : arg3.IsWhole) (arg4 : Memref sig .tc .vmem S8x512x128 .bf16) (harg4 : arg4.IsWhole) (arg5 : Memref sig .tc .vmem S1x512x1024 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x512 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x512 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x512 .f32) (harg27 : arg27.IsWhole) (arg28 : Memref sig .tc .vmem S512x128 .f32) (harg28 : arg28.IsWhole) (arg29 : Memref sig .tc .vmem S512x128 .f32) (harg29 : arg29.IsWhole) (arg1 : BitVec 32) (v1 : FVec F S512x640 .bf16) (v3 : FVec F S512x640 .bf16) (v5 : FVec F S512x640 .bf16) (v7 : FVec F S512x640 .bf16) (v9 : FVec F S512x640 .bf16) (v11 : FVec F S512x640 .bf16) (v13 : FVec F S512x640 .bf16) (v15 : FVec F S512x640 .bf16) (c0_i32_87 : BitVec 32) (c1_i32 : BitVec 32) (v114 : BitVec 32) (X3 : BufTy.Contents (Elt F) arg3.view.ty) (k : Fin (k0_t1_loop i).trips) :
    (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h4 = tripH arg18 arg19 arg20 v9 (arg3.view.readAt (Elt F) (Rect.unit (s := S1x2048x640) (k0_off1 i k) S1x512x640.size (k0_off1_inb i k)).toLoadRect X3) := by
  unfold trip1; rfl

set_option maxHeartbeats 4000000 in
theorem trip_h5 (𝒱 : Variants) (c : Dev nD) (bd : Option 𝒱.V) (i : grid0.Coords) (arg2 : Memref sig .tc .vmem S1x512x5120 .bf16) (harg2 : arg2.IsWhole) (arg3 : Memref sig .tc .vmem S1x2048x640 .bf16) (harg3 : arg3.IsWhole) (arg4 : Memref sig .tc .vmem S8x512x128 .bf16) (harg4 : arg4.IsWhole) (arg5 : Memref sig .tc .vmem S1x512x1024 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x512 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x512 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x512 .f32) (harg27 : arg27.IsWhole) (arg28 : Memref sig .tc .vmem S512x128 .f32) (harg28 : arg28.IsWhole) (arg29 : Memref sig .tc .vmem S512x128 .f32) (harg29 : arg29.IsWhole) (arg1 : BitVec 32) (v1 : FVec F S512x640 .bf16) (v3 : FVec F S512x640 .bf16) (v5 : FVec F S512x640 .bf16) (v7 : FVec F S512x640 .bf16) (v9 : FVec F S512x640 .bf16) (v11 : FVec F S512x640 .bf16) (v13 : FVec F S512x640 .bf16) (v15 : FVec F S512x640 .bf16) (c0_i32_87 : BitVec 32) (c1_i32 : BitVec 32) (v114 : BitVec 32) (X3 : BufTy.Contents (Elt F) arg3.view.ty) (k : Fin (k0_t1_loop i).trips) :
    (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h5 = tripH arg21 arg22 arg23 v11 (arg3.view.readAt (Elt F) (Rect.unit (s := S1x2048x640) (k0_off1 i k) S1x512x640.size (k0_off1_inb i k)).toLoadRect X3) := by
  unfold trip1; rfl

set_option maxHeartbeats 4000000 in
theorem trip_h6 (𝒱 : Variants) (c : Dev nD) (bd : Option 𝒱.V) (i : grid0.Coords) (arg2 : Memref sig .tc .vmem S1x512x5120 .bf16) (harg2 : arg2.IsWhole) (arg3 : Memref sig .tc .vmem S1x2048x640 .bf16) (harg3 : arg3.IsWhole) (arg4 : Memref sig .tc .vmem S8x512x128 .bf16) (harg4 : arg4.IsWhole) (arg5 : Memref sig .tc .vmem S1x512x1024 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x512 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x512 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x512 .f32) (harg27 : arg27.IsWhole) (arg28 : Memref sig .tc .vmem S512x128 .f32) (harg28 : arg28.IsWhole) (arg29 : Memref sig .tc .vmem S512x128 .f32) (harg29 : arg29.IsWhole) (arg1 : BitVec 32) (v1 : FVec F S512x640 .bf16) (v3 : FVec F S512x640 .bf16) (v5 : FVec F S512x640 .bf16) (v7 : FVec F S512x640 .bf16) (v9 : FVec F S512x640 .bf16) (v11 : FVec F S512x640 .bf16) (v13 : FVec F S512x640 .bf16) (v15 : FVec F S512x640 .bf16) (c0_i32_87 : BitVec 32) (c1_i32 : BitVec 32) (v114 : BitVec 32) (X3 : BufTy.Contents (Elt F) arg3.view.ty) (k : Fin (k0_t1_loop i).trips) :
    (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h6 = tripH arg24 arg25 arg26 v13 (arg3.view.readAt (Elt F) (Rect.unit (s := S1x2048x640) (k0_off1 i k) S1x512x640.size (k0_off1_inb i k)).toLoadRect X3) := by
  unfold trip1; rfl

set_option maxHeartbeats 4000000 in
theorem trip_h7 (𝒱 : Variants) (c : Dev nD) (bd : Option 𝒱.V) (i : grid0.Coords) (arg2 : Memref sig .tc .vmem S1x512x5120 .bf16) (harg2 : arg2.IsWhole) (arg3 : Memref sig .tc .vmem S1x2048x640 .bf16) (harg3 : arg3.IsWhole) (arg4 : Memref sig .tc .vmem S8x512x128 .bf16) (harg4 : arg4.IsWhole) (arg5 : Memref sig .tc .vmem S1x512x1024 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x512 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x512 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x512 .f32) (harg27 : arg27.IsWhole) (arg28 : Memref sig .tc .vmem S512x128 .f32) (harg28 : arg28.IsWhole) (arg29 : Memref sig .tc .vmem S512x128 .f32) (harg29 : arg29.IsWhole) (arg1 : BitVec 32) (v1 : FVec F S512x640 .bf16) (v3 : FVec F S512x640 .bf16) (v5 : FVec F S512x640 .bf16) (v7 : FVec F S512x640 .bf16) (v9 : FVec F S512x640 .bf16) (v11 : FVec F S512x640 .bf16) (v13 : FVec F S512x640 .bf16) (v15 : FVec F S512x640 .bf16) (c0_i32_87 : BitVec 32) (c1_i32 : BitVec 32) (v114 : BitVec 32) (X3 : BufTy.Contents (Elt F) arg3.view.ty) (k : Fin (k0_t1_loop i).trips) :
    (trip1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg1 v1 v3 v5 v7 v9 v11 v13 v15 c0_i32_87 c1_i32 v114 X3 k).1.h7 = tripH arg27 arg28 arg29 v15 (arg3.view.readAt (Elt F) (Rect.unit (s := S1x2048x640) (k0_off1 i k) S1x512x640.size (k0_off1_inb i k)).toLoadRect X3) := by
  unfold trip1; rfl

theorem inbQ0 : ∀ a : Fin S1x512x5120.rank, (![0, 0, 0] : Fin 3 → ℕ) a + S1x512x640.size a ≤ S1x512x5120.size a := by decide
theorem inbW0 : ∀ a : Fin S8x512x128.rank, (![0, 0, 0] : Fin 3 → ℕ) a + S1x512x128.size a ≤ S8x512x128.size a := by decide
theorem inbO0 : ∀ a : Fin S1x512x1024.rank, (![0, 0, 0] : Fin 3 → ℕ) a + S1x512x128.size a ≤ S1x512x1024.size a := by decide
theorem inbQ1 : ∀ a : Fin S1x512x5120.rank, (![0, 0, 640] : Fin 3 → ℕ) a + S1x512x640.size a ≤ S1x512x5120.size a := by decide
theorem inbW1 : ∀ a : Fin S8x512x128.rank, (![1, 0, 0] : Fin 3 → ℕ) a + S1x512x128.size a ≤ S8x512x128.size a := by decide
theorem inbO1 : ∀ a : Fin S1x512x1024.rank, (![0, 0, 128] : Fin 3 → ℕ) a + S1x512x128.size a ≤ S1x512x1024.size a := by decide
theorem inbQ2 : ∀ a : Fin S1x512x5120.rank, (![0, 0, 1280] : Fin 3 → ℕ) a + S1x512x640.size a ≤ S1x512x5120.size a := by decide
theorem inbW2 : ∀ a : Fin S8x512x128.rank, (![2, 0, 0] : Fin 3 → ℕ) a + S1x512x128.size a ≤ S8x512x128.size a := by decide
theorem inbO2 : ∀ a : Fin S1x512x1024.rank, (![0, 0, 256] : Fin 3 → ℕ) a + S1x512x128.size a ≤ S1x512x1024.size a := by decide
theorem inbQ3 : ∀ a : Fin S1x512x5120.rank, (![0, 0, 1920] : Fin 3 → ℕ) a + S1x512x640.size a ≤ S1x512x5120.size a := by decide
theorem inbW3 : ∀ a : Fin S8x512x128.rank, (![3, 0, 0] : Fin 3 → ℕ) a + S1x512x128.size a ≤ S8x512x128.size a := by decide
theorem inbO3 : ∀ a : Fin S1x512x1024.rank, (![0, 0, 384] : Fin 3 → ℕ) a + S1x512x128.size a ≤ S1x512x1024.size a := by decide
theorem inbQ4 : ∀ a : Fin S1x512x5120.rank, (![0, 0, 2560] : Fin 3 → ℕ) a + S1x512x640.size a ≤ S1x512x5120.size a := by decide
theorem inbW4 : ∀ a : Fin S8x512x128.rank, (![4, 0, 0] : Fin 3 → ℕ) a + S1x512x128.size a ≤ S8x512x128.size a := by decide
theorem inbO4 : ∀ a : Fin S1x512x1024.rank, (![0, 0, 512] : Fin 3 → ℕ) a + S1x512x128.size a ≤ S1x512x1024.size a := by decide
theorem inbQ5 : ∀ a : Fin S1x512x5120.rank, (![0, 0, 3200] : Fin 3 → ℕ) a + S1x512x640.size a ≤ S1x512x5120.size a := by decide
theorem inbW5 : ∀ a : Fin S8x512x128.rank, (![5, 0, 0] : Fin 3 → ℕ) a + S1x512x128.size a ≤ S8x512x128.size a := by decide
theorem inbO5 : ∀ a : Fin S1x512x1024.rank, (![0, 0, 640] : Fin 3 → ℕ) a + S1x512x128.size a ≤ S1x512x1024.size a := by decide
theorem inbQ6 : ∀ a : Fin S1x512x5120.rank, (![0, 0, 3840] : Fin 3 → ℕ) a + S1x512x640.size a ≤ S1x512x5120.size a := by decide
theorem inbW6 : ∀ a : Fin S8x512x128.rank, (![6, 0, 0] : Fin 3 → ℕ) a + S1x512x128.size a ≤ S8x512x128.size a := by decide
theorem inbO6 : ∀ a : Fin S1x512x1024.rank, (![0, 0, 768] : Fin 3 → ℕ) a + S1x512x128.size a ≤ S1x512x1024.size a := by decide
theorem inbQ7 : ∀ a : Fin S1x512x5120.rank, (![0, 0, 4480] : Fin 3 → ℕ) a + S1x512x640.size a ≤ S1x512x5120.size a := by decide
theorem inbW7 : ∀ a : Fin S8x512x128.rank, (![7, 0, 0] : Fin 3 → ℕ) a + S1x512x128.size a ≤ S8x512x128.size a := by decide
theorem inbO7 : ∀ a : Fin S1x512x1024.rank, (![0, 0, 896] : Fin 3 → ℕ) a + S1x512x128.size a ≤ S1x512x1024.size a := by decide

/-- One head's queries, from the block of all heads'. -/
def qld (off : Fin 3 → ℕ) (h : ∀ a : Fin S1x512x5120.rank, off a + S1x512x640.size a ≤ S1x512x5120.size a) (arg2 : Memref sig .tc .vmem S1x512x5120 .bf16) (X2 : BufTy.Contents (Elt F) arg2.view.ty) : FVec F S512x640 .bf16 :=
  shapeCast S512x640 (arg2.view.readAt (Elt F) (Rect.unit (s := S1x512x5120) off S1x512x640.size h).toLoadRect X2) shapeCasts_S1x512x640_S512x640

set_option maxHeartbeats 40000000 in
theorem run_pieces (c : Dev nD) (i : grid0.Coords) (arg2 : Memref sig .tc .vmem S1x512x5120 .bf16) (harg2 : arg2.IsWhole) (arg3 : Memref sig .tc .vmem S1x2048x640 .bf16) (harg3 : arg3.IsWhole) (arg4 : Memref sig .tc .vmem S8x512x128 .bf16) (harg4 : arg4.IsWhole) (arg5 : Memref sig .tc .vmem S1x512x1024 .bf16) (harg5 : arg5.IsWhole) (arg6 : Memref sig .tc .vmem S512x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x512 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x512 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x128 .f32) (harg25 : arg25.IsWhole) (arg26 : Memref sig .tc .vmem S512x128 .f32) (harg26 : arg26.IsWhole) (arg27 : Memref sig .tc .vmem S512x512 .f32) (harg27 : arg27.IsWhole) (arg28 : Memref sig .tc .vmem S512x128 .f32) (harg28 : arg28.IsWhole) (arg29 : Memref sig .tc .vmem S512x128 .f32) (harg29 : arg29.IsWhole) (x2 : Vec F S1x512x5120 .bf16) (x3 : Vec F S1x2048x640 .bf16) (x4 : Vec F S8x512x128 .bf16) :
    (kernelRun0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x2 x3 x4).1 = [⟨Rect.unit ![0, 0, 896] S1x512x128.size inbO7, headOut arg27 arg28 arg29 (qld ![0, 0, 4480] inbQ7 arg2 (harg2.unread x2)) (fun k : Fin (k0_t1_loop i).trips => tripH arg27 arg28 arg29 (qld ![0, 0, 4480] inbQ7 arg2 (harg2.unread x2)) (arg3.view.readAt (Elt F) (Rect.unit (s := S1x2048x640) (k0_off1 i k) S1x512x640.size (k0_off1_inb i k)).toLoadRect (harg3.unread x3))) (arg3.view.readAt (Elt F) (Rect.unit (s := S1x2048x640) (k0_off3 i) S1x512x640.size (k0_off3_inb i)).toLoadRect (harg3.unread x3)) (arg4.view.readAt (Elt F) (Rect.unit (s := S8x512x128) ![7, 0, 0] S1x512x128.size inbW7).toLoadRect (harg4.unread x4)) (k0_t1_loop i).trips⟩,
      ⟨Rect.unit ![0, 0, 768] S1x512x128.size inbO6, headOut arg24 arg25 arg26 (qld ![0, 0, 3840] inbQ6 arg2 (harg2.unread x2)) (fun k : Fin (k0_t1_loop i).trips => tripH arg24 arg25 arg26 (qld ![0, 0, 3840] inbQ6 arg2 (harg2.unread x2)) (arg3.view.readAt (Elt F) (Rect.unit (s := S1x2048x640) (k0_off1 i k) S1x512x640.size (k0_off1_inb i k)).toLoadRect (harg3.unread x3))) (arg3.view.readAt (Elt F) (Rect.unit (s := S1x2048x640) (k0_off3 i) S1x512x640.size (k0_off3_inb i)).toLoadRect (harg3.unread x3)) (arg4.view.readAt (Elt F) (Rect.unit (s := S8x512x128) ![6, 0, 0] S1x512x128.size inbW6).toLoadRect (harg4.unread x4)) (k0_t1_loop i).trips⟩,
      ⟨Rect.unit ![0, 0, 640] S1x512x128.size inbO5, headOut arg21 arg22 arg23 (qld ![0, 0, 3200] inbQ5 arg2 (harg2.unread x2)) (fun k : Fin (k0_t1_loop i).trips => tripH arg21 arg22 arg23 (qld ![0, 0, 3200] inbQ5 arg2 (harg2.unread x2)) (arg3.view.readAt (Elt F) (Rect.unit (s := S1x2048x640) (k0_off1 i k) S1x512x640.size (k0_off1_inb i k)).toLoadRect (harg3.unread x3))) (arg3.view.readAt (Elt F) (Rect.unit (s := S1x2048x640) (k0_off3 i) S1x512x640.size (k0_off3_inb i)).toLoadRect (harg3.unread x3)) (arg4.view.readAt (Elt F) (Rect.unit (s := S8x512x128) ![5, 0, 0] S1x512x128.size inbW5).toLoadRect (harg4.unread x4)) (k0_t1_loop i).trips⟩,
      ⟨Rect.unit ![0, 0, 512] S1x512x128.size inbO4, headOut arg18 arg19 arg20 (qld ![0, 0, 2560] inbQ4 arg2 (harg2.unread x2)) (fun k : Fin (k0_t1_loop i).trips => tripH arg18 arg19 arg20 (qld ![0, 0, 2560] inbQ4 arg2 (harg2.unread x2)) (arg3.view.readAt (Elt F) (Rect.unit (s := S1x2048x640) (k0_off1 i k) S1x512x640.size (k0_off1_inb i k)).toLoadRect (harg3.unread x3))) (arg3.view.readAt (Elt F) (Rect.unit (s := S1x2048x640) (k0_off3 i) S1x512x640.size (k0_off3_inb i)).toLoadRect (harg3.unread x3)) (arg4.view.readAt (Elt F) (Rect.unit (s := S8x512x128) ![4, 0, 0] S1x512x128.size inbW4).toLoadRect (harg4.unread x4)) (k0_t1_loop i).trips⟩,
      ⟨Rect.unit ![0, 0, 384] S1x512x128.size inbO3, headOut arg15 arg16 arg17 (qld ![0, 0, 1920] inbQ3 arg2 (harg2.unread x2)) (fun k : Fin (k0_t1_loop i).trips => tripH arg15 arg16 arg17 (qld ![0, 0, 1920] inbQ3 arg2 (harg2.unread x2)) (arg3.view.readAt (Elt F) (Rect.unit (s := S1x2048x640) (k0_off1 i k) S1x512x640.size (k0_off1_inb i k)).toLoadRect (harg3.unread x3))) (arg3.view.readAt (Elt F) (Rect.unit (s := S1x2048x640) (k0_off3 i) S1x512x640.size (k0_off3_inb i)).toLoadRect (harg3.unread x3)) (arg4.view.readAt (Elt F) (Rect.unit (s := S8x512x128) ![3, 0, 0] S1x512x128.size inbW3).toLoadRect (harg4.unread x4)) (k0_t1_loop i).trips⟩,
      ⟨Rect.unit ![0, 0, 256] S1x512x128.size inbO2, headOut arg12 arg13 arg14 (qld ![0, 0, 1280] inbQ2 arg2 (harg2.unread x2)) (fun k : Fin (k0_t1_loop i).trips => tripH arg12 arg13 arg14 (qld ![0, 0, 1280] inbQ2 arg2 (harg2.unread x2)) (arg3.view.readAt (Elt F) (Rect.unit (s := S1x2048x640) (k0_off1 i k) S1x512x640.size (k0_off1_inb i k)).toLoadRect (harg3.unread x3))) (arg3.view.readAt (Elt F) (Rect.unit (s := S1x2048x640) (k0_off3 i) S1x512x640.size (k0_off3_inb i)).toLoadRect (harg3.unread x3)) (arg4.view.readAt (Elt F) (Rect.unit (s := S8x512x128) ![2, 0, 0] S1x512x128.size inbW2).toLoadRect (harg4.unread x4)) (k0_t1_loop i).trips⟩,
      ⟨Rect.unit ![0, 0, 128] S1x512x128.size inbO1, headOut arg9 arg10 arg11 (qld ![0, 0, 640] inbQ1 arg2 (harg2.unread x2)) (fun k : Fin (k0_t1_loop i).trips => tripH arg9 arg10 arg11 (qld ![0, 0, 640] inbQ1 arg2 (harg2.unread x2)) (arg3.view.readAt (Elt F) (Rect.unit (s := S1x2048x640) (k0_off1 i k) S1x512x640.size (k0_off1_inb i k)).toLoadRect (harg3.unread x3))) (arg3.view.readAt (Elt F) (Rect.unit (s := S1x2048x640) (k0_off3 i) S1x512x640.size (k0_off3_inb i)).toLoadRect (harg3.unread x3)) (arg4.view.readAt (Elt F) (Rect.unit (s := S8x512x128) ![1, 0, 0] S1x512x128.size inbW1).toLoadRect (harg4.unread x4)) (k0_t1_loop i).trips⟩,
      ⟨Rect.unit ![0, 0, 0] S1x512x128.size inbO0, headOut arg6 arg7 arg8 (qld ![0, 0, 0] inbQ0 arg2 (harg2.unread x2)) (fun k : Fin (k0_t1_loop i).trips => tripH arg6 arg7 arg8 (qld ![0, 0, 0] inbQ0 arg2 (harg2.unread x2)) (arg3.view.readAt (Elt F) (Rect.unit (s := S1x2048x640) (k0_off1 i k) S1x512x640.size (k0_off1_inb i k)).toLoadRect (harg3.unread x3))) (arg3.view.readAt (Elt F) (Rect.unit (s := S1x2048x640) (k0_off3 i) S1x512x640.size (k0_off3_inb i)).toLoadRect (harg3.unread x3)) (arg4.view.readAt (Elt F) (Rect.unit (s := S8x512x128) ![0, 0, 0] S1x512x128.size inbW0).toLoadRect (harg4.unread x4)) (k0_t1_loop i).trips⟩] := by

  have e0 : (fun k : Fin (k0_t1_loop i).trips => tripH arg6 arg7 arg8 (qld ![0, 0, 0] inbQ0 arg2 (harg2.unread x2)) (arg3.view.readAt (Elt F) (Rect.unit (s := S1x2048x640) (k0_off1 i k) S1x512x640.size (k0_off1_inb i k)).toLoadRect (harg3.unread x3))) = fun k => (trip1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 1).val) (qld ![0, 0, 0] inbQ0 arg2 (harg2.unread x2)) (qld ![0, 0, 640] inbQ1 arg2 (harg2.unread x2)) (qld ![0, 0, 1280] inbQ2 arg2 (harg2.unread x2)) (qld ![0, 0, 1920] inbQ3 arg2 (harg2.unread x2)) (qld ![0, 0, 2560] inbQ4 arg2 (harg2.unread x2)) (qld ![0, 0, 3200] inbQ5 arg2 (harg2.unread x2)) (qld ![0, 0, 3840] inbQ6 arg2 (harg2.unread x2)) (qld ![0, 0, 4480] inbQ7 arg2 (harg2.unread x2)) 0#32 1#32 (Scalar.divsi (Scalar.subi (BitVec.ofNat 32 (i 1).val) 0#32) 1#32) (harg3.unread x3) k).1.h0 := funext fun k => (trip_h0 ..).symm
  have e1 : (fun k : Fin (k0_t1_loop i).trips => tripH arg9 arg10 arg11 (qld ![0, 0, 640] inbQ1 arg2 (harg2.unread x2)) (arg3.view.readAt (Elt F) (Rect.unit (s := S1x2048x640) (k0_off1 i k) S1x512x640.size (k0_off1_inb i k)).toLoadRect (harg3.unread x3))) = fun k => (trip1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 1).val) (qld ![0, 0, 0] inbQ0 arg2 (harg2.unread x2)) (qld ![0, 0, 640] inbQ1 arg2 (harg2.unread x2)) (qld ![0, 0, 1280] inbQ2 arg2 (harg2.unread x2)) (qld ![0, 0, 1920] inbQ3 arg2 (harg2.unread x2)) (qld ![0, 0, 2560] inbQ4 arg2 (harg2.unread x2)) (qld ![0, 0, 3200] inbQ5 arg2 (harg2.unread x2)) (qld ![0, 0, 3840] inbQ6 arg2 (harg2.unread x2)) (qld ![0, 0, 4480] inbQ7 arg2 (harg2.unread x2)) 0#32 1#32 (Scalar.divsi (Scalar.subi (BitVec.ofNat 32 (i 1).val) 0#32) 1#32) (harg3.unread x3) k).1.h1 := funext fun k => (trip_h1 ..).symm
  have e2 : (fun k : Fin (k0_t1_loop i).trips => tripH arg12 arg13 arg14 (qld ![0, 0, 1280] inbQ2 arg2 (harg2.unread x2)) (arg3.view.readAt (Elt F) (Rect.unit (s := S1x2048x640) (k0_off1 i k) S1x512x640.size (k0_off1_inb i k)).toLoadRect (harg3.unread x3))) = fun k => (trip1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 1).val) (qld ![0, 0, 0] inbQ0 arg2 (harg2.unread x2)) (qld ![0, 0, 640] inbQ1 arg2 (harg2.unread x2)) (qld ![0, 0, 1280] inbQ2 arg2 (harg2.unread x2)) (qld ![0, 0, 1920] inbQ3 arg2 (harg2.unread x2)) (qld ![0, 0, 2560] inbQ4 arg2 (harg2.unread x2)) (qld ![0, 0, 3200] inbQ5 arg2 (harg2.unread x2)) (qld ![0, 0, 3840] inbQ6 arg2 (harg2.unread x2)) (qld ![0, 0, 4480] inbQ7 arg2 (harg2.unread x2)) 0#32 1#32 (Scalar.divsi (Scalar.subi (BitVec.ofNat 32 (i 1).val) 0#32) 1#32) (harg3.unread x3) k).1.h2 := funext fun k => (trip_h2 ..).symm
  have e3 : (fun k : Fin (k0_t1_loop i).trips => tripH arg15 arg16 arg17 (qld ![0, 0, 1920] inbQ3 arg2 (harg2.unread x2)) (arg3.view.readAt (Elt F) (Rect.unit (s := S1x2048x640) (k0_off1 i k) S1x512x640.size (k0_off1_inb i k)).toLoadRect (harg3.unread x3))) = fun k => (trip1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 1).val) (qld ![0, 0, 0] inbQ0 arg2 (harg2.unread x2)) (qld ![0, 0, 640] inbQ1 arg2 (harg2.unread x2)) (qld ![0, 0, 1280] inbQ2 arg2 (harg2.unread x2)) (qld ![0, 0, 1920] inbQ3 arg2 (harg2.unread x2)) (qld ![0, 0, 2560] inbQ4 arg2 (harg2.unread x2)) (qld ![0, 0, 3200] inbQ5 arg2 (harg2.unread x2)) (qld ![0, 0, 3840] inbQ6 arg2 (harg2.unread x2)) (qld ![0, 0, 4480] inbQ7 arg2 (harg2.unread x2)) 0#32 1#32 (Scalar.divsi (Scalar.subi (BitVec.ofNat 32 (i 1).val) 0#32) 1#32) (harg3.unread x3) k).1.h3 := funext fun k => (trip_h3 ..).symm
  have e4 : (fun k : Fin (k0_t1_loop i).trips => tripH arg18 arg19 arg20 (qld ![0, 0, 2560] inbQ4 arg2 (harg2.unread x2)) (arg3.view.readAt (Elt F) (Rect.unit (s := S1x2048x640) (k0_off1 i k) S1x512x640.size (k0_off1_inb i k)).toLoadRect (harg3.unread x3))) = fun k => (trip1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 1).val) (qld ![0, 0, 0] inbQ0 arg2 (harg2.unread x2)) (qld ![0, 0, 640] inbQ1 arg2 (harg2.unread x2)) (qld ![0, 0, 1280] inbQ2 arg2 (harg2.unread x2)) (qld ![0, 0, 1920] inbQ3 arg2 (harg2.unread x2)) (qld ![0, 0, 2560] inbQ4 arg2 (harg2.unread x2)) (qld ![0, 0, 3200] inbQ5 arg2 (harg2.unread x2)) (qld ![0, 0, 3840] inbQ6 arg2 (harg2.unread x2)) (qld ![0, 0, 4480] inbQ7 arg2 (harg2.unread x2)) 0#32 1#32 (Scalar.divsi (Scalar.subi (BitVec.ofNat 32 (i 1).val) 0#32) 1#32) (harg3.unread x3) k).1.h4 := funext fun k => (trip_h4 ..).symm
  have e5 : (fun k : Fin (k0_t1_loop i).trips => tripH arg21 arg22 arg23 (qld ![0, 0, 3200] inbQ5 arg2 (harg2.unread x2)) (arg3.view.readAt (Elt F) (Rect.unit (s := S1x2048x640) (k0_off1 i k) S1x512x640.size (k0_off1_inb i k)).toLoadRect (harg3.unread x3))) = fun k => (trip1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 1).val) (qld ![0, 0, 0] inbQ0 arg2 (harg2.unread x2)) (qld ![0, 0, 640] inbQ1 arg2 (harg2.unread x2)) (qld ![0, 0, 1280] inbQ2 arg2 (harg2.unread x2)) (qld ![0, 0, 1920] inbQ3 arg2 (harg2.unread x2)) (qld ![0, 0, 2560] inbQ4 arg2 (harg2.unread x2)) (qld ![0, 0, 3200] inbQ5 arg2 (harg2.unread x2)) (qld ![0, 0, 3840] inbQ6 arg2 (harg2.unread x2)) (qld ![0, 0, 4480] inbQ7 arg2 (harg2.unread x2)) 0#32 1#32 (Scalar.divsi (Scalar.subi (BitVec.ofNat 32 (i 1).val) 0#32) 1#32) (harg3.unread x3) k).1.h5 := funext fun k => (trip_h5 ..).symm
  have e6 : (fun k : Fin (k0_t1_loop i).trips => tripH arg24 arg25 arg26 (qld ![0, 0, 3840] inbQ6 arg2 (harg2.unread x2)) (arg3.view.readAt (Elt F) (Rect.unit (s := S1x2048x640) (k0_off1 i k) S1x512x640.size (k0_off1_inb i k)).toLoadRect (harg3.unread x3))) = fun k => (trip1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 1).val) (qld ![0, 0, 0] inbQ0 arg2 (harg2.unread x2)) (qld ![0, 0, 640] inbQ1 arg2 (harg2.unread x2)) (qld ![0, 0, 1280] inbQ2 arg2 (harg2.unread x2)) (qld ![0, 0, 1920] inbQ3 arg2 (harg2.unread x2)) (qld ![0, 0, 2560] inbQ4 arg2 (harg2.unread x2)) (qld ![0, 0, 3200] inbQ5 arg2 (harg2.unread x2)) (qld ![0, 0, 3840] inbQ6 arg2 (harg2.unread x2)) (qld ![0, 0, 4480] inbQ7 arg2 (harg2.unread x2)) 0#32 1#32 (Scalar.divsi (Scalar.subi (BitVec.ofNat 32 (i 1).val) 0#32) 1#32) (harg3.unread x3) k).1.h6 := funext fun k => (trip_h6 ..).symm
  have e7 : (fun k : Fin (k0_t1_loop i).trips => tripH arg27 arg28 arg29 (qld ![0, 0, 4480] inbQ7 arg2 (harg2.unread x2)) (arg3.view.readAt (Elt F) (Rect.unit (s := S1x2048x640) (k0_off1 i k) S1x512x640.size (k0_off1_inb i k)).toLoadRect (harg3.unread x3))) = fun k => (trip1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (BitVec.ofNat 32 (i 1).val) (qld ![0, 0, 0] inbQ0 arg2 (harg2.unread x2)) (qld ![0, 0, 640] inbQ1 arg2 (harg2.unread x2)) (qld ![0, 0, 1280] inbQ2 arg2 (harg2.unread x2)) (qld ![0, 0, 1920] inbQ3 arg2 (harg2.unread x2)) (qld ![0, 0, 2560] inbQ4 arg2 (harg2.unread x2)) (qld ![0, 0, 3200] inbQ5 arg2 (harg2.unread x2)) (qld ![0, 0, 3840] inbQ6 arg2 (harg2.unread x2)) (qld ![0, 0, 4480] inbQ7 arg2 (harg2.unread x2)) 0#32 1#32 (Scalar.divsi (Scalar.subi (BitVec.ofNat 32 (i 1).val) 0#32) 1#32) (harg3.unread x3) k).1.h7 := funext fun k => (trip_h7 ..).symm
  rw [e0, e1, e2, e3, e4, e5, e6, e7]
  unfold kernelRun0
  rfl

end Cert.Kernel4Ideal.Attn

end
-- ==== Proof.AttnValue.lean ====
/-
  The attention kernel's result, entry by entry: a block's eight pieces, one a head, each read through `headOut_apply`, and
  the result array put together from the blocks.
-/
module

public import proofs.«01_k».proof.Proof.AttnHost
public import proofs.«01_k».proof.Proof.AttnHead
public import proofs.«01_k».proof.Proof.AttnEq
public import proofs.«01_k».proof.Proof.AttnSpec
public import proofs.«01_k».proof.Proof.AttnIFrame
public import Idealize.ShloMosaic.Lib.Pointwise
public import Idealize.ShloMosaic.Lib.Tactic

@[expose] public section

set_option maxRecDepth 16384

noncomputable section

namespace Cert.Kernel4Ideal.Attn

open Idealize.ShloMosaic Idealize.ShloMosaic.TcCoe Idealize.SL.Sem
open Cert.Kernel4Ideal Cert.Kernel4Ideal.Gen
open Cert.AttnSpec Cert.AttnReal

variable (m : (ℓ : Loc nD τ sig) → Buf (Elt Ideal) ℓ)

theorem cast_sq (X : Vec Ideal S1x512x640 .bf16) (r : Fin 512) (x : Fin 640) :
    shapeCast S512x640 X shapeCasts_S1x512x640_S512x640 (ix2 r x) = X (ix3 0 r x) := by
  pointwise

theorem q_read (c : Dev nD) (t : Fin cfg0.N) (b : Fin 4) (R : Fin 2048) (hb : b.val = t.val / 4) (off : Fin 3 → ℕ) (hi : ∀ a : Fin S1x512x5120.rank, off a + S1x512x640.size a ≤ S1x512x5120.size a)
    (h : Fin 8) (ho : off = ![0, 0, 640 * h.val]) (r : Fin 512) (hR : R.val = 512 * (t.val % 4) + r.val) (x : Fin 640) :
    qld off hi (ms0_0 t) ((hs0_0 t).unread (iblk m c 0 t)) (ix2 r x) = qq m c b R h x := by
  subst ho
  unfold qld
  rw [cast_sq, View.readAt_apply, (hs0_0 t).read_unread]
  refine Eq.trans ?_ (blk_q m c t b R r h x hb hR)
  refine congrArg (iblk m c 0 t : Vec Ideal S1x512x5120 .bf16) (funext fun a => Fin.ext ?_)
  match a with
  | ⟨0, _⟩ => rfl
  | ⟨1, _⟩ => show 0 + 1 * r.val = r.val; omega
  | ⟨2, _⟩ => show 640 * h.val + 1 * x.val = 640 * h.val + x.val; omega

theorem k_read (c : Dev nD) (t : Fin cfg0.N) (b : Fin 4) (hb : b.val = t.val / 4) (off : Fin 3 → ℕ) (hi : ∀ a : Fin S1x2048x640.rank, off a + S1x512x640.size a ≤ S1x2048x640.size a)
    (n : ℕ) (ho : off = ![0, n, 0]) (j : Fin 512) (J : Fin 2048) (hJ : J.val = n + j.val) (x : Fin 640) :
    (ms0_1 t).view.readAt (Elt Ideal) (Rect.unit (s := S1x2048x640) off S1x512x640.size hi).toLoadRect ((hs0_1 t).unread (iblk m c 1 t)) (ix3 0 j x) = kk m c b J x := by
  subst ho
  rw [View.readAt_apply, (hs0_1 t).read_unread]
  refine Eq.trans ?_ (blk_k m c t b J x hb)
  refine congrArg (iblk m c 1 t : Vec Ideal S1x2048x640 .bf16) (funext fun a => Fin.ext ?_)
  match a with
  | ⟨0, _⟩ => rfl
  | ⟨1, _⟩ => show n + 1 * j.val = J.val; omega
  | ⟨2, _⟩ => show 0 + 1 * x.val = x.val; omega

theorem w_read (c : Dev nD) (t : Fin cfg0.N) (off : Fin 3 → ℕ) (hi : ∀ a : Fin S8x512x128.rank, off a + S1x512x128.size a ≤ S8x512x128.size a)
    (h : Fin 8) (ho : off = ![h.val, 0, 0]) (k : Fin 512) (e : Fin 128) :
    (ms0_2 t).view.readAt (Elt Ideal) (Rect.unit (s := S8x512x128) off S1x512x128.size hi).toLoadRect ((hs0_2 t).unread (iblk m c 2 t)) (ix3 0 k e) = aW m c k ⟨256 * h.val + 128 + e.val, by omega⟩ := by
  subst ho
  rw [View.readAt_apply, (hs0_2 t).read_unread]
  refine Eq.trans ?_ (blk_w m c t h k e)
  refine congrArg (iblk m c 2 t : Vec Ideal S8x512x128 .bf16) (funext fun a => Fin.ext ?_)
  match a with
  | ⟨0, _⟩ => show h.val + 1 * 0 = h.val; omega
  | ⟨1, _⟩ => show 0 + 1 * k.val = k.val; omega
  | ⟨2, _⟩ => show 0 + 1 * e.val = e.val; omega

theorem kk_lat (c : Dev nD) (b : Fin 4) (J : Fin 2048) (k : Fin 512) : kk m c b J ⟨k.val, by omega⟩ = aC m c b J k := by
  unfold kk
  rw [dif_pos k.isLt]

theorem sc_val (c : Dev nD) (b : Fin 4) (R J : Fin 2048) (h : Fin 8) (hJ : J.val ≤ R.val) :
    ∑ x, qq m c b R h x * kk m c b J x = sc (aQ m c) (aP m c) (aC m c) (aK m c) b R h J.val := by
  rw [qk]
  unfold sc
  rw [dif_pos J.isLt, if_pos hJ]

/-- One head of a block: the specification's entries at the row and the head's columns. -/
theorem piece (c : Dev nD) (hql : ∀ b r h k, isR (aQ m c b r h k)) (hqp : ∀ b r h e, isR (aP m c b r h e)) (hck : ∀ b j k, isR (aC m c b j k)) (hkp : ∀ b j e, isR (aK m c b j e))
    (t : Fin cfg0.N) (b : Fin 4) (hb : b.val = t.val / 4) (a : Memref sig .tc .vmem S512x512 .f32) (mm l : Memref sig .tc .vmem S512x128 .f32) (h : Fin 8)
    (offQ : Fin 3 → ℕ) (hQ : ∀ a : Fin S1x512x5120.rank, offQ a + S1x512x640.size a ≤ S1x512x5120.size a) (hoQ : offQ = ![0, 0, 640 * h.val])
    (offW : Fin 3 → ℕ) (hW : ∀ a : Fin S8x512x128.rank, offW a + S1x512x128.size a ≤ S8x512x128.size a) (hoW : offW = ![h.val, 0, 0])
    (r : Fin 512) (R : Fin 2048) (hR : R.val = 512 * (t.val % 4) + r.val) (e : Fin 128) :
    headOut a mm l (qld offQ hQ (ms0_0 t) ((hs0_0 t).unread (iblk m c 0 t)))
      (fun k : Fin (k0_t1_loop (grid0.coords t)).trips => tripH a mm l (qld offQ hQ (ms0_0 t) ((hs0_0 t).unread (iblk m c 0 t))) ((ms0_1 t).view.readAt (Elt Ideal) (Rect.unit (s := S1x2048x640) (k0_off1 (grid0.coords t) k) S1x512x640.size (k0_off1_inb (grid0.coords t) k)).toLoadRect ((hs0_1 t).unread (iblk m c 1 t))))
      ((ms0_1 t).view.readAt (Elt Ideal) (Rect.unit (s := S1x2048x640) (k0_off3 (grid0.coords t)) S1x512x640.size (k0_off3_inb (grid0.coords t))).toLoadRect ((hs0_1 t).unread (iblk m c 1 t)))
      ((ms0_2 t).view.readAt (Elt Ideal) (Rect.unit (s := S8x512x128) offW S1x512x128.size hW).toLoadRect ((hs0_2 t).unread (iblk m c 2 t))) (k0_t1_loop (grid0.coords t)).trips (ix3 0 r e)
      = yE (aQ m c) (aP m c) (aC m c) (aK m c) (aW m c) b R h e := by
  have hN := trips_eq t
  have hr := r.isLt
  have hRR : R.val = 512 * (k0_t1_loop (grid0.coords t)).trips + r.val := by rw [hN]; exact hR
  refine (headOut_apply a mm l (qld offQ hQ (ms0_0 t) ((hs0_0 t).unread (iblk m c 0 t))) (N := (k0_t1_loop (grid0.coords t)).trips)
    (fun k : Fin (k0_t1_loop (grid0.coords t)).trips => ((ms0_1 t).view.readAt (Elt Ideal) (Rect.unit (s := S1x2048x640) (k0_off1 (grid0.coords t) k) S1x512x640.size (k0_off1_inb (grid0.coords t) k)).toLoadRect ((hs0_1 t).unread (iblk m c 1 t)) : Vec Ideal S1x512x640 .bf16))
    _ _ r (sc (aQ m c) (aP m c) (aC m c) (aK m c) b R h) (vv (aC m c) b) 2048 (by omega) ?_ ?_ ?_ ?_
    (sc_ne_top hql hqp hck hkp b R h) (fun j hj => (sc_isR hql hqp hck hkp b R h j (by omega)).ne_bot) (fun j hj => sc_bot b R h j (by omega)) e).trans ?_
  · intro k j
    have hk := k.isLt
    rw [tS_apply]
    refine Eq.trans ?_ (sc_val m c b R ⟨512 * k.val + j.val, by omega⟩ h (by dsimp only; omega))
    refine Finset.sum_congr rfl fun x _ => ?_
    exact congrArg₂ (· * ·) (q_read m c t b R hb offQ hQ h hoQ r hR x) (k_read m c t b hb _ _ (512 * k.val) (off1_eq t k) j ⟨512 * k.val + j.val, by omega⟩ rfl x)
  · intro k j d
    have hk := k.isLt
    rw [tV_apply]
    refine (k_read m c t b hb _ _ (512 * k.val) (off1_eq t k) j ⟨512 * k.val + j.val, by omega⟩ rfl _).trans ?_
    exact (kk_lat m c b _ d).trans (vv_eq hck b ⟨512 * k.val + j.val, by omega⟩ d).symm
  · intro j hj
    rw [tS_apply]
    refine Eq.trans ?_ (sc_val m c b R ⟨512 * (k0_t1_loop (grid0.coords t)).trips + j.val, by omega⟩ h (by dsimp only; omega))
    refine Finset.sum_congr rfl fun x _ => ?_
    exact congrArg₂ (· * ·) (q_read m c t b R hb offQ hQ h hoQ r hR x) (k_read m c t b hb _ _ (512 * (t.val % 4)) (off3_eq t) j _ (by dsimp only; omega) x)
  · intro j d
    have hj := j.isLt
    rw [tV_apply]
    refine (k_read m c t b hb _ _ (512 * (t.val % 4)) (off3_eq t) j ⟨512 * (k0_t1_loop (grid0.coords t)).trips + j.val, by omega⟩ (by dsimp only; omega) _).trans ?_
    exact (kk_lat m c b _ d).trans (vv_eq hck b ⟨512 * (k0_t1_loop (grid0.coords t)).trips + j.val, by omega⟩ d).symm
  · unfold yE
    refine Finset.sum_congr rfl fun k _ => ?_
    exact congrArg₂ (· * ·) rfl (w_read m c t offW hW h hoW k e)

/-- The specification at an index of point `t`'s block. -/
def G (c : Dev nD) (t : Fin cfg0.N) (b : Fin 4) (y : S1x512x1024.Idx) : EReal :=
  yE (aQ m c) (aP m c) (aC m c) (aK m c) (aW m c) b ⟨512 * (t.val % 4) + (y 1).val, by have h : (y 1).val < 512 := (y 1).isLt; omega⟩
    ⟨(y 2).val / 128, by have h : (y 2).val < 1024 := (y 2).isLt; omega⟩ ⟨(y 2).val % 128, Nat.mod_lt _ (by decide)⟩

theorem yE_congr (c : Dev nD) (b : Fin 4) (R R' : Fin 2048) (h h' : Fin 8) (v v' : Fin 128) (e0 : R.val = R'.val) (e1 : h.val = h'.val) (e2 : v.val = v'.val) :
    yE (aQ m c) (aP m c) (aC m c) (aK m c) (aW m c) b R h v = yE (aQ m c) (aP m c) (aC m c) (aK m c) (aW m c) b R' h' v' := by
  obtain rfl := Fin.ext e0
  obtain rfl := Fin.ext e1
  obtain rfl := Fin.ext e2
  rfl

theorem G_emb (c : Dev nD) (t : Fin cfg0.N) (b : Fin 4) (o : ℕ) (hO : ∀ a : Fin S1x512x1024.rank, (![0, 0, o] : Fin 3 → ℕ) a + S1x512x128.size a ≤ S1x512x1024.size a) (h : Fin 8) (ho : o = 128 * h.val) (r : Fin 512) (e : Fin 128) :
    G m c t b ((Rect.unit (s := S1x512x1024) ![0, 0, o] S1x512x128.size hO).emb (ix3 0 r e)) = yE (aQ m c) (aP m c) (aC m c) (aK m c) (aW m c) b ⟨512 * (t.val % 4) + r.val, by omega⟩ h e := by
  unfold G
  refine yE_congr m c b _ _ _ _ _ _ ?_ ?_ ?_
  · show 512 * (t.val % 4) + (0 + 1 * r.val) = 512 * (t.val % 4) + r.val; omega
  · show (o + 1 * e.val) / 128 = h.val; omega
  · show (o + 1 * e.val) % 128 = e.val; omega

theorem split3 {P : S1x512x128.Idx → Prop} (h : ∀ (r : Fin 512) (e : Fin 128), P (ix3 0 r e)) (x : S1x512x128.Idx) : P x := by
  have e0 : x = ix3 0 (x 1) (x 2) := by
    funext a
    match a with
    | ⟨0, _⟩ => exact Fin.ext (by have h : (x 0).val < 1 := (x 0).isLt; show (x 0).val = 0; omega)
    | ⟨1, _⟩ => rfl
    | ⟨2, _⟩ => rfl
  rw [e0]
  exact h _ _

set_option maxHeartbeats 4000000 in
/-- What the body leaves at point `t`. -/
theorem out_apply (c : Dev nD) (hql : ∀ b r h k, isR (aQ m c b r h k)) (hqp : ∀ b r h e, isR (aP m c b r h e)) (hck : ∀ b j k, isR (aC m c b j k)) (hkp : ∀ b j e, isR (aK m c b j e))
    (t : Fin cfg0.N) (b : Fin 4) (hb : b.val = t.val / 4) (y : S1x512x1024.Idx) :
    out c t (iblk m c 0 t) (iblk m c 1 t) (iblk m c 2 t) y = G m c t b y := by
  have hc := pcs_cover c t (iblk m c 0 t) (iblk m c 1 t) (iblk m c 2 t) y
  unfold out
  refine (congrFun (View.read_writes_eq_canon VO _ _ (pcs_cover c t _ _ _)) y).trans ?_
  refine View.canon_apply_of_pieces (G m c t b) _ ?_ y hc
  unfold pcs
  rw [run_pieces]
  refine List.forall_mem_cons.2 ⟨split3 fun r e => (piece m c hql hqp hck hkp t b hb _ _ _ 7 _ _ rfl _ _ rfl r ⟨512 * (t.val % 4) + r.val, by omega⟩ rfl e).trans (G_emb m c t b 896 inbO7 7 rfl r e).symm,
    List.forall_mem_cons.2 ⟨split3 fun r e => (piece m c hql hqp hck hkp t b hb _ _ _ 6 _ _ rfl _ _ rfl r ⟨512 * (t.val % 4) + r.val, by omega⟩ rfl e).trans (G_emb m c t b 768 inbO6 6 rfl r e).symm,
    List.forall_mem_cons.2 ⟨split3 fun r e => (piece m c hql hqp hck hkp t b hb _ _ _ 5 _ _ rfl _ _ rfl r ⟨512 * (t.val % 4) + r.val, by omega⟩ rfl e).trans (G_emb m c t b 640 inbO5 5 rfl r e).symm,
    List.forall_mem_cons.2 ⟨split3 fun r e => (piece m c hql hqp hck hkp t b hb _ _ _ 4 _ _ rfl _ _ rfl r ⟨512 * (t.val % 4) + r.val, by omega⟩ rfl e).trans (G_emb m c t b 512 inbO4 4 rfl r e).symm,
    List.forall_mem_cons.2 ⟨split3 fun r e => (piece m c hql hqp hck hkp t b hb _ _ _ 3 _ _ rfl _ _ rfl r ⟨512 * (t.val % 4) + r.val, by omega⟩ rfl e).trans (G_emb m c t b 384 inbO3 3 rfl r e).symm,
    List.forall_mem_cons.2 ⟨split3 fun r e => (piece m c hql hqp hck hkp t b hb _ _ _ 2 _ _ rfl _ _ rfl r ⟨512 * (t.val % 4) + r.val, by omega⟩ rfl e).trans (G_emb m c t b 256 inbO2 2 rfl r e).symm,
    List.forall_mem_cons.2 ⟨split3 fun r e => (piece m c hql hqp hck hkp t b hb _ _ _ 1 _ _ rfl _ _ rfl r ⟨512 * (t.val % 4) + r.val, by omega⟩ rfl e).trans (G_emb m c t b 128 inbO1 1 rfl r e).symm,
    List.forall_mem_cons.2 ⟨split3 fun r e => (piece m c hql hqp hck hkp t b hb _ _ _ 0 _ _ rfl _ _ rfl r ⟨512 * (t.val % 4) + r.val, by omega⟩ rfl e).trans (G_emb m c t b 0 inbO0 0 rfl r e).symm,
    fun p hp => absurd hp List.not_mem_nil⟩⟩⟩⟩⟩⟩⟩⟩

theorem idx_inj3 : ∀ t t' : Fin cfg0.N, win0_3.index t = win0_3.index t' → t = t' :=
  (by decide +kernel : ∀ t t' : Fin grid0.N, win0_3.index t = win0_3.index t' → t = t')

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

theorem blocks3 (c : Dev nD) (t : Fin cfg0.N) (hf : (cfg0.win 3).flush t = true) :
    ((cfg0.win 3).blk t).view.read (Elt Ideal) ((dats m 0 c).arrAt 3 cfg0.N) = (dats m 0 c).flushed 3 t :=
  (dats m 0 c).read_blk_arrAt_eq_flushed 3 disjoint3 cfg0.N t t.isLt hf

theorem flushed3 (c : Dev nD) (t : Fin cfg0.N) :
    (dats m 0 c).flushed 3 t = (cfg0.win 3).cut (grid0.coords t) (out c t (iblk m c 0 t) (iblk m c 1 t) (iblk m c 2 t)) := by
  show (cfg0.win 3).cut (grid0.coords t) ((dats m 0 c).after 3 t) = _
  rw [after0_3]

/-- The result array, entry by entry. -/
theorem final_apply (c : Dev nD) (hql : ∀ b r h k, isR (aQ m c b r h k)) (hqp : ∀ b r h e, isR (aP m c b r h e)) (hck : ∀ b j k, isR (aC m c b j k)) (hkp : ∀ b j e, isR (aK m c b j e))
    (b : Fin 4) (R : Fin 2048) (d : Fin 1024) :
    ((dats m 0 c).arrAt 3 cfg0.N : S4x2048x1024.Idx → EReal) (ix3 b R d)
      = yE (aQ m c) (aP m c) (aC m c) (aK m c) (aW m c) b R ⟨d.val / 128, by omega⟩ ⟨d.val % 128, Nat.mod_lt _ (by decide)⟩ := by
  have hN : cfg0.N = 16 := N_0
  have hlt : 4 * b.val + R.val / 512 < cfg0.N := by omega
  generalize ht : (⟨4 * b.val + R.val / 512, hlt⟩ : Fin cfg0.N) = t
  have htv : t.val = 4 * b.val + R.val / 512 := by rw [← ht]
  have h := congrFun (blocks3 m c t (fl_3 t)) (ix3 0 ⟨R.val % 512, Nat.mod_lt _ (by decide)⟩ d)
  rw [View.read_apply, flushed3] at h
  have h := (cast_eq _ _).symm.trans h
  obtain ⟨i0, i1, i2⟩ := ix_3 t
  have e : (((cfg0.win 3).blk t).view.emb (ix3 0 ⟨R.val % 512, Nat.mod_lt _ (by decide)⟩ d)) = (ix3 b R d : S4x2048x1024.Idx) := by
    funext a
    refine Fin.ext ?_
    match a with
    | ⟨0, _⟩ => show win0_3.index t 0 * 1 + 1 * 0 = b.val; rw [i0]; omega
    | ⟨1, _⟩ => show win0_3.index t 1 * 512 + 1 * (R.val % 512) = R.val; rw [i1]; omega
    | ⟨2, _⟩ => show win0_3.index t 2 * 1024 + 1 * d.val = d.val; rw [i2]; omega
  rw [e] at h
  refine h.trans ?_
  refine (out_apply m c hql hqp hck hkp t b (by omega) (ix3 0 ⟨R.val % 512, Nat.mod_lt _ (by decide)⟩ d)).trans ?_
  unfold G
  refine yE_congr m c b _ _ _ _ _ _ ?_ rfl rfl
  show 512 * (t.val % 4) + R.val % 512 = R.val
  omega

variable (ρ : Dev nD → PrngReg)

/-- The program's run leaves the result array above and its arguments as launched. -/
theorem run_blocks : θ_run defs (onTc (τ := τ) (main (F := Ideal))) ⟨m, fun _ => 0, ρ⟩ fun r => ∀ c : Dev nD,
      r.2.mem ((c : Thread nD τ).loc main_v13) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Kernel4Ideal.Attn

end
-- ==== Proof.MlpTerms.lean ====
/-
  The channel mixer's kernel, one grid point at a time: what a point leaves in the two scratch buffers and in the
  output block, as the body's own expressions of the blocks it reads.
-/
module

public import proofs.«01_k».proof.Defs
public import proofs.«01_k».proof.Proof.Gen.KernelIdeal.Value
public import Idealize.ShloMosaic.Lib.Pointwise
public import Idealize.ShloMosaic.Lib.Tactic

@[expose] public section

set_option maxRecDepth 16384

noncomputable section

namespace Cert.KernelIdeal.Mlp

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The normed and modulated rows the first point of a row block computes. -/
abbrev hBlk (c : Dev nD) (t : Fin cfg0.N) : Vec F S512x2048 .bf16 :=
  k0_pay1 (iblk m c 0 t) (iblk m c 4 t) (iblk m c 2 t) (iblk m c 1 t)

/-- First point of a row block: the scratch for the rows. -/
theorem first_h (c : Dev nD) (t : Fin cfg0.N) (h0 : t.val % 8 = 0) :
    (outsAt0 m c t.val t.isLt).2.1 = hBlk m c t := by
  have h1 : ¬t.val % 8 = 7 := by omega
  rw [outsAt0_A m c t h0 h1]
  dsimp only
  unfold sout0_A_0
  rw [View.read_writes_eq_canon _ _ _ (fun _ => scover0_A_0 ..)]
  unfold kernelRun0_A
  dsimp only
  sl_unfold_words
  rw [View.canon_unit_zero hz2]
  simp only [View.readAt_eq_ld, (hs0_0 t).read_unread, (hs0_1 t).read_unread, (hs0_2 t).read_unread, (hs0_4 t).read_unread,
    View.ld_unit_zero (S := S1x512x2048) hz3, View.ld_unit_zero (S := S1x1x2048) hz3, View.ld_unit_zero (S := S1x2048) hz2]

/-- First point of a row block: the scratch for the sum starts from zero. -/
theorem first_acc (c : Dev nD) (t : Fin cfg0.N) (h0 : t.val % 8 = 0) :
    (outsAt0 m c t.val t.isLt).2.2 = k0_pay3 (hBlk m c t) (iblk m c 6 t) k0_pay2 (iblk m c 7 t) := by
  have h1 : ¬t.val % 8 = 7 := by omega
  rw [outsAt0_A m c t h0 h1]
  dsimp only
  unfold sout0_A_1
  rw [View.read_writes_eq_canon _ _ _ (fun _ => scover0_A_1 ..)]
  unfold kernelRun0_A
  dsimp only
  sl_unfold_words
  rw [View.canon_cons_unit_zero (S := S512x2048) hz2, View.readCov_unit_zero (S := S512x2048) _ hz2, View.readCov_unit_zero (S := S512x2048) _ hz2]
  simp only [View.readAt_eq_ld, (hs0_0 t).read_unread, (hs0_1 t).read_unread, (hs0_2 t).read_unread, (hs0_4 t).read_unread,
    (hs0_6 t).read_unread, (hs0_7 t).read_unread, View.ld_unit_zero (S := S2048x1024) hz2, View.ld_unit_zero (S := S1024x2048) hz2,
    View.ld_unit_zero (S := S1x512x2048) hz3, View.ld_unit_zero (S := S1x1x2048) hz3, View.ld_unit_zero (S := S1x2048) hz2]

/-- Any later point keeps the rows. -/
theorem later_h (c : Dev nD) (t : Fin cfg0.N) (h0 : ¬t.val % 8 = 0) :
    (outsAt0 m c t.val t.isLt).2.1 = (outsAt0 m c (t.val - 1) (Nat.lt_of_le_of_lt (Nat.sub_le _ _) t.isLt)).2.1 := by
  by_cases h1 : t.val % 8 = 7
  · rw [outsAt0_C m c t h0 h1]; rfl
  · rw [outsAt0_B m c t h0 h1]; rfl

/-- Any later point adds its block's product to the sum. -/
theorem later_acc (c : Dev nD) (t : Fin cfg0.N) (h0 : ¬t.val % 8 = 0) :
    (outsAt0 m c t.val t.isLt).2.2 = k0_pay3 (outsAt0 m c (t.val - 1) (Nat.lt_of_le_of_lt (Nat.sub_le _ _) t.isLt)).2.1
      (iblk m c 6 t) (outsAt0 m c (t.val - 1) (Nat.lt_of_le_of_lt (Nat.sub_le _ _) t.isLt)).2.2 (iblk m c 7 t) := by
  by_cases h1 : t.val % 8 = 7
  · rw [outsAt0_C m c t h0 h1]
    dsimp only
    unfold sout0_C_1
    rw [View.read_writes_eq_canon _ _ _ (fun _ => scover0_C_1 ..)]
    unfold kernelRun0_C
    dsimp only
    sl_unfold_words
    rw [View.canon_unit_zero hz2]
    simp only [View.readAt_eq_ld, (Memref.isWhole_whole _).read_unread, (hs0_6 t).read_unread, (hs0_7 t).read_unread, View.ld_unit_zero (S := S512x2048) hz2,
      View.ld_unit_zero (S := S2048x1024) hz2, View.ld_unit_zero (S := S1024x2048) hz2]
  · rw [outsAt0_B m c t h0 h1]
    dsimp only
    unfold sout0_B_1
    rw [View.read_writes_eq_canon _ _ _ (fun _ => scover0_B_1 ..)]
    unfold kernelRun0_B
    dsimp only
    sl_unfold_words
    rw [View.canon_unit_zero hz2]
    simp only [View.readAt_eq_ld, (Memref.isWhole_whole _).read_unread, (hs0_6 t).read_unread, (hs0_7 t).read_unread, View.ld_unit_zero (S := S512x2048) hz2,
      View.ld_unit_zero (S := S2048x1024) hz2, View.ld_unit_zero (S := S1024x2048) hz2]

/-- The last point of a row block writes the output from the finished sum. -/
theorem last_out (c : Dev nD) (t : Fin cfg0.N) (h1 : t.val % 8 = 7) :
    (outsAt0 m c t.val t.isLt).1 = k0_pay4 (iblk m c 0 t) (iblk m c 3 t) (outsAt0 m c t.val t.isLt).2.2 (iblk m c 5 t) := by
  have h0 : ¬t.val % 8 = 0 := by omega
  rw [later_acc m c t h0, outsAt0_C m c t h0 h1]
  dsimp only
  unfold out0_C_8
  rw [View.read_writes_eq_canon _ _ _ (fun _ => cover0_C_8 ..)]
  unfold kernelRun0_C
  dsimp only
  sl_unfold_words
  rw [View.canon_unit_zero hz3, View.readCov_unit_zero (S := S512x2048) _ hz2]
  simp only [View.readAt_eq_ld, (Memref.isWhole_whole _).read_unread, (hs0_0 t).read_unread, (hs0_3 t).read_unread, (hs0_5 t).read_unread, (hs0_6 t).read_unread, (hs0_7 t).read_unread,
    View.ld_unit_zero (S := S512x2048) hz2, View.ld_unit_zero (S := S1x512x2048) hz3, View.ld_unit_zero (S := S1x1x2048) hz3, View.ld_unit_zero (S := S1x2048) hz2,
    View.ld_unit_zero (S := S2048x1024) hz2, View.ld_unit_zero (S := S1024x2048) hz2]

end Cert.KernelIdeal.Mlp

end
-- ==== Proof.MlpBlocks.lean ====
/-
  The channel mixer's kernel: the entries of the blocks a grid point reads, as entries of the arguments. Point `t` is
  batch `t / 32`, row block `(t / 8) % 4`, hidden block `t % 8`.
-/
module

public import proofs.«01_k».proof.Defs
public import proofs.«01_k».proof.Proof.Gen.KernelIdeal.Value
public import Idealize.ShloMosaic.Lib.Pointwise
public import Idealize.ShloMosaic.Lib.Tactic

@[expose] public section

set_option maxRecDepth 200000

noncomputable section

namespace Cert.KernelIdeal.Mlp

open Idealize.ShloMosaic Idealize.ShloMosaic.TcCoe Idealize.SL.Sem
open Cert.KernelIdeal Cert.KernelIdeal.Gen

variable (m : (ℓ : Loc nD τ sig) → Buf (Elt Ideal) ℓ)

theorem ix_0 : ∀ t : Fin cfg0.N, win0_0.index t 0 = t.val / 32 ∧ win0_0.index t 1 = t.val / 8 % 4 ∧ win0_0.index t 2 = 0 := by decide +kernel
theorem ix_1 : ∀ t : Fin cfg0.N, win0_1.index t 0 = t.val / 32 ∧ win0_1.index t 1 = 0 ∧ win0_1.index t 2 = 3 := by decide +kernel
theorem ix_2 : ∀ t : Fin cfg0.N, win0_2.index t 0 = t.val / 32 ∧ win0_2.index t 1 = 0 ∧ win0_2.index t 2 = 4 := by decide +kernel
theorem ix_3 : ∀ t : Fin cfg0.N, win0_3.index t 0 = t.val / 32 ∧ win0_3.index t 1 = 0 ∧ win0_3.index t 2 = 5 := by decide +kernel
theorem ix_4 : ∀ t : Fin cfg0.N, win0_4.index t 0 = 0 ∧ win0_4.index t 1 = 0 := by decide +kernel
theorem ix_5 : ∀ t : Fin cfg0.N, win0_5.index t 0 = 0 ∧ win0_5.index t 1 = 0 := by decide +kernel
theorem ix_6 : ∀ t : Fin cfg0.N, win0_6.index t 0 = 0 ∧ win0_6.index t 1 = t.val % 8 := by decide +kernel
theorem ix_7 : ∀ t : Fin cfg0.N, win0_7.index t 0 = t.val % 8 ∧ win0_7.index t 1 = 0 := by decide +kernel

theorem cast_wu (x : FVec Ideal S1x2048x8192 .f32) (b : Fin 2048) (k : Fin 8192) :
    shapeCast S2048x8192 x shapeCasts_S1x2048x8192_S2048x8192 (ix2 b k) = x (ix3 0 b k) := by
  pointwise

theorem cast_wd (x : FVec Ideal S1x8192x2048 .f32) (b : Fin 8192) (k : Fin 2048) :
    shapeCast S8192x2048 x shapeCasts_S1x8192x2048_S8192x2048 (ix2 b k) = x (ix3 0 b k) := by
  pointwise

theorem V_v0 (c : Dev nD) (b : Fin 4) (k : Fin 12288) :
    (V m c main_v0 : S4x1x12288.Idx → EReal) (ix3 b 0 k) = (m ((c : Thread nD τ).loc main_arg1) : S4x12288.Idx → EReal) (ix2 b k) := by
  have e : V m c main_v0 = broadcastInDim S4x1x12288 ![0, 2] bcast_S4x12288_S4x1x12288_0_2 (m ((c : Thread nD τ).loc main_arg1)) := by
    show StableHlo.after hostOps0 _ (Proc.devRef .tc main_v0) = _
    after_results
  rw [e]
  pointwise

theorem V_v2 (c : Dev nD) (b : Fin 2048) (k : Fin 8192) :
    (V m c main_v2 : S2048x8192.Idx → EReal) (ix2 b k) = (m ((c : Thread nD τ).loc main_arg4) : S1x2048x8192.Idx → EReal) (ix3 0 b k) := by
  have e : V m c main_v2 = truncf (F := Ideal) (φ := .f32) .bf16 (shapeCast S2048x8192 (m ((c : Thread nD τ).loc main_arg4) : FVec Ideal S1x2048x8192 .f32) shapeCasts_S1x2048x8192_S2048x8192) bitsLt_bf16_f32 := by
    show StableHlo.after hostOps0 _ (Proc.devRef .tc main_v2) = _
    after_results
    rfl
  rw [e]
  exact cast_wu _ b k

theorem V_v4 (c : Dev nD) (b : Fin 8192) (k : Fin 2048) :
    (V m c main_v4 : S8192x2048.Idx → EReal) (ix2 b k) = (m ((c : Thread nD τ).loc main_arg5) : S1x8192x2048.Idx → EReal) (ix3 0 b k) := by
  have e : V m c main_v4 = truncf (F := Ideal) (φ := .f32) .bf16 (shapeCast S8192x2048 (m ((c : Thread nD τ).loc main_arg5) : FVec Ideal S1x8192x2048 .f32) shapeCasts_S1x8192x2048_S8192x2048) bitsLt_bf16_f32 := by
    show StableHlo.after hostOps0 _ (Proc.devRef .tc main_v4) = _
    after_results
    rfl
  rw [e]
  exact cast_wd _ b k

/-- The row block of `x`. -/
theorem blk_x (c : Dev nD) (t : Fin cfg0.N) (b : Fin 4) (R : Fin 2048) (r : Fin 512) (d : Fin 2048)
    (hb : b.val = t.val / 32) (hR : R.val = t.val / 8 % 4 * 512 + r.val) :
    (iblk m c 0 t : Vec Ideal S1x512x2048 .f32) (ix3 0 r d) = (m ((c : Thread nD τ).loc main_arg0) : S4x2048x2048.Idx → EReal) (ix3 b R d) := by
  obtain ⟨i0, i1, i2⟩ := ix_0 t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1 + 1 * 0 = b.val; rw [i0]; try omega
  | ⟨1, _⟩ => show win0_0.index t 1 * 512 + 1 * r.val = R.val; rw [i1]; try omega
  | ⟨2, _⟩ => show win0_0.index t 2 * 2048 + 1 * d.val = d.val; rw [i2]; try omega

/-- The shift. -/
theorem blk_sh (c : Dev nD) (t : Fin cfg0.N) (b : Fin 4) (k : Fin 12288) (d : Fin 2048)
    (hb : b.val = t.val / 32) (hk : k.val = 6144 + d.val) :
    (iblk m c 1 t : Vec Ideal S1x1x2048 .f32) (ix3 0 0 d) = (m ((c : Thread nD τ).loc main_arg1) : S4x12288.Idx → EReal) (ix2 b k) := by
  obtain ⟨i0, i1, i2⟩ := ix_1 t
  unfold iblk
  rw [View.read_apply]
  refine Eq.trans ?_ (V_v0 m c b k)
  refine congrArg (V m c main_v0) (funext fun a => Fin.ext ?_)
  match a with
  | ⟨0, _⟩ => show win0_1.index t 0 * 1 + 1 * 0 = b.val; rw [i0]; try omega
  | ⟨1, _⟩ => show win0_1.index t 1 * 1 + 1 * 0 = 0; rw [i1]; try omega
  | ⟨2, _⟩ => show win0_1.index t 2 * 2048 + 1 * d.val = k.val; rw [i2]; try omega

/-- The scale. -/
theorem blk_sc (c : Dev nD) (t : Fin cfg0.N) (b : Fin 4) (k : Fin 12288) (d : Fin 2048)
    (hb : b.val = t.val / 32) (hk : k.val = 8192 + d.val) :
    (iblk m c 2 t : Vec Ideal S1x1x2048 .f32) (ix3 0 0 d) = (m ((c : Thread nD τ).loc main_arg1) : S4x12288.Idx → EReal) (ix2 b k) := by
  obtain ⟨i0, i1, i2⟩ := ix_2 t
  unfold iblk
  rw [View.read_apply]
  refine Eq.trans ?_ (V_v0 m c b k)
  refine congrArg (V m c main_v0) (funext fun a => Fin.ext ?_)
  match a with
  | ⟨0, _⟩ => show win0_2.index t 0 * 1 + 1 * 0 = b.val; rw [i0]; try omega
  | ⟨1, _⟩ => show win0_2.index t 1 * 1 + 1 * 0 = 0; rw [i1]; try omega
  | ⟨2, _⟩ => show win0_2.index t 2 * 2048 + 1 * d.val = k.val; rw [i2]; try omega

/-- The gate. -/
theorem blk_gt (c : Dev nD) (t : Fin cfg0.N) (b : Fin 4) (k : Fin 12288) (d : Fin 2048)
    (hb : b.val = t.val / 32) (hk : k.val = 10240 + d.val) :
    (iblk m c 3 t : Vec Ideal S1x1x2048 .f32) (ix3 0 0 d) = (m ((c : Thread nD τ).loc main_arg1) : S4x12288.Idx → EReal) (ix2 b k) := by
  obtain ⟨i0, i1, i2⟩ := ix_3 t
  unfold iblk
  rw [View.read_apply]
  refine Eq.trans ?_ (V_v0 m c b k)
  refine congrArg (V m c main_v0) (funext fun a => Fin.ext ?_)
  match a with
  | ⟨0, _⟩ => show win0_3.index t 0 * 1 + 1 * 0 = b.val; rw [i0]; try omega
  | ⟨1, _⟩ => show win0_3.index t 1 * 1 + 1 * 0 = 0; rw [i1]; try omega
  | ⟨2, _⟩ => show win0_3.index t 2 * 2048 + 1 * d.val = k.val; rw [i2]; try omega

/-- A norm gain. -/
theorem blk_g1 (c : Dev nD) (t : Fin cfg0.N) (d : Fin 2048) :
    (iblk m c 4 t : Vec Ideal S1x2048 .f32) (ix2 0 d) = (m ((c : Thread nD τ).loc main_arg2) : S1x2048.Idx → EReal) (ix2 0 d) := by
  obtain ⟨i0, i1⟩ := ix_4 t
  unfold iblk
  rw [View.read_apply]
  refine Eq.trans ?_ (congrFun (V_main_arg2 m c) _)
  refine congrArg (V m c main_arg2) (funext fun a => Fin.ext ?_)
  match a with
  | ⟨0, _⟩ => show win0_4.index t 0 * 1 + 1 * 0 = 0; rw [i0]; try omega
  | ⟨1, _⟩ => show win0_4.index t 1 * 2048 + 1 * d.val = d.val; rw [i1]; try omega

/-- A norm gain. -/
theorem blk_g2 (c : Dev nD) (t : Fin cfg0.N) (d : Fin 2048) :
    (iblk m c 5 t : Vec Ideal S1x2048 .f32) (ix2 0 d) = (m ((c : Thread nD τ).loc main_arg3) : S1x2048.Idx → EReal) (ix2 0 d) := by
  obtain ⟨i0, i1⟩ := ix_5 t
  unfold iblk
  rw [View.read_apply]
  refine Eq.trans ?_ (congrFun (V_main_arg3 m c) _)
  refine congrArg (V m c main_arg3) (funext fun a => Fin.ext ?_)
  match a with
  | ⟨0, _⟩ => show win0_5.index t 0 * 1 + 1 * 0 = 0; rw [i0]; try omega
  | ⟨1, _⟩ => show win0_5.index t 1 * 2048 + 1 * d.val = d.val; rw [i1]; try omega

/-- A block of the first weight. -/
theorem blk_wu (c : Dev nD) (t : Fin cfg0.N) (d : Fin 2048) (k : Fin 1024) (K : Fin 8192)
    (hK : K.val = t.val % 8 * 1024 + k.val) :
    (iblk m c 6 t : Vec Ideal S2048x1024 .bf16) (ix2 d k) = (m ((c : Thread nD τ).loc main_arg4) : S1x2048x8192.Idx → EReal) (ix3 0 d K) := by
  obtain ⟨i0, i1⟩ := ix_6 t
  unfold iblk
  rw [View.read_apply]
  refine Eq.trans ?_ (V_v2 m c d K)
  refine congrArg (V m c main_v2) (funext fun a => Fin.ext ?_)
  match a with
  | ⟨0, _⟩ => show win0_6.index t 0 * 2048 + 1 * d.val = d.val; rw [i0]; try omega
  | ⟨1, _⟩ => show win0_6.index t 1 * 1024 + 1 * k.val = K.val; rw [i1]; try omega

/-- A block of the second weight. -/
theorem blk_wd (c : Dev nD) (t : Fin cfg0.N) (k : Fin 1024) (d : Fin 2048) (K : Fin 8192)
    (hK : K.val = t.val % 8 * 1024 + k.val) :
    (iblk m c 7 t : Vec Ideal S1024x2048 .bf16) (ix2 k d) = (m ((c : Thread nD τ).loc main_arg5) : S1x8192x2048.Idx → EReal) (ix3 0 K d) := by
  obtain ⟨i0, i1⟩ := ix_7 t
  unfold iblk
  rw [View.read_apply]
  refine Eq.trans ?_ (V_v4 m c K d)
  refine congrArg (V m c main_v4) (funext fun a => Fin.ext ?_)
  match a with
  | ⟨0, _⟩ => show win0_7.index t 0 * 1024 + 1 * k.val = K.val; rw [i0]; try omega
  | ⟨1, _⟩ => show win0_7.index t 1 * 2048 + 1 * d.val = d.val; rw [i1]; try omega

end Cert.KernelIdeal.Mlp

end
-- ==== Proof.MlpSpec.lean ====
/-
  The channel mixer as a function of the entries of its arguments, over the extended reals:
  `y = x + gt2 * rms_norm (relu (h @ wu) ^ 2 @ wd)` with `h = rms_norm x * (1 + sc2) + sh2`.
-/
module

public import Idealize.ShloMosaic.Lib.Pointwise

@[expose] public section

noncomputable section

namespace Cert.MlpSpec

open Idealize.ShloMosaic

/-- The scale a row is normed by: one over the root of its mean square, `eps` added. -/
def rms (f : Fin 2048 → EReal) : EReal :=
  Ideal.rsqrt (Ideal.div (∑ e, f e * f e) (Ideal.ofBits FTy.f32 1157627904#32) + Ideal.ofBits FTy.f32 897988541#32)

variable (x : Fin 4 → Fin 2048 → Fin 2048 → EReal) (md : Fin 4 → Fin 12288 → EReal) (g1 g2 : Fin 2048 → EReal)
  (wu : Fin 2048 → Fin 8192 → EReal) (wd : Fin 8192 → Fin 2048 → EReal)

/-- The normed and modulated row. -/
def hE (b : Fin 4) (r d : Fin 2048) : EReal :=
  x b r d * rms (x b r) * g1 d * (1 + md b ⟨8192 + d.val, by omega⟩) + md b ⟨6144 + d.val, by omega⟩

/-- The hidden unit before its square. -/
def uE (b : Fin 4) (r : Fin 2048) (k : Fin 8192) : EReal := max (∑ e, hE x md g1 b r e * wu e k) 0

/-- The second product. -/
def aE (b : Fin 4) (r d : Fin 2048) : EReal := ∑ k, uE x md g1 wu b r k * uE x md g1 wu b r k * wd k d

/-- One block of 1024 hidden units' part of the second product. -/
def tileE (b : Fin 4) (r d : Fin 2048) (j : ℕ) : EReal :=
  if hj : j < 8 then ∑ k : Fin 1024, uE x md g1 wu b r ⟨j * 1024 + k.val, by omega⟩ * uE x md g1 wu b r ⟨j * 1024 + k.val, by omega⟩ * wd ⟨j * 1024 + k.val, by omega⟩ d
  else 0

/-- The eight blocks' parts add up to the product. -/
theorem sum_tiles (b : Fin 4) (r d : Fin 2048) :
    ∑ j ∈ Finset.range 8, tileE x md g1 wu wd b r d j = aE x md g1 wu wd b r d := by
  unfold aE
  rw [Fin.sum_univ_tiles 8 1024 rfl, Finset.sum_range]
  refine Finset.sum_congr rfl fun j _ => ?_
  unfold tileE
  rw [dif_pos j.isLt]

/-- The result. -/
def yE (b : Fin 4) (r d : Fin 2048) : EReal :=
  x b r d + md b ⟨10240 + d.val, by omega⟩ * (aE x md g1 wu wd b r d * rms (aE x md g1 wu wd b r) * g2 d)

end Cert.MlpSpec

end
-- ==== Proof.MlpValue.lean ====
/-
  The channel mixer's kernel: its result array, entry by entry, is `MlpSpec.yE` of the arguments.
-/
module

public import proofs.«01_k».proof.Proof.MlpTerms
public import proofs.«01_k».proof.Proof.MlpBlocks
public import proofs.«01_k».proof.Proof.MlpSpec
public import Idealize.ShloMosaic.Lib.Pointwise

@[expose] public section

set_option maxRecDepth 16384

noncomputable section

namespace Cert.KernelIdeal.Mlp

open Idealize.ShloMosaic Idealize.ShloMosaic.TcCoe Idealize.SL.Sem
open Cert.KernelIdeal Cert.KernelIdeal.Gen

theorem pay1_apply (x : Vec Ideal S1x512x2048 .f32) (g : Vec Ideal S1x2048 .f32) (sc sh : Vec Ideal S1x1x2048 .f32) (r : Fin 512) (d : Fin 2048) :
    k0_pay1 x g sc sh (ix2 r d)
      = x (ix3 0 r d) * MlpSpec.rms (fun e => x (ix3 0 r e)) * g (ix2 0 d) * (1 + sc (ix3 0 0 d)) + sh (ix3 0 0 d) := by
  pointwise [k0_pay1]
  rfl

theorem pay2_apply (r : Fin 512) (d : Fin 2048) : (k0_pay2 (F := Ideal)) (ix2 r d) = 0 := by
  pointwise [k0_pay2]

theorem pay3_apply (h : Vec Ideal S512x2048 .bf16) (wu : Vec Ideal S2048x1024 .bf16) (acc : Vec Ideal S512x2048 .f32) (wd : Vec Ideal S1024x2048 .bf16) (r : Fin 512) (d : Fin 2048) :
    k0_pay3 h wu acc wd (ix2 r d) = acc (ix2 r d)
      + ∑ k : Fin 1024, max (∑ e, h (ix2 r e) * wu (ix2 e k)) 0 * max (∑ e, h (ix2 r e) * wu (ix2 e k)) 0 * wd (ix2 k d) := by
  pointwise [k0_pay3]

theorem pay4_apply (x : Vec Ideal S1x512x2048 .f32) (gt : Vec Ideal S1x1x2048 .f32) (acc : Vec Ideal S512x2048 .f32) (g : Vec Ideal S1x2048 .f32) (r : Fin 512) (d : Fin 2048) :
    k0_pay4 x gt acc g (ix3 0 r d)
      = x (ix3 0 r d) + gt (ix3 0 0 d) * (acc (ix2 r d) * MlpSpec.rms (fun e => acc (ix2 r e)) * g (ix2 0 d)) := by
  pointwise [k0_pay4]
  rfl

variable (m : (ℓ : Loc nD τ sig) → Buf (Elt Ideal) ℓ)

abbrev aX (c : Dev nD) (b : Fin 4) (r d : Fin 2048) : EReal := m ((c : Thread nD τ).loc main_arg0) (ix3 b r d)
abbrev aM (c : Dev nD) (b : Fin 4) (k : Fin 12288) : EReal := m ((c : Thread nD τ).loc main_arg1) (ix2 b k)
abbrev aG1 (c : Dev nD) (d : Fin 2048) : EReal := m ((c : Thread nD τ).loc main_arg2) (ix2 0 d)
abbrev aG2 (c : Dev nD) (d : Fin 2048) : EReal := m ((c : Thread nD τ).loc main_arg3) (ix2 0 d)
abbrev aWu (c : Dev nD) (d : Fin 2048) (k : Fin 8192) : EReal := m ((c : Thread nD τ).loc main_arg4) (ix3 0 d k)
abbrev aWd (c : Dev nD) (k : Fin 8192) (d : Fin 2048) : EReal := m ((c : Thread nD τ).loc main_arg5) (ix3 0 k d)

theorem hBlk_apply (c : Dev nD) (t : Fin cfg0.N) (b : Fin 4) (R : Fin 2048) (r : Fin 512) (d : Fin 2048)
    (hb : b.val = t.val / 32) (hR : R.val = t.val / 8 % 4 * 512 + r.val) :
    hBlk m c t (ix2 r d) = MlpSpec.hE (aX m c) (aM m c) (aG1 m c) b R d := by
  unfold hBlk
  rw [pay1_apply]
  unfold MlpSpec.hE
  rw [blk_x m c t b R r d hb hR, blk_g1 m c t d, blk_sc m c t b ⟨8192 + d.val, by omega⟩ d hb rfl, blk_sh m c t b ⟨6144 + d.val, by omega⟩ d hb rfl,
    show (fun e => (iblk m c 0 t : Vec Ideal S1x512x2048 .f32) (ix3 0 r e)) = aX m c b R from funext fun e => blk_x m c t b R r e hb hR]

theorem step_apply (c : Dev nD) (t : Fin cfg0.N) (b : Fin 4) (R : Fin 2048) (r : Fin 512) (d : Fin 2048)
    (h : Vec Ideal S512x2048 .bf16) (acc : Vec Ideal S512x2048 .f32)
    (hh : ∀ e, h (ix2 r e) = MlpSpec.hE (aX m c) (aM m c) (aG1 m c) b R e) :
    k0_pay3 h (iblk m c 6 t) acc (iblk m c 7 t) (ix2 r d)
      = acc (ix2 r d) + MlpSpec.tileE (aX m c) (aM m c) (aG1 m c) (aWu m c) (aWd m c) b R d (t.val % 8) := by
  have hj : t.val % 8 < 8 := Nat.mod_lt _ (by decide)
  rw [pay3_apply]
  unfold MlpSpec.tileE
  rw [dif_pos hj]
  refine congrArg (acc (ix2 r d) + ·) (Finset.sum_congr rfl fun k _ => ?_)
  rw [blk_wd m c t k d ⟨t.val % 8 * 1024 + k.val, by omega⟩ rfl]
  have hu : max (∑ e, h (ix2 r e) * (iblk m c 6 t : Vec Ideal S2048x1024 .bf16) (ix2 e k)) 0
      = MlpSpec.uE (aX m c) (aM m c) (aG1 m c) (aWu m c) b R ⟨t.val % 8 * 1024 + k.val, by omega⟩ := by
    unfold MlpSpec.uE
    refine congrArg (max · 0) (Finset.sum_congr rfl fun e _ => ?_)
    rw [hh e, blk_wu m c t e k ⟨t.val % 8 * 1024 + k.val, by omega⟩ rfl]
  rw [hu]

/-- What the two scratch buffers hold after point `n`: the rows, and the sum of the blocks so far. -/
theorem scratch_apply (c : Dev nD) : ∀ (n : ℕ) (hn : n < cfg0.N) (b : Fin 4) (R : Fin 2048) (r : Fin 512)
    (hb : b.val = n / 32) (hR : R.val = n / 8 % 4 * 512 + r.val),
    (∀ d, (outsAt0 m c n hn).2.1 (ix2 r d) = MlpSpec.hE (aX m c) (aM m c) (aG1 m c) b R d)
    ∧ ∀ d, (outsAt0 m c n hn).2.2 (ix2 r d)
        = ∑ j ∈ Finset.range (n % 8 + 1), MlpSpec.tileE (aX m c) (aM m c) (aG1 m c) (aWu m c) (aWd m c) b R d j := by
  intro n
  induction n with
  | zero =>
    intro hn b R r hb hR
    have e1 := first_h m c ⟨0, hn⟩ rfl
    have e2 := first_acc m c ⟨0, hn⟩ rfl
    dsimp only at e1 e2
    have hh : ∀ d, hBlk m c ⟨0, hn⟩ (ix2 r d) = MlpSpec.hE (aX m c) (aM m c) (aG1 m c) b R d := fun d => hBlk_apply m c ⟨0, hn⟩ b R r d hb hR
    refine ⟨fun d => by rw [e1]; exact hh d, fun d => ?_⟩
    rw [e2, step_apply m c ⟨0, hn⟩ b R r d _ _ hh, pay2_apply, zero_add]
    simp
  | succ n ih =>
    intro hn b R r hb hR
    by_cases h0 : (n + 1) % 8 = 0
    · have e1 := first_h m c ⟨n + 1, hn⟩ h0
      have e2 := first_acc m c ⟨n + 1, hn⟩ h0
      dsimp only at e1 e2
      have hh : ∀ d, hBlk m c ⟨n + 1, hn⟩ (ix2 r d) = MlpSpec.hE (aX m c) (aM m c) (aG1 m c) b R d := fun d => hBlk_apply m c ⟨n + 1, hn⟩ b R r d hb hR
      refine ⟨fun d => by rw [e1]; exact hh d, fun d => ?_⟩
      rw [e2, step_apply m c ⟨n + 1, hn⟩ b R r d _ _ hh, pay2_apply, zero_add, h0]
      simp
    · have e1 := later_h m c ⟨n + 1, hn⟩ h0
      have e2 := later_acc m c ⟨n + 1, hn⟩ h0
      simp only [Nat.add_sub_cancel] at e1 e2
      obtain ⟨i1, i2⟩ := ih (Nat.lt_of_succ_lt hn) b R r (by omega) (by omega)
      refine ⟨fun d => by rw [e1]; exact i1 d, fun d => ?_⟩
      rw [e2, step_apply m c ⟨n + 1, hn⟩ b R r d _ _ i1, i2 d]
      have e : (n + 1) % 8 = n % 8 + 1 := by omega
      dsimp only
      rw [e, Finset.sum_range_succ _ (n % 8 + 1)]

/-- The result array, entry by entry. -/
theorem G8_apply (c : Dev nD) (b : Fin 4) (R d : Fin 2048) :
    (Value.G8 m c : S4x2048x2048.Idx → EReal) (ix3 b R d)
      = MlpSpec.yE (aX m c) (aM m c) (aG1 m c) (aG2 m c) (aWu m c) (aWd m c) b R d := by
  have hN : cfg0.N = 128 := N_0
  have hp : Value.pt8Of (ix3 b R d) = 8 * (4 * b.val + R.val / 512) + 7 := by
    show 8 * (4 * (b.val / 1 - 0) + 1 * (R.val / 512 - 0) + 1 * (d.val / 2048 - 0)) + 7 = _
    omega
  have hlt : 8 * (4 * b.val + R.val / 512) + 7 < cfg0.N := by omega
  have hl : Value.loc8Of (ix3 b R d) = ix3 0 ⟨R.val % 512, Nat.mod_lt _ (by decide)⟩ d := by
    funext a
    match a with
    | ⟨0, _⟩ => apply Fin.ext; show b.val % 1 = 0; omega
    | ⟨1, _⟩ => rfl
    | ⟨2, _⟩ => apply Fin.ext; show d.val % 2048 = d.val; omega
  unfold Value.G8
  rw [dif_pos (by rw [hp]; exact hlt), hl]
  simp only [hp]
  rw [← Value.outsAt0_sweep m c _ hlt]
  have e := last_out m c ⟨8 * (4 * b.val + R.val / 512) + 7, hlt⟩ (by show (8 * (4 * b.val + R.val / 512) + 7) % 8 = 7; omega)
  dsimp only at e
  have hb : b.val = (8 * (4 * b.val + R.val / 512) + 7) / 32 := by omega
  have hR : R.val = (8 * (4 * b.val + R.val / 512) + 7) / 8 % 4 * 512 + R.val % 512 := by omega
  obtain ⟨-, s⟩ := scratch_apply m c _ hlt b R ⟨R.val % 512, Nat.mod_lt _ (by decide)⟩ hb hR
  have e8 : (8 * (4 * b.val + R.val / 512) + 7) % 8 + 1 = 8 := by omega
  rw [e8] at s
  have s' : ∀ d, (outsAt0 m c _ hlt).2.2 (ix2 ⟨R.val % 512, Nat.mod_lt _ (by decide)⟩ d) = MlpSpec.aE (aX m c) (aM m c) (aG1 m c) (aWu m c) (aWd m c) b R d :=
    fun d => (s d).trans (MlpSpec.sum_tiles _ _ _ _ _ b R d)
  rw [e, pay4_apply, s' d, show (fun e => (outsAt0 m c _ hlt).2.2 (ix2 ⟨R.val % 512, Nat.mod_lt _ (by decide)⟩ e)) = MlpSpec.aE (aX m c) (aM m c) (aG1 m c) (aWu m c) (aWd m c) b R from funext s',
    blk_x m c ⟨_, hlt⟩ b R _ d hb hR, blk_gt m c ⟨_, hlt⟩ b ⟨10240 + d.val, by omega⟩ d hb rfl, blk_g2 m c ⟨_, hlt⟩ d]
  rfl

end Cert.KernelIdeal.Mlp

end
-- ==== Proof.MlpRef.lean ====
/-
  The channel mixer's reference read at an index.
-/
module

public import proofs.«01_k».proof.Defs
public import proofs.«01_k».proof.Proof.Gen.ReferenceIdeal.Run
public import proofs.«01_k».proof.Proof.MlpSpec
public import Idealize.ShloMosaic.Lib.Pointwise
public import Idealize.ShloMosaic.Lib.Tactic.ValueTie

@[expose] public section

set_option maxRecDepth 200000

noncomputable section

namespace Cert.ReferenceIdeal.Mlp

open Idealize.ShloMosaic Idealize.ShloMosaic.TcCoe Idealize.SL.Sem
open Cert.ReferenceIdeal

variable (m : (ℓ : Loc nD τ sig) → Buf (Elt Ideal) ℓ)

theorem ref_apply (c : Dev nD) (b : Fin 4) (r : Fin 2048) (d : Fin 2048) :
    (Value.res_main_v54 m c : S4x2048x2048.Idx → EReal) (ix3 b r d)
      = MlpSpec.yE (fun b r d => m (c.tc.loc main_arg0) (ix3 b r d)) (fun b k => m (c.tc.loc main_arg1) (ix2 b k))
        (fun d => m (c.tc.loc main_arg2) (ix2 0 d)) (fun d => m (c.tc.loc main_arg3) (ix2 0 d))
        (fun d k => m (c.tc.loc main_arg4) (ix3 0 d k)) (fun k d => m (c.tc.loc main_arg5) (ix3 0 k d)) b r d := by
  unfold Value.res_main_v54
  clean_types
  pointwise
  rfl

end Cert.ReferenceIdeal.Mlp

end
-- ==== Proof.ProjSpec.lean ====
/-
  The first projection as a function of the entries of its arguments, over the extended reals: the normed and modulated
  rows times the columns of the weight that the recurrence's four operands and the two gates take.
-/
module

public import proofs.«01_k».proof.Proof.MlpSpec

@[expose] public section

noncomputable section

namespace Cert.ProjSpec

open Idealize.ShloMosaic

variable (x : Fin 4 → Fin 2048 → Fin 2048 → EReal) (md : Fin 4 → Fin 12288 → EReal) (g : Fin 2048 → EReal)
  (w : Fin 2048 → Fin 9280 → EReal)

/-- The normed and modulated row: scale at columns 2048 to 4096 of the modulation, shift at its first 2048. -/
def hE (b : Fin 4) (r d : Fin 2048) : EReal :=
  x b r d * MlpSpec.rms (x b r) * g d * (1 + md b ⟨2048 + d.val, by omega⟩) + md b ⟨d.val, by omega⟩

/-- The weight's column behind result column `j`: the 1088 columns of the latent attention are left out. -/
def colE (j : Fin 8192) : Fin 9280 := ⟨if j.val < 4096 then j.val else j.val + 1088, by split <;> omega⟩

/-- The result. -/
def yE (b : Fin 4) (r : Fin 2048) (j : Fin 8192) : EReal := ∑ e, hE x md g b r e * w e (colE j)

/-- The rows times one column of the weight. -/
def tE (b : Fin 4) (r : Fin 2048) (k : Fin 9280) : EReal := ∑ e, hE x md g b r e * w e k

/-- The result by the part of the columns it lies in: the recurrence's four operands, then the two gates. -/
def yIf (b : Fin 4) (r : Fin 2048) (j : Fin 8192) : EReal :=
  if h1 : j.val < 1024 then tE x md g w b r ⟨j.val, by omega⟩
  else if h2 : j.val - 1024 < 1024 then tE x md g w b r ⟨1024 + (j.val - 1024), by omega⟩
  else if h3 : j.val - 1024 - 1024 < 1024 then tE x md g w b r ⟨2048 + (j.val - 1024 - 1024), by omega⟩
  else if h4 : j.val - 1024 - 1024 - 1024 < 1024 then tE x md g w b r ⟨3072 + (j.val - 1024 - 1024 - 1024), by omega⟩
  else if h5 : j.val - 1024 - 1024 - 1024 - 1024 < 2048 then tE x md g w b r ⟨5184 + (j.val - 1024 - 1024 - 1024 - 1024), by omega⟩
  else tE x md g w b r ⟨7232 + (j.val - 1024 - 1024 - 1024 - 1024 - 2048), by omega⟩

theorem yIf_eq (b : Fin 4) (r : Fin 2048) (j : Fin 8192) : yIf x md g w b r j = yE x md g w b r j := by
  have e : yE x md g w b r j = tE x md g w b r (colE j) := rfl
  rw [e]
  unfold yIf colE
  split_ifs <;> first
    | (exfalso; omega)
    | (refine congrArg (tE x md g w b r) (Fin.ext ?_); dsimp only <;> omega)

end Cert.ProjSpec

end
-- ==== Proof.ProjBlocks.lean ====
/-
  The first projection's kernel: the entries of the blocks a grid point reads, as entries of the arguments, and of what
  it writes. Point `t` is batch `t / 16`, row block `(t / 4) % 4`, column block `t % 4`.
-/
module

public import proofs.«01_k».proof.Defs
public import proofs.«01_k».proof.Proof.Gen.Kernel2Ideal.Value
public import proofs.«01_k».proof.Proof.ProjSpec
public import Idealize.ShloMosaic.Lib.Pointwise
public import Idealize.ShloMosaic.Lib.Tactic

@[expose] public section

set_option maxRecDepth 200000

noncomputable section

namespace Cert.Kernel2Ideal.Proj

open Idealize.ShloMosaic Idealize.ShloMosaic.TcCoe Idealize.SL.Sem
open Cert.Kernel2Ideal Cert.Kernel2Ideal.Gen

theorem ix_1 : ∀ t : Fin cfg0.N, win0_1.index t 0 = t.val / 16 ∧ win0_1.index t 1 = 0 ∧ win0_1.index t 2 = 0 := by decide +kernel
theorem ix_2 : ∀ t : Fin cfg0.N, win0_2.index t 0 = t.val / 16 ∧ win0_2.index t 1 = 0 ∧ win0_2.index t 2 = 1 := by decide +kernel
theorem ix_0 : ∀ t : Fin cfg0.N, win0_0.index t 0 = t.val / 16 ∧ win0_0.index t 1 = t.val / 4 % 4 ∧ win0_0.index t 2 = 0 := by decide +kernel
theorem ix_3 : ∀ t : Fin cfg0.N, win0_3.index t 0 = 0 ∧ win0_3.index t 1 = 0 := by decide +kernel
theorem ix_4 : ∀ t : Fin cfg0.N, win0_4.index t 0 = (if t.val % 4 < 2 then 2048 * (t.val % 4) else 2048 * (t.val % 4) + 1088) ∧ win0_4.index t 1 = 0 := by decide +kernel
theorem pay1_apply (x : Vec Ideal S1x512x2048 .f32) (g : Vec Ideal S1x2048 .f32) (sc sh : Vec Ideal S1x1x2048 .f32) (r : Fin 512) (d : Fin 2048) :
    k0_pay1 x g sc sh (ix2 r d)
      = x (ix3 0 r d) * MlpSpec.rms (fun e => x (ix3 0 r e)) * g (ix2 0 d) * (1 + sc (ix3 0 0 d)) + sh (ix3 0 0 d) := by
  pointwise [k0_pay1]
  rfl
theorem pay2_apply (h : Vec Ideal S512x2048 .bf16) (w : Vec Ideal S2048x2048 .bf16) (r : Fin 512) (d : Fin 2048) :
    k0_pay2 h w (ix2 r d) = ∑ e, h (ix2 r e) * w (ix2 d e) := by
  pointwise [k0_pay2]

variable (m : (ℓ : Loc nD τ sig) → Buf (Elt Ideal) ℓ)

theorem cast_w (x : FVec Ideal S1x2048x9280 .f32) (b : Fin 2048) (k : Fin 9280) :
    transpose S9280x2048 [1, 0] (shapeCast S2048x9280 x shapeCasts_S1x2048x9280_S2048x9280) transposes_S2048x9280_S9280x2048_1_0 (ix2 k b) = x (ix3 0 b k) := by
  pointwise

theorem V_v0 (c : Dev nD) (b : Fin 4) (k : Fin 12288) :
    (V m c main_v0 : S4x1x12288.Idx → EReal) (ix3 b 0 k) = (m ((c : Thread nD τ).loc main_arg1) : S4x12288.Idx → EReal) (ix2 b k) := by
  have e : V m c main_v0 = broadcastInDim S4x1x12288 ![0, 2] bcast_S4x12288_S4x1x12288_0_2 (m ((c : Thread nD τ).loc main_arg1)) := by
    show StableHlo.after hostOps0 _ (Proc.devRef .tc main_v0) = _
    after_results
  rw [e]
  pointwise

theorem V_v3 (c : Dev nD) (k : Fin 9280) (b : Fin 2048) :
    (V m c main_v3 : S9280x2048.Idx → EReal) (ix2 k b) = (m ((c : Thread nD τ).loc main_arg3) : S1x2048x9280.Idx → EReal) (ix3 0 b k) := by
  have e : V m c main_v3 = truncf (F := Ideal) (φ := .f32) .bf16 (transpose S9280x2048 [1, 0] (shapeCast S2048x9280 (m ((c : Thread nD τ).loc main_arg3) : FVec Ideal S1x2048x9280 .f32) shapeCasts_S1x2048x9280_S2048x9280) transposes_S2048x9280_S9280x2048_1_0) bitsLt_bf16_f32 := by
    show StableHlo.after hostOps0 _ (Proc.devRef .tc main_v3) = _
    after_results
    rfl
  rw [e]
  exact cast_w _ b k

theorem V_x (c : Dev nD) (i : S4x2048x2048.Idx) : (V m c main_arg0 : S4x2048x2048.Idx → EReal) i = (m ((c : Thread nD τ).loc main_arg0) : S4x2048x2048.Idx → EReal) i :=
  congrFun (V_main_arg0 m c) i

theorem V_g (c : Dev nD) (i : S1x2048.Idx) : (V m c main_arg2 : S1x2048.Idx → EReal) i = (m ((c : Thread nD τ).loc main_arg2) : S1x2048.Idx → EReal) i :=
  congrFun (V_main_arg2 m c) i

/-- The row block of `x`. -/
theorem blk_x (c : Dev nD) (t : Fin cfg0.N) (b : Fin 4) (R : Fin 2048) (r : Fin 512) (d : Fin 2048)
    (hb : b.val = t.val / 16) (hR : R.val = t.val / 4 % 4 * 512 + r.val) :
    (iblk m c 0 t : Vec Ideal S1x512x2048 .f32) (ix3 0 r d) = (m ((c : Thread nD τ).loc main_arg0) : S4x2048x2048.Idx → EReal) (ix3 b R d) := by
  obtain ⟨i0, i1, i2⟩ := ix_0 t
  unfold iblk
  rw [View.read_apply]
  refine Eq.trans ?_ (V_x m c _)
  refine congrArg (V m c main_arg0) (funext fun a => Fin.ext ?_)
  match a with
  | ⟨0, _⟩ => show win0_0.index t 0 * 1 + 1 * 0 = b.val; rw [i0]; try omega
  | ⟨1, _⟩ => show win0_0.index t 1 * 512 + 1 * r.val = R.val; rw [i1]; try omega
  | ⟨2, _⟩ => show win0_0.index t 2 * 2048 + 1 * d.val = d.val; rw [i2]; try omega

/-- The shift. -/
theorem blk_sh (c : Dev nD) (t : Fin cfg0.N) (b : Fin 4) (k : Fin 12288) (d : Fin 2048)
    (hb : b.val = t.val / 16) (hk : k.val = d.val) :
    (iblk m c 1 t : Vec Ideal S1x1x2048 .f32) (ix3 0 0 d) = (m ((c : Thread nD τ).loc main_arg1) : S4x12288.Idx → EReal) (ix2 b k) := by
  obtain ⟨i0, i1, i2⟩ := ix_1 t
  unfold iblk
  rw [View.read_apply]
  refine Eq.trans ?_ (V_v0 m c b k)
  refine congrArg (V m c main_v0) (funext fun a => Fin.ext ?_)
  match a with
  | ⟨0, _⟩ => show win0_1.index t 0 * 1 + 1 * 0 = b.val; rw [i0]; try omega
  | ⟨1, _⟩ => show win0_1.index t 1 * 1 + 1 * 0 = 0; rw [i1]; try omega
  | ⟨2, _⟩ => show win0_1.index t 2 * 2048 + 1 * d.val = k.val; rw [i2]; try omega

/-- The scale. -/
theorem blk_sc (c : Dev nD) (t : Fin cfg0.N) (b : Fin 4) (k : Fin 12288) (d : Fin 2048)
    (hb : b.val = t.val / 16) (hk : k.val = 2048 + d.val) :
    (iblk m c 2 t : Vec Ideal S1x1x2048 .f32) (ix3 0 0 d) = (m ((c : Thread nD τ).loc main_arg1) : S4x12288.Idx → EReal) (ix2 b k) := by
  obtain ⟨i0, i1, i2⟩ := ix_2 t
  unfold iblk
  rw [View.read_apply]
  refine Eq.trans ?_ (V_v0 m c b k)
  refine congrArg (V m c main_v0) (funext fun a => Fin.ext ?_)
  match a with
  | ⟨0, _⟩ => show win0_2.index t 0 * 1 + 1 * 0 = b.val; rw [i0]; try omega
  | ⟨1, _⟩ => show win0_2.index t 1 * 1 + 1 * 0 = 0; rw [i1]; try omega
  | ⟨2, _⟩ => show win0_2.index t 2 * 2048 + 1 * d.val = k.val; rw [i2]; try omega

/-- The norm gain. -/
theorem blk_g (c : Dev nD) (t : Fin cfg0.N) (d : Fin 2048)
     :
    (iblk m c 3 t : Vec Ideal S1x2048 .f32) (ix2 0 d) = (m ((c : Thread nD τ).loc main_arg2) : S1x2048.Idx → EReal) (ix2 0 d) := by
  obtain ⟨i0, i1⟩ := ix_3 t
  unfold iblk
  rw [View.read_apply]
  refine Eq.trans ?_ (V_g m c _)
  refine congrArg (V m c main_arg2) (funext fun a => Fin.ext ?_)
  match a with
  | ⟨0, _⟩ => show win0_3.index t 0 * 1 + 1 * 0 = 0; rw [i0]; try omega
  | ⟨1, _⟩ => show win0_3.index t 1 * 2048 + 1 * d.val = d.val; rw [i1]; try omega

/-- A block of the weight: its columns from the first or, past the latent attention's, the last block on. -/
theorem blk_w (c : Dev nD) (t : Fin cfg0.N) (j d : Fin 2048) (k : Fin 9280)
    (hk : k.val = (if t.val % 4 < 2 then 2048 * (t.val % 4) else 2048 * (t.val % 4) + 1088) + j.val) :
    (iblk m c 4 t : Vec Ideal S2048x2048 .bf16) (ix2 j d) = (m ((c : Thread nD τ).loc main_arg3) : S1x2048x9280.Idx → EReal) (ix3 0 d k) := by
  obtain ⟨i0, i1⟩ := ix_4 t
  unfold iblk
  rw [View.read_apply]
  refine Eq.trans ?_ (V_v3 m c k d)
  refine congrArg (V m c main_v3) (funext fun a => Fin.ext ?_)
  match a with
  | ⟨0, _⟩ => show win0_4.index t 0 + 1 * j.val = k.val; rw [i0]; try omega
  | ⟨1, _⟩ => show win0_4.index t 1 + 1 * d.val = d.val; rw [i1]; try omega

end Cert.Kernel2Ideal.Proj

end
-- ==== Proof.ProjValue.lean ====
/-
  The first projection's kernel: what a point leaves in the scratch buffer and the output block, and the result array.
-/
module

public import proofs.«01_k».proof.Proof.ProjBlocks
public import Idealize.ShloMosaic.Lib.Pointwise
public import Idealize.ShloMosaic.Lib.Tactic

@[expose] public section

set_option maxRecDepth 16384

noncomputable section

namespace Cert.Kernel2Ideal.Proj

open Idealize.ShloMosaic Idealize.ShloMosaic.TcCoe Idealize.SL.Sem
open Cert.Kernel2Ideal Cert.Kernel2Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

/-- The normed and modulated rows the first point of a row block computes. -/
abbrev hBlk (m : (ℓ : Loc nD τ sig) → Buf (Elt F) ℓ) (c : Dev nD) (t : Fin cfg0.N) : Vec F S512x2048 .bf16 :=
  k0_pay1 (iblk m c 0 t) (iblk m c 3 t) (iblk m c 2 t) (iblk m c 1 t)

section
variable (m : (ℓ : Loc nD τ sig) → Buf (Elt F) ℓ)

/-- First point of a row block: the scratch for the rows. -/
theorem first_h (c : Dev nD) (t : Fin cfg0.N) (h0 : t.val % 4 = 0) :
    (outsAt0 m c t.val t.isLt).2 = hBlk m c t := by
  rw [outsAt0_A m c t h0]
  dsimp only
  unfold sout0_A_0
  rw [View.read_writes_eq_canon _ _ _ (fun _ => scover0_A_0 ..)]
  unfold kernelRun0_A
  dsimp only
  sl_unfold_words
  rw [View.canon_unit_zero hz2]
  simp only [View.readAt_eq_ld, (hs0_0 t).read_unread, (hs0_1 t).read_unread, (hs0_2 t).read_unread, (hs0_3 t).read_unread,
    View.ld_unit_zero (S := S1x512x2048) hz3, View.ld_unit_zero (S := S1x1x2048) hz3, View.ld_unit_zero (S := S1x2048) hz2]

/-- Any later point keeps the rows. -/
theorem later_h (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]; rfl

/-- Every point writes the product of the rows it holds. -/
theorem out_eq (c : Dev nD) (t : Fin cfg0.N) :
    (outsAt0 m c t.val t.isLt).1 = k0_pay2 (outsAt0 m c t.val t.isLt).2 (iblk m c 4 t) := by
  by_cases h0 : t.val % 4 = 0
  · rw [first_h m c t h0, outsAt0_A m c t h0]
    dsimp only
    unfold out0_A_5
    rw [View.read_writes_eq_canon _ _ _ (fun _ => cover0_A_5 ..)]
    unfold kernelRun0_A
    dsimp only
    sl_unfold_words
    rw [View.canon_unit_zero hz2, View.readCov_unit_zero (S := S512x2048) _ hz2]
    simp only [View.readAt_eq_ld, (hs0_0 t).read_unread, (hs0_1 t).read_unread, (hs0_2 t).read_unread, (hs0_3 t).read_unread, (hs0_4 t).read_unread,
      View.ld_unit_zero (S := S1x512x2048) hz3, View.ld_unit_zero (S := S1x1x2048) hz3, View.ld_unit_zero (S := S1x2048) hz2, View.ld_unit_zero (S := S2048x2048) hz2]
  · rw [later_h m c t h0, outsAt0_B m c t h0]
    dsimp only
    unfold out0_B_5
    rw [View.read_writes_eq_canon _ _ _ (fun _ => cover0_B_5 ..)]
    unfold kernelRun0_B
    dsimp only
    sl_unfold_words
    rw [View.canon_unit_zero hz2]
    simp only [View.readAt_eq_ld, (Memref.isWhole_whole _).read_unread, (hs0_4 t).read_unread, View.ld_unit_zero (S := S512x2048) hz2, View.ld_unit_zero (S := S2048x2048) hz2]

end

variable (m : (ℓ : Loc nD τ sig) → Buf (Elt Ideal) ℓ)

abbrev aX (c : Dev nD) (b : Fin 4) (r d : Fin 2048) : EReal := m ((c : Thread nD τ).loc main_arg0) (ix3 b r d)
abbrev aM (c : Dev nD) (b : Fin 4) (k : Fin 12288) : EReal := m ((c : Thread nD τ).loc main_arg1) (ix2 b k)
abbrev aG (c : Dev nD) (d : Fin 2048) : EReal := m ((c : Thread nD τ).loc main_arg2) (ix2 0 d)
abbrev aW (c : Dev nD) (d : Fin 2048) (k : Fin 9280) : EReal := m ((c : Thread nD τ).loc main_arg3) (ix3 0 d k)

theorem hBlk_apply (c : Dev nD) (t : Fin cfg0.N) (b : Fin 4) (R : Fin 2048) (r : Fin 512) (d : Fin 2048)
    (hb : b.val = t.val / 16) (hR : R.val = t.val / 4 % 4 * 512 + r.val) :
    hBlk m c t (ix2 r d) = ProjSpec.hE (aX m c) (aM m c) (aG m c) b R d := by
  unfold hBlk
  rw [pay1_apply]
  unfold ProjSpec.hE
  rw [blk_x m c t b R r d hb hR, blk_g m c t d, blk_sc m c t b ⟨2048 + d.val, by omega⟩ d hb rfl, blk_sh m c t b ⟨d.val, by omega⟩ d hb rfl,
    show (fun e => (iblk m c 0 t : Vec Ideal S1x512x2048 .f32) (ix3 0 r e)) = aX m c b R from funext fun e => blk_x m c t b R r e hb hR]

/-- What the scratch holds after point `n`. -/
theorem scratch_apply (c : Dev nD) : ∀ (n : ℕ) (hn : n < cfg0.N) (b : Fin 4) (R : Fin 2048) (r : Fin 512)
    (hb : b.val = n / 16) (hR : R.val = n / 4 % 4 * 512 + r.val) (d : Fin 2048),
    (outsAt0 m c n hn).2 (ix2 r d) = ProjSpec.hE (aX m c) (aM m c) (aG m c) b R d := by
  intro n
  induction n with
  | zero =>
    intro hn b R r hb hR d
    have e1 := first_h m c ⟨0, hn⟩ rfl
    dsimp only at e1
    rw [e1]
    exact hBlk_apply m c ⟨0, hn⟩ b R r d hb hR
  | succ n ih =>
    intro hn b R r hb hR d
    by_cases h0 : (n + 1) % 4 = 0
    · have e1 := first_h m c ⟨n + 1, hn⟩ h0
      dsimp only at e1
      rw [e1]
      exact hBlk_apply m c ⟨n + 1, hn⟩ b R r d hb hR
    · have e1 := later_h m c ⟨n + 1, hn⟩ h0
      simp only [Nat.add_sub_cancel] at e1
      rw [e1]
      exact ih (Nat.lt_of_succ_lt hn) b R r (by omega) (by omega) d

/-- The result array, entry by entry. -/
theorem G5_apply (c : Dev nD) (i j : Fin 8192) :
    (Value.G5 m c : S8192x8192.Idx → EReal) (ix2 i j)
      = ProjSpec.yE (aX m c) (aM m c) (aG m c) (aW m c) ⟨i.val / 2048, by omega⟩ ⟨i.val % 2048, by omega⟩ j := by
  have hN : cfg0.N = 64 := N_0
  have hp : Value.pt5Of (ix2 i j) = 4 * (i.val / 512) + j.val / 2048 := by
    show 4 * (i.val / 512 - 0) + 1 * (j.val / 2048 - 0) = _
    omega
  have hlt : 4 * (i.val / 512) + j.val / 2048 < cfg0.N := by omega
  have hl : Value.loc5Of (ix2 i j) = ix2 ⟨i.val % 512, Nat.mod_lt _ (by decide)⟩ ⟨j.val % 2048, Nat.mod_lt _ (by decide)⟩ := by
    funext a
    match a with
    | ⟨0, _⟩ => rfl
    | ⟨1, _⟩ => rfl
  unfold Value.G5
  rw [dif_pos (by rw [hp]; exact hlt), hl]
  simp only [hp]
  rw [← Value.outsAt0_sweep m c _ hlt]
  have e := out_eq m c ⟨4 * (i.val / 512) + j.val / 2048, hlt⟩
  dsimp only at e
  rw [e]
  refine (pay2_apply _ _ _ _).trans (Finset.sum_congr rfl fun d _ => ?_)
  rw [scratch_apply m c _ hlt ⟨i.val / 2048, by omega⟩ ⟨i.val % 2048, by omega⟩ _ (by dsimp only; omega) (by dsimp only; omega) d,
    blk_w m c ⟨_, hlt⟩ _ d (ProjSpec.colE j) (by show (if j.val < 4096 then j.val else j.val + 1088) = _; dsimp only; split <;> split <;> omega)]

end Cert.Kernel2Ideal.Proj

end
-- ==== Proof.ProjRef.lean ====
/-
  The first projection's reference read at an index.
-/
module

public import proofs.«01_k».proof.Defs
public import proofs.«01_k».proof.Proof.Gen.Reference2Ideal.Run
public import proofs.«01_k».proof.Proof.ProjSpec
public import Idealize.ShloMosaic.Lib.Pointwise
public import Idealize.ShloMosaic.Lib.Tactic.ValueTie

@[expose] public section

set_option maxRecDepth 200000
set_option maxHeartbeats 1000000

noncomputable section

namespace Cert.Reference2Ideal.Proj

open Idealize.ShloMosaic Idealize.ShloMosaic.TcCoe Idealize.SL.Sem
open Cert.Reference2Ideal

variable (m : (ℓ : Loc nD τ sig) → Buf (Elt Ideal) ℓ)

theorem ref_apply (c : Dev nD) (i : Fin 8192) (j : Fin 8192) :
    (Value.res_main_v44 m c : S8192x8192.Idx → EReal) (ix2 i j)
      = ProjSpec.yE (fun b r d => m (c.tc.loc main_arg0) (ix3 b r d)) (fun b k => m (c.tc.loc main_arg1) (ix2 b k))
        (fun d => m (c.tc.loc main_arg2) (ix2 0 d)) (fun d k => m (c.tc.loc main_arg3) (ix3 0 d k)) ⟨i.val / 2048, by omega⟩ ⟨i.val % 2048, by omega⟩ j := by
  refine Eq.trans ?_ (ProjSpec.yIf_eq _ _ _ _ _ _ _)
  unfold Value.res_main_v44
  clean_types
  pointwise
  rfl

end Cert.Reference2Ideal.Proj

end
-- ==== Proof.MixSpec.lean ====
/-
  The mixer's result as a function of the entries of its arguments, over the extended reals:
  `y = x + gt1 * rms_norm ((sigmoid gate_a * (o_a @ wa) + sigmoid gate_b * (o_b @ wb)) @ wo)`.
-/
module

public import proofs.«01_k».proof.Proof.MlpSpec

@[expose] public section

noncomputable section

namespace Cert.MixSpec

open Idealize.ShloMosaic

/-- The gate's sigmoid. -/
def sgE (v : EReal) : EReal := Ideal.div 1 (1 + Ideal.exp (-v))

variable (oa ob : Fin 8192 → Fin 1024 → EReal) (p : Fin 8192 → Fin 8192 → EReal) (x : Fin 4 → Fin 2048 → Fin 2048 → EReal)
  (md : Fin 4 → Fin 12288 → EReal) (g : Fin 2048 → EReal) (wa wb : Fin 1024 → Fin 2048 → EReal) (wo : Fin 2048 → Fin 2048 → EReal)

/-- The two branches merged, each through its gate. -/
def mE (i : Fin 8192) (e : Fin 2048) : EReal :=
  sgE (p i ⟨4096 + e.val, by omega⟩) * (∑ k, oa i k * wa k e)
    + sgE (p i ⟨6144 + e.val, by omega⟩) * (∑ k, ob i k * wb k e)

/-- The merged row times the output weight. -/
def zE (i : Fin 8192) (d : Fin 2048) : EReal := ∑ e, mE oa ob p wa wb i e * wo e d

/-- The result. -/
def yE (b : Fin 4) (r d : Fin 2048) : EReal :=
  x b r d + md b ⟨4096 + d.val, by omega⟩ * (zE oa ob p wa wb wo ⟨b.val * 2048 + r.val, by omega⟩ d
    * MlpSpec.rms (zE oa ob p wa wb wo ⟨b.val * 2048 + r.val, by omega⟩) * g d)

end Cert.MixSpec

end
-- ==== Proof.MixValue.lean ====
/-
  The mixer's kernel: the entries of the blocks a grid point reads, as entries of the arguments, and the result array.
  Point `t` is batch `t / 8`, row block `t % 8`.
-/
module

public import proofs.«01_k».proof.Defs
public import proofs.«01_k».proof.Proof.Gen.Kernel3Ideal.Value
public import proofs.«01_k».proof.Proof.MixSpec
public import Idealize.ShloMosaic.Lib.Pointwise
public import Idealize.ShloMosaic.Lib.Tactic

@[expose] public section

set_option maxRecDepth 200000

noncomputable section

namespace Cert.Kernel3Ideal.Mix

open Idealize.ShloMosaic Idealize.ShloMosaic.TcCoe Idealize.SL.Sem
open Cert.Kernel3Ideal Cert.Kernel3Ideal.Gen

theorem ix_0 : ∀ t : Fin cfg0.N, win0_0.index t 0 = t.val ∧ win0_0.index t 1 = 0 := by decide +kernel
theorem ix_1 : ∀ t : Fin cfg0.N, win0_1.index t 0 = t.val ∧ win0_1.index t 1 = 0 := by decide +kernel
theorem ix_2 : ∀ t : Fin cfg0.N, win0_2.index t 0 = t.val ∧ win0_2.index t 1 = 2 := by decide +kernel
theorem ix_3 : ∀ t : Fin cfg0.N, win0_3.index t 0 = t.val ∧ win0_3.index t 1 = 3 := by decide +kernel
theorem ix_4 : ∀ t : Fin cfg0.N, win0_4.index t 0 = t.val / 8 ∧ win0_4.index t 1 = t.val % 8 ∧ win0_4.index t 2 = 0 := by decide +kernel
theorem ix_5 : ∀ t : Fin cfg0.N, win0_5.index t 0 = t.val / 8 ∧ win0_5.index t 1 = 0 ∧ win0_5.index t 2 = 2 := by decide +kernel
theorem ix_6 : ∀ t : Fin cfg0.N, win0_6.index t 0 = 0 ∧ win0_6.index t 1 = 0 := by decide +kernel
theorem ix_7 : ∀ t : Fin cfg0.N, win0_7.index t 0 = 0 ∧ win0_7.index t 1 = 0 := by decide +kernel
theorem ix_8 : ∀ t : Fin cfg0.N, win0_8.index t 0 = 0 ∧ win0_8.index t 1 = 0 := by decide +kernel
theorem ix_9 : ∀ t : Fin cfg0.N, win0_9.index t 0 = 0 ∧ win0_9.index t 1 = 0 := by decide +kernel
theorem ix_10 : ∀ t : Fin cfg0.N, win0_10.index t 0 = t.val / 8 ∧ win0_10.index t 1 = t.val % 8 ∧ win0_10.index t 2 = 0 := by decide +kernel
theorem fl_10 : ∀ t : Fin cfg0.N, (cfg0.win 10).flush t = true := by decide +kernel

theorem hz2 : (![0, 0] : Fin 2 → Nat) = fun _ => 0 := funext fun a => by fin_cases a <;> rfl
theorem hz3 : (![0, 0, 0] : Fin 3 → Nat) = fun _ => 0 := funext fun a => by fin_cases a <;> rfl

theorem pay2_apply (oa ob : Vec Ideal S256x1024 .bf16) (wa wb : Vec Ideal S1024x2048 .bf16) (ga gb : Vec Ideal S256x2048 .f32) (wo : Vec Ideal S2048x2048 .bf16) (r : Fin 256) (d : Fin 2048) :
    k0_pay2 oa wa ob wb ga gb wo (ix2 r d) = ∑ e, (MixSpec.sgE (ga (ix2 r e)) * (∑ k, oa (ix2 r k) * wa (ix2 k e)) + MixSpec.sgE (gb (ix2 r e)) * (∑ k, ob (ix2 r k) * wb (ix2 k e))) * wo (ix2 e d) := by
  pointwise [k0_pay2]
  rfl

theorem pay4_apply (oa ob : Vec Ideal S256x1024 .bf16) (wa wb : Vec Ideal S1024x2048 .bf16) (ga gb : Vec Ideal S256x2048 .f32) (wo : Vec Ideal S2048x2048 .bf16) (r : Fin 256) :
    k0_pay4 oa wa ob wb ga gb wo (ix2 r 0) = Ideal.div (∑ e, k0_pay2 oa wa ob wb ga gb wo (ix2 r e) * k0_pay2 oa wa ob wb ga gb wo (ix2 r e)) (Ideal.ofBits FTy.f32 1157627904#32) + Ideal.ofBits FTy.f32 897988541#32 := by
  unfold k0_pay4
  generalize k0_pay2 oa wa ob wb ga gb wo = z
  pointwise

theorem pay1_apply (z : FVec Ideal S256x2048 .f32) (x : Vec Ideal S1x256x2048 .f32) (gt : FVec Ideal S1x1x2048 .f32) (g : Vec Ideal S1x2048 .f32) (s : FVec Ideal S256x1 .f32) (r : Fin 256) (d : Fin 2048) :
    k0_pay1 z x (k0_pay3 gt) g s (ix3 0 r d) = x (ix3 0 r d) + gt (ix3 0 0 d) * (z (ix2 r d) * Ideal.rsqrt (s (ix2 r 0)) * g (ix2 0 d)) := by
  pointwise [k0_pay1, k0_pay3]

variable (m : (ℓ : Loc nD τ sig) → Buf (Elt Ideal) ℓ)

theorem cast_w (x : FVec Ideal S1x1024x2048 .f32) (b : Fin 1024) (k : Fin 2048) :
    shapeCast S1024x2048 x shapeCasts_S1x1024x2048_S1024x2048 (ix2 b k) = x (ix3 0 b k) := by
  pointwise

theorem cast_wo (x : FVec Ideal S1x2048x2048 .f32) (b : Fin 2048) (k : Fin 2048) :
    shapeCast S2048x2048 x shapeCasts_S1x2048x2048_S2048x2048 (ix2 b k) = x (ix3 0 b k) := by
  pointwise

theorem V_v0 (c : Dev nD) (b : Fin 4) (k : Fin 12288) :
    (V m c main_v0 : S4x1x12288.Idx → EReal) (ix3 b 0 k) = (m ((c : Thread nD τ).loc main_arg4) : S4x12288.Idx → EReal) (ix2 b k) := by
  have e : V m c main_v0 = broadcastInDim S4x1x12288 ![0, 2] bcast_S4x12288_S4x1x12288_0_2 (m ((c : Thread nD τ).loc main_arg4)) := by
    show StableHlo.after hostOps0 _ (Proc.devRef .tc main_v0) = _
    after_results
  rw [e]
  pointwise

theorem V_v2 (c : Dev nD) (b : Fin 1024) (k : Fin 2048) :
    (V m c main_v2 : S1024x2048.Idx → EReal) (ix2 b k) = (m ((c : Thread nD τ).loc main_arg6) : S1x1024x2048.Idx → EReal) (ix3 0 b k) := by
  have e : V m c main_v2 = truncf (F := Ideal) (φ := .f32) .bf16 (shapeCast S1024x2048 (m ((c : Thread nD τ).loc main_arg6) : FVec Ideal S1x1024x2048 .f32) shapeCasts_S1x1024x2048_S1024x2048) bitsLt_bf16_f32 := by
    show StableHlo.after hostOps0 _ (Proc.devRef .tc main_v2) = _
    after_results
    rfl
  rw [e]
  exact cast_w _ b k

theorem V_v4 (c : Dev nD) (b : Fin 1024) (k : Fin 2048) :
    (V m c main_v4 : S1024x2048.Idx → EReal) (ix2 b k) = (m ((c : Thread nD τ).loc main_arg7) : S1x1024x2048.Idx → EReal) (ix3 0 b k) := by
  have e : V m c main_v4 = truncf (F := Ideal) (φ := .f32) .bf16 (shapeCast S1024x2048 (m ((c : Thread nD τ).loc main_arg7) : FVec Ideal S1x1024x2048 .f32) shapeCasts_S1x1024x2048_S1024x2048) bitsLt_bf16_f32 := by
    show StableHlo.after hostOps0 _ (Proc.devRef .tc main_v4) = _
    after_results
    rfl
  rw [e]
  exact cast_w _ b k

theorem V_v6 (c : Dev nD) (b : Fin 2048) (k : Fin 2048) :
    (V m c main_v6 : S2048x2048.Idx → EReal) (ix2 b k) = (m ((c : Thread nD τ).loc main_arg8) : S1x2048x2048.Idx → EReal) (ix3 0 b k) := by
  have e : V m c main_v6 = truncf (F := Ideal) (φ := .f32) .bf16 (shapeCast S2048x2048 (m ((c : Thread nD τ).loc main_arg8) : FVec Ideal S1x2048x2048 .f32) shapeCasts_S1x2048x2048_S2048x2048) bitsLt_bf16_f32 := by
    show StableHlo.after hostOps0 _ (Proc.devRef .tc main_v6) = _
    after_results
    rfl
  rw [e]
  exact cast_wo _ b k

theorem V_oa (c : Dev nD) (i : S8192x1024.Idx) : (V m c main_arg0 : S8192x1024.Idx → EReal) i = (m ((c : Thread nD τ).loc main_arg0) : S8192x1024.Idx → EReal) i :=
  congrFun (V_main_arg0 m c) i

theorem V_ob (c : Dev nD) (i : S8192x1024.Idx) : (V m c main_arg1 : S8192x1024.Idx → EReal) i = (m ((c : Thread nD τ).loc main_arg1) : S8192x1024.Idx → EReal) i :=
  congrFun (V_main_arg1 m c) i

theorem V_p (c : Dev nD) (i : S8192x8192.Idx) : (V m c main_arg2 : S8192x8192.Idx → EReal) i = (m ((c : Thread nD τ).loc main_arg2) : S8192x8192.Idx → EReal) i :=
  congrFun (V_main_arg2 m c) i

theorem V_x (c : Dev nD) (i : S4x2048x2048.Idx) : (V m c main_arg3 : S4x2048x2048.Idx → EReal) i = (m ((c : Thread nD τ).loc main_arg3) : S4x2048x2048.Idx → EReal) i :=
  congrFun (V_main_arg3 m c) i

theorem V_g (c : Dev nD) (i : S1x2048.Idx) : (V m c main_arg5 : S1x2048.Idx → EReal) i = (m ((c : Thread nD τ).loc main_arg5) : S1x2048.Idx → EReal) i :=
  congrFun (V_main_arg5 m c) i

/-- A row block of the first branch. -/
theorem blk_oa (c : Dev nD) (t : Fin cfg0.N) (R : Fin 8192) (r : Fin 256) (k : Fin 1024)
    (hR : R.val = t.val * 256 + r.val) :
    (iblk m c 0 t : Vec Ideal S256x1024 .bf16) (ix2 r k) = (m ((c : Thread nD τ).loc main_arg0) : S8192x1024.Idx → EReal) (ix2 R k) := by
  obtain ⟨i0, i1⟩ := ix_0 t
  unfold iblk
  rw [View.read_apply]
  refine Eq.trans ?_ (V_oa m c _)
  refine congrArg (V m c main_arg0) (funext fun a => Fin.ext ?_)
  match a with
  | ⟨0, _⟩ => show win0_0.index t 0 * 256 + 1 * r.val = R.val; rw [i0]; try omega
  | ⟨1, _⟩ => show win0_0.index t 1 * 1024 + 1 * k.val = k.val; rw [i1]; try omega

/-- A row block of the second branch. -/
theorem blk_ob (c : Dev nD) (t : Fin cfg0.N) (R : Fin 8192) (r : Fin 256) (k : Fin 1024)
    (hR : R.val = t.val * 256 + r.val) :
    (iblk m c 1 t : Vec Ideal S256x1024 .bf16) (ix2 r k) = (m ((c : Thread nD τ).loc main_arg1) : S8192x1024.Idx → EReal) (ix2 R k) := by
  obtain ⟨i0, i1⟩ := ix_1 t
  unfold iblk
  rw [View.read_apply]
  refine Eq.trans ?_ (V_ob m c _)
  refine congrArg (V m c main_arg1) (funext fun a => Fin.ext ?_)
  match a with
  | ⟨0, _⟩ => show win0_1.index t 0 * 256 + 1 * r.val = R.val; rw [i0]; try omega
  | ⟨1, _⟩ => show win0_1.index t 1 * 1024 + 1 * k.val = k.val; rw [i1]; try omega

/-- The first gate. -/
theorem blk_ga (c : Dev nD) (t : Fin cfg0.N) (R : Fin 8192) (r : Fin 256) (d : Fin 2048) (k : Fin 8192)
    (hR : R.val = t.val * 256 + r.val) (hk : k.val = 4096 + d.val) :
    (iblk m c 2 t : Vec Ideal S256x2048 .f32) (ix2 r d) = (m ((c : Thread nD τ).loc main_arg2) : S8192x8192.Idx → EReal) (ix2 R k) := by
  obtain ⟨i0, i1⟩ := ix_2 t
  unfold iblk
  rw [View.read_apply]
  refine Eq.trans ?_ (V_p m c _)
  refine congrArg (V m c main_arg2) (funext fun a => Fin.ext ?_)
  match a with
  | ⟨0, _⟩ => show win0_2.index t 0 * 256 + 1 * r.val = R.val; rw [i0]; try omega
  | ⟨1, _⟩ => show win0_2.index t 1 * 2048 + 1 * d.val = k.val; rw [i1]; try omega

/-- The second gate. -/
theorem blk_gb (c : Dev nD) (t : Fin cfg0.N) (R : Fin 8192) (r : Fin 256) (d : Fin 2048) (k : Fin 8192)
    (hR : R.val = t.val * 256 + r.val) (hk : k.val = 6144 + d.val) :
    (iblk m c 3 t : Vec Ideal S256x2048 .f32) (ix2 r d) = (m ((c : Thread nD τ).loc main_arg2) : S8192x8192.Idx → EReal) (ix2 R k) := by
  obtain ⟨i0, i1⟩ := ix_3 t
  unfold iblk
  rw [View.read_apply]
  refine Eq.trans ?_ (V_p m c _)
  refine congrArg (V m c main_arg2) (funext fun a => Fin.ext ?_)
  match a with
  | ⟨0, _⟩ => show win0_3.index t 0 * 256 + 1 * r.val = R.val; rw [i0]; try omega
  | ⟨1, _⟩ => show win0_3.index t 1 * 2048 + 1 * d.val = k.val; rw [i1]; try omega

/-- The row block of `x`. -/
theorem blk_x (c : Dev nD) (t : Fin cfg0.N) (b : Fin 4) (R : Fin 2048) (r : Fin 256) (d : Fin 2048)
    (hb : b.val = t.val / 8) (hR : R.val = t.val % 8 * 256 + r.val) :
    (iblk m c 4 t : Vec Ideal S1x256x2048 .f32) (ix3 0 r d) = (m ((c : Thread nD τ).loc main_arg3) : S4x2048x2048.Idx → EReal) (ix3 b R d) := by
  obtain ⟨i0, i1, i2⟩ := ix_4 t
  unfold iblk
  rw [View.read_apply]
  refine Eq.trans ?_ (V_x m c _)
  refine congrArg (V m c main_arg3) (funext fun a => Fin.ext ?_)
  match a with
  | ⟨0, _⟩ => show win0_4.index t 0 * 1 + 1 * 0 = b.val; rw [i0]; try omega
  | ⟨1, _⟩ => show win0_4.index t 1 * 256 + 1 * r.val = R.val; rw [i1]; try omega
  | ⟨2, _⟩ => show win0_4.index t 2 * 2048 + 1 * d.val = d.val; rw [i2]; try omega

/-- The gate of the residual. -/
theorem blk_gt (c : Dev nD) (t : Fin cfg0.N) (b : Fin 4) (k : Fin 12288) (d : Fin 2048)
    (hb : b.val = t.val / 8) (hk : k.val = 4096 + d.val) :
    (iblk m c 5 t : Vec Ideal S1x1x2048 .f32) (ix3 0 0 d) = (m ((c : Thread nD τ).loc main_arg4) : S4x12288.Idx → EReal) (ix2 b k) := by
  obtain ⟨i0, i1, i2⟩ := ix_5 t
  unfold iblk
  rw [View.read_apply]
  refine Eq.trans ?_ (V_v0 m c b k)
  refine congrArg (V m c main_v0) (funext fun a => Fin.ext ?_)
  match a with
  | ⟨0, _⟩ => show win0_5.index t 0 * 1 + 1 * 0 = b.val; rw [i0]; try omega
  | ⟨1, _⟩ => show win0_5.index t 1 * 1 + 1 * 0 = 0; rw [i1]; try omega
  | ⟨2, _⟩ => show win0_5.index t 2 * 2048 + 1 * d.val = k.val; rw [i2]; try omega

/-- The norm gain. -/
theorem blk_g (c : Dev nD) (t : Fin cfg0.N) (d : Fin 2048)
     :
    (iblk m c 6 t : Vec Ideal S1x2048 .f32) (ix2 0 d) = (m ((c : Thread nD τ).loc main_arg5) : S1x2048.Idx → EReal) (ix2 0 d) := by
  obtain ⟨i0, i1⟩ := ix_6 t
  unfold iblk
  rw [View.read_apply]
  refine Eq.trans ?_ (V_g m c _)
  refine congrArg (V m c main_arg5) (funext fun a => Fin.ext ?_)
  match a with
  | ⟨0, _⟩ => show win0_6.index t 0 * 1 + 1 * 0 = 0; rw [i0]; try omega
  | ⟨1, _⟩ => show win0_6.index t 1 * 2048 + 1 * d.val = d.val; rw [i1]; try omega

/-- The first branch's weight. -/
theorem blk_wa (c : Dev nD) (t : Fin cfg0.N) (k : Fin 1024) (d : Fin 2048)
     :
    (iblk m c 7 t : Vec Ideal S1024x2048 .bf16) (ix2 k d) = (m ((c : Thread nD τ).loc main_arg6) : S1x1024x2048.Idx → EReal) (ix3 0 k d) := by
  obtain ⟨i0, i1⟩ := ix_7 t
  unfold iblk
  rw [View.read_apply]
  refine Eq.trans ?_ (V_v2 m c k d)
  refine congrArg (V m c main_v2) (funext fun a => Fin.ext ?_)
  match a with
  | ⟨0, _⟩ => show win0_7.index t 0 * 1024 + 1 * k.val = k.val; rw [i0]; try omega
  | ⟨1, _⟩ => show win0_7.index t 1 * 2048 + 1 * d.val = d.val; rw [i1]; try omega

/-- The second branch's weight. -/
theorem blk_wb (c : Dev nD) (t : Fin cfg0.N) (k : Fin 1024) (d : Fin 2048)
     :
    (iblk m c 8 t : Vec Ideal S1024x2048 .bf16) (ix2 k d) = (m ((c : Thread nD τ).loc main_arg7) : S1x1024x2048.Idx → EReal) (ix3 0 k d) := by
  obtain ⟨i0, i1⟩ := ix_8 t
  unfold iblk
  rw [View.read_apply]
  refine Eq.trans ?_ (V_v4 m c k d)
  refine congrArg (V m c main_v4) (funext fun a => Fin.ext ?_)
  match a with
  | ⟨0, _⟩ => show win0_8.index t 0 * 1024 + 1 * k.val = k.val; rw [i0]; try omega
  | ⟨1, _⟩ => show win0_8.index t 1 * 2048 + 1 * d.val = d.val; rw [i1]; try omega

/-- The output weight. -/
theorem blk_wo (c : Dev nD) (t : Fin cfg0.N) (k : Fin 2048) (d : Fin 2048)
     :
    (iblk m c 9 t : Vec Ideal S2048x2048 .bf16) (ix2 k d) = (m ((c : Thread nD τ).loc main_arg8) : S1x2048x2048.Idx → EReal) (ix3 0 k d) := by
  obtain ⟨i0, i1⟩ := ix_9 t
  unfold iblk
  rw [View.read_apply]
  refine Eq.trans ?_ (V_v6 m c k d)
  refine congrArg (V m c main_v6) (funext fun a => Fin.ext ?_)
  match a with
  | ⟨0, _⟩ => show win0_9.index t 0 * 2048 + 1 * k.val = k.val; rw [i0]; try omega
  | ⟨1, _⟩ => show win0_9.index t 1 * 2048 + 1 * d.val = d.val; rw [i1]; try omega

abbrev aOa (c : Dev nD) (i : Fin 8192) (k : Fin 1024) : EReal := m ((c : Thread nD τ).loc main_arg0) (ix2 i k)
abbrev aOb (c : Dev nD) (i : Fin 8192) (k : Fin 1024) : EReal := m ((c : Thread nD τ).loc main_arg1) (ix2 i k)
abbrev aP (c : Dev nD) (i k : Fin 8192) : EReal := m ((c : Thread nD τ).loc main_arg2) (ix2 i k)
abbrev aX (c : Dev nD) (b : Fin 4) (r d : Fin 2048) : EReal := m ((c : Thread nD τ).loc main_arg3) (ix3 b r d)
abbrev aM (c : Dev nD) (b : Fin 4) (k : Fin 12288) : EReal := m ((c : Thread nD τ).loc main_arg4) (ix2 b k)
abbrev aG (c : Dev nD) (d : Fin 2048) : EReal := m ((c : Thread nD τ).loc main_arg5) (ix2 0 d)
abbrev aWa (c : Dev nD) (k : Fin 1024) (d : Fin 2048) : EReal := m ((c : Thread nD τ).loc main_arg6) (ix3 0 k d)
abbrev aWb (c : Dev nD) (k : Fin 1024) (d : Fin 2048) : EReal := m ((c : Thread nD τ).loc main_arg7) (ix3 0 k d)
abbrev aWo (c : Dev nD) (k d : Fin 2048) : EReal := m ((c : Thread nD τ).loc main_arg8) (ix3 0 k d)

/-- The merged row times the output weight, as the point's blocks give it. -/
theorem z_apply (c : Dev nD) (t : Fin cfg0.N) (R : Fin 8192) (r : Fin 256) (d : Fin 2048) (hR : R.val = t.val * 256 + r.val) :
    k0_pay2 (iblk m c 0 t) (iblk m c 7 t) (iblk m c 1 t) (iblk m c 8 t) (iblk m c 2 t) (iblk m c 3 t) (iblk m c 9 t) (ix2 r d)
      = MixSpec.zE (aOa m c) (aOb m c) (aP m c) (aWa m c) (aWb m c) (aWo m c) R d := by
  rw [pay2_apply]
  unfold MixSpec.zE MixSpec.mE
  refine Finset.sum_congr rfl fun e _ => ?_
  rw [blk_ga m c t R r e ⟨4096 + e.val, by omega⟩ hR rfl, blk_gb m c t R r e ⟨6144 + e.val, by omega⟩ hR rfl, blk_wo m c t e d]
  refine congrArg₂ (· * ·) (congrArg₂ (· + ·) (congrArg₂ (· * ·) rfl (Finset.sum_congr rfl fun k _ => ?_)) (congrArg₂ (· * ·) rfl (Finset.sum_congr rfl fun k _ => ?_))) rfl
  · rw [blk_oa m c t R r k hR, blk_wa m c t k e]
  · rw [blk_ob m c t R r k hR, blk_wb m c t k e]

/-- The result array, entry by entry. -/
theorem final_apply (c : Dev nD) (b : Fin 4) (R d : Fin 2048) :
    ((dats m 0 c).arrAt 10 cfg0.N : S4x2048x2048.Idx → EReal) (ix3 b R d)
      = MixSpec.yE (aOa m c) (aOb m c) (aP m c) (aX m c) (aM m c) (aG m c) (aWa m c) (aWb m c) (aWo m c) b R d := by
  have hN : cfg0.N = 32 := N_0
  have hlt : 8 * b.val + R.val / 256 < cfg0.N := by omega
  generalize ht : (⟨8 * b.val + R.val / 256, hlt⟩ : Fin cfg0.N) = t
  have htv : t.val = 8 * b.val + R.val / 256 := by rw [← ht]
  have h := congrFun (Value.blocks10 m c t (fl_10 t)) (ix3 0 ⟨R.val % 256, Nat.mod_lt _ (by decide)⟩ d)
  rw [View.read_apply, Value.flushed10] at h
  obtain ⟨i0, i1, i2⟩ := ix_10 t
  refine Eq.trans (congrArg ((dats m 0 c).arrAt 10 cfg0.N) (funext fun a => Fin.ext ?_)) (h.trans ?_)
  · match a with
    | ⟨0, _⟩ => show b.val = win0_10.index t 0 * 1 + 1 * 0; rw [i0]; omega
    | ⟨1, _⟩ => show R.val = win0_10.index t 1 * 256 + 1 * (R.val % 256); rw [i1]; omega
    | ⟨2, _⟩ => show d.val = win0_10.index t 2 * 2048 + 1 * d.val; rw [i2]; omega
  · show out0_10 (iblk m c 0 t) (iblk m c 1 t) (iblk m c 2 t) (iblk m c 3 t) (iblk m c 4 t) (iblk m c 5 t) (iblk m c 6 t) (iblk m c 7 t) (iblk m c 8 t) (iblk m c 9 t) (ix3 0 ⟨R.val % 256, Nat.mod_lt _ (by decide)⟩ d) = _
    unfold out0_10
    rw [View.canon_unit_zero hz3]
    simp only [View.ld_unit_zero (S := S256x1024) hz2, View.ld_unit_zero (S := S1024x2048) hz2, View.ld_unit_zero (S := S256x2048) hz2, View.ld_unit_zero (S := S2048x2048) hz2,
      View.ld_unit_zero (S := S1x256x2048) hz3, View.ld_unit_zero (S := S1x1x2048) hz3, View.ld_unit_zero (S := S1x2048) hz2]
    have hR : (⟨b.val * 2048 + R.val, by omega⟩ : Fin 8192).val = t.val * 256 + R.val % 256 := by dsimp only; omega
    rw [pay1_apply, pay4_apply]
    simp only [z_apply m c t ⟨b.val * 2048 + R.val, by omega⟩ ⟨R.val % 256, Nat.mod_lt _ (by decide)⟩ _ hR]
    rw [blk_x m c t b R _ d (by omega) (by dsimp only; omega), blk_gt m c t b ⟨4096 + d.val, by omega⟩ d (by omega) rfl, blk_g m c t d]
    rfl

end Cert.Kernel3Ideal.Mix

end
-- ==== Proof.MixRef.lean ====
/-
  The mixer's reference read at an index.
-/
module

public import proofs.«01_k».proof.Defs
public import proofs.«01_k».proof.Proof.Gen.Reference3Ideal.Run
public import proofs.«01_k».proof.Proof.MixSpec
public import Idealize.ShloMosaic.Lib.Pointwise
public import Idealize.ShloMosaic.Lib.Tactic.ValueTie

@[expose] public section

set_option maxRecDepth 200000
set_option maxHeartbeats 1000000

noncomputable section

namespace Cert.Reference3Ideal.Mix

open Idealize.ShloMosaic Idealize.ShloMosaic.TcCoe Idealize.SL.Sem
open Cert.Reference3Ideal

variable (m : (ℓ : Loc nD τ sig) → Buf (Elt Ideal) ℓ)

theorem ref_apply (c : Dev nD) (b : Fin 4) (r : Fin 2048) (d : Fin 2048) :
    (Value.res_main_v57 m c : S4x2048x2048.Idx → EReal) (ix3 b r d)
      = MixSpec.yE (fun i k => m (c.tc.loc main_arg0) (ix2 i k)) (fun i k => m (c.tc.loc main_arg1) (ix2 i k)) (fun i k => m (c.tc.loc main_arg2) (ix2 i k))
        (fun b r d => m (c.tc.loc main_arg3) (ix3 b r d)) (fun b k => m (c.tc.loc main_arg4) (ix2 b k))
        (fun d => m (c.tc.loc main_arg5) (ix2 0 d)) (fun d k => m (c.tc.loc main_arg6) (ix3 0 d k)) (fun d k => m (c.tc.loc main_arg7) (ix3 0 d k))
        (fun d k => m (c.tc.loc main_arg8) (ix3 0 d k)) b r d := by
  unfold Value.res_main_v57
  clean_types
  pointwise
  rfl

end Cert.Reference3Ideal.Mix

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Loops
public import proofs.«01_k».proof.Proof.Gen.Kernel4.Launch
public import proofs.«01_k».proof.Proof.Gen.Kernel4.Frame
public import proofs.«01_k».proof.Proof.Gen.Kernel4Ideal.Loops
public import proofs.«01_k».proof.Proof.Gen.Kernel4Ideal.Frame
public import proofs.«01_k».proof.Proof.Gen.Reference4Ideal.Run
public import proofs.«01_k».proof.Proof.Gen.Pre_finite_attn
public import proofs.«01_k».proof.Proof.AttnBFrame
public import proofs.«01_k».proof.Proof.AttnIFrame
public import proofs.«01_k».proof.Proof.AttnPre
public import proofs.«01_k».proof.Proof.AttnRef
public import proofs.«01_k».proof.Proof.AttnValue
public import proofs.«01_k».proof.Proof.MlpValue
public import proofs.«01_k».proof.Proof.MlpRef
public import proofs.«01_k».proof.Proof.ProjValue
public import proofs.«01_k».proof.Proof.ProjRef
public import proofs.«01_k».proof.Proof.MixValue
public import proofs.«01_k».proof.Proof.MixRef
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.ShloMosaic.TcCoe Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨e0, e1, e2, e3, e4, e5⟩ := hagree c
  funext i
  rw [eq_ix3 (n0 := 4) (n1 := 2048) (n2 := 2048) i]
  refine (Cert.ReferenceIdeal.Mlp.ref_apply m' c _ _ _).trans (Eq.trans ?_ (Cert.KernelIdeal.Mlp.G8_apply m c _ _ _).symm)
  rw [e0, e1, e2, e3, e4, e5]

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  obtain ⟨e0, e1, e2, e3⟩ := hagree c
  funext i
  rw [eq_ix2 (n0 := 8192) (n1 := 8192) i]
  refine (Cert.Reference2Ideal.Proj.ref_apply m' c _ _).trans (Eq.trans ?_ (Cert.Kernel2Ideal.Proj.G5_apply m c _ _).symm)
  rw [e0, e1, e2, e3]

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  obtain ⟨e0, e1, e2, e3, e4, e5, e6, e7, e8⟩ := hagree c
  funext i
  rw [eq_ix3 (n0 := 4) (n1 := 2048) (n2 := 2048) i]
  refine (Cert.Reference3Ideal.Mix.ref_apply m' c _ _ _).trans (Eq.trans ?_ (Cert.Kernel3Ideal.Mix.final_apply m c _ _ _).symm)
  rw [e0, e1, e2, e3, e4, e5, e6, e7, e8]

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal_Reference4Ideal_pre_finite_attn : algebraic_Kernel4Ideal_Reference4Ideal_pre_finite_attn := by
  intro m ρ m' ρ' hpre hagree
  refine ⟨_, Cert.Kernel4Ideal.Attn.run_blocks m ρ, ?_⟩
  refine (θ_run Cert.Reference4Ideal.defs _ _).mono (fun _ h c => ⟨?_, (h c).2⟩) (Cert.Reference4Ideal.Value.run (F := Ideal) m' ρ')
  rw [(h c).1]
  obtain ⟨e0, e1, e2, e3, e4⟩ := hagree c
  obtain ⟨p0, p1, p2, p3⟩ := hpre c
  have hql : ∀ b r h k, AttnSpec.isR (Cert.Kernel4Ideal.Attn.aQ m c b r h k) := fun b r h k => AttnPre.isR_of _ _ p0 _
  have hqp : ∀ b r h k, AttnSpec.isR (Cert.Kernel4Ideal.Attn.aP m c b r h k) := fun b r h k => AttnPre.isR_of _ _ p1 _
  have hck : ∀ b r k, AttnSpec.isR (Cert.Kernel4Ideal.Attn.aC m c b r k) := fun b r k => AttnPre.isR_of _ _ p2 _
  have hkp : ∀ b r k, AttnSpec.isR (Cert.Kernel4Ideal.Attn.aK m c b r k) := fun b r k => AttnPre.isR_of _ _ p3 _
  have f0 : Cert.Reference4Ideal.Attn.aQ m' c = Cert.Kernel4Ideal.Attn.aQ m c := by
    funext b r h k
    exact congrFun e0 (ix4 b r h k)
  have f1 : Cert.Reference4Ideal.Attn.aP m' c = Cert.Kernel4Ideal.Attn.aP m c := by
    funext b r h k
    exact congrFun e1 (ix4 b r h k)
  have f2 : Cert.Reference4Ideal.Attn.aC m' c = Cert.Kernel4Ideal.Attn.aC m c := by
    funext b r k
    exact congrFun e2 (ix3 b r k)
  have f3 : Cert.Reference4Ideal.Attn.aK m' c = Cert.Kernel4Ideal.Attn.aK m c := by
    funext b r k
    exact congrFun e3 (ix3 b r k)
  have f4 : Cert.Reference4Ideal.Attn.aW m' c = Cert.Kernel4Ideal.Attn.aW m c := by
    funext k n
    exact congrFun e4 (ix3 0 k n)
  funext i
  rw [eq_ix3 (n0 := 4) (n1 := 2048) (n2 := 1024) i]
  refine (Cert.Reference4Ideal.Attn.ref_apply m' c _ _ _ (by rw [f0]; exact hql) (by rw [f1]; exact hqp) (by rw [f2]; exact hck) (by rw [f3]; exact hkp)).trans
    (Eq.trans ?_ (Cert.Kernel4Ideal.Attn.final_apply m c hql hqp hck hkp _ _ _).symm)
  rw [f0, f1, f2, f3, f4]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_attn.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Attn.frame m ρ, fun m ρ _ => Cert.Kernel4Ideal.Attn.frame m ρ, fun m ρ _ => Cert.Kernel4Ideal.Attn.frame m ρ,
  quiescent_Reference4Ideal, fun m ρ _ => quiescent_Reference4Ideal m ρ trivial,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (IdealRules.named_const.statement Cert.Kernel4Ideal.κ "scale" .f32 0x3DD53B95#32 (((Real.sqrt 192)⁻¹ * (Real.log 2)⁻¹ : ℝ) : EReal) rfl : preserves_Kernel4_Kernel4Ideal),
  algebraic_Kernel4Ideal_Reference4Ideal_pre_finite_attn⟩

end Cert.Proof

end
